-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_bounded [hPre_scores_bounded : Cert.Pre_scores_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_scores_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_bounded [hPre_scores_bounded : Cert.Pre_scores_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_bounded [hKernelIdeal : Cert.KernelIdeal.Facts] [hPre_scores_bounded : Cert.Pre_scores_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_bounded [hReferenceIdeal : Cert.ReferenceIdeal.Facts] [hPre_scores_bounded : Cert.Pre_scores_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7)
      ∧ r.2.mem ((c.tc : Thread Cert.KernelMix.nD Cert.KernelMix.τ).loc Cert.KernelMix.main_arg8) = m ((c.tc : Thread Cert.KernelMix.nD Cert.KernelMix.τ).loc Cert.KernelMix.main_arg8))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_scores_bounded [hKernelIdeal : Cert.KernelIdeal.Facts] [hReferenceIdeal : Cert.ReferenceIdeal.Facts] [hPre_scores_bounded : Cert.Pre_scores_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)
      ∧ m' ((c.tc : Thread Cert.ReferenceMixIdeal.nD Cert.ReferenceMixIdeal.τ).loc Cert.ReferenceMixIdeal.main_arg8) = m ((c.tc : Thread Cert.KernelMixIdeal.nD Cert.KernelMixIdeal.τ).loc Cert.KernelMixIdeal.main_arg8)) →
    ∃ (v0 : (c : Dev Cert.KernelMixIdeal.nD) → Buf (Elt Ideal) ((c.tc : Thread Cert.KernelMixIdeal.nD Cert.KernelMixIdeal.τ).loc Cert.KernelMixIdeal.main_v18_0)) (v1 : (c : Dev Cert.KernelMixIdeal.nD) → Buf (Elt Ideal) ((c.tc : Thread Cert.KernelMixIdeal.nD Cert.KernelMixIdeal.τ).loc Cert.KernelMixIdeal.main_v18_1)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v18_0) = v0 c
          ∧ r.2.mem ((c.tc : Thread Cert.KernelMixIdeal.nD Cert.KernelMixIdeal.τ).loc Cert.KernelMixIdeal.main_v18_1) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
          ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v76) = v0 c
          ∧ r.2.mem ((c.tc : Thread Cert.ReferenceMixIdeal.nD Cert.ReferenceMixIdeal.τ).loc Cert.ReferenceMixIdeal.main_v77) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7)
          ∧ r.2.mem ((c.tc : Thread Cert.ReferenceMixIdeal.nD Cert.ReferenceMixIdeal.τ).loc Cert.ReferenceMixIdeal.main_arg8) = m' ((c.tc : Thread Cert.ReferenceMixIdeal.nD Cert.ReferenceMixIdeal.τ).loc Cert.ReferenceMixIdeal.main_arg8))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v13)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v13) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v33) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelIn_KernelInIdeal : Prop :=
  IdealRules.named_const.Statement Cert.KernelInIdeal.κ "gelu_cubic" .f32 0x3D122279#32 ((80338380498831 / 2251799813685248 : ℝ) : EReal)

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v5_0)) (v1 : (c : Dev Cert.KernelInIdeal.nD) → Buf (Elt Ideal) ((c.tc : Thread Cert.KernelInIdeal.nD Cert.KernelInIdeal.τ).loc Cert.KernelInIdeal.main_v5_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v5_0) = v0 c
          ∧ r.2.mem ((c.tc : Thread Cert.KernelInIdeal.nD Cert.KernelInIdeal.τ).loc Cert.KernelInIdeal.main_v5_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v38) = v0 c
          ∧ r.2.mem ((c.tc : Thread Cert.ReferenceInIdeal.nD Cert.ReferenceInIdeal.τ).loc Cert.ReferenceInIdeal.main_v40) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelProj_KernelProjIdeal : Prop :=
  IdealRules.named_const.Statement Cert.KernelProjIdeal.κ "q_scale" .f32 0x3E0293EE#32 (((11863283 / 134217728) * (Real.log 2)⁻¹ : ℝ) : EReal)

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v4_0)) (v1 : (c : Dev Cert.KernelProjIdeal.nD) → Buf (Elt Ideal) ((c.tc : Thread Cert.KernelProjIdeal.nD Cert.KernelProjIdeal.τ).loc Cert.KernelProjIdeal.main_v4_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v4_0) = v0 c
          ∧ r.2.mem ((c.tc : Thread Cert.KernelProjIdeal.nD Cert.KernelProjIdeal.τ).loc Cert.KernelProjIdeal.main_v4_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v14) = v0 c
          ∧ r.2.mem ((c.tc : Thread Cert.ReferenceProjIdeal.nD Cert.ReferenceProjIdeal.τ).loc Cert.ReferenceProjIdeal.main_v16) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3))

def Claim : Prop :=
  ∃ (hKernel : Cert.Kernel.Facts) (hKernelIdeal : Cert.KernelIdeal.Facts) (hReferenceIdeal : Cert.ReferenceIdeal.Facts) (hKernelMix : Cert.KernelMix.Facts) (hKernelMixIdeal : Cert.KernelMixIdeal.Facts) (hReferenceMixIdeal : Cert.ReferenceMixIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelProj : Cert.KernelProj.Facts) (hKernelProjIdeal : Cert.KernelProjIdeal.Facts) (hReferenceProjIdeal : Cert.ReferenceProjIdeal.Facts) (hPre_scores_bounded : Cert.Pre_scores_bounded.Facts),
    quiescent_Kernel (hKernel := hKernel)
    ∧ quiescent_KernelIdeal (hKernelIdeal := hKernelIdeal)
    ∧ quiescent_KernelIdeal_pre_scores_bounded (hKernelIdeal := hKernelIdeal) (hPre_scores_bounded := hPre_scores_bounded)
    ∧ quiescent_ReferenceIdeal (hReferenceIdeal := hReferenceIdeal)
    ∧ quiescent_ReferenceIdeal_pre_scores_bounded (hReferenceIdeal := hReferenceIdeal) (hPre_scores_bounded := hPre_scores_bounded)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ preserves_Kernel_KernelIdeal
    ∧ algebraic_KernelIdeal_ReferenceIdeal_pre_scores_bounded (hKernelIdeal := hKernelIdeal) (hReferenceIdeal := hReferenceIdeal) (hPre_scores_bounded := hPre_scores_bounded)
    ∧ preserves_KernelMix_KernelMixIdeal
    ∧ algebraic_KernelMixIdeal_ReferenceMixIdeal (hKernelMixIdeal := hKernelMixIdeal) (hReferenceMixIdeal := hReferenceMixIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelProj_KernelProjIdeal
    ∧ algebraic_KernelProjIdeal_ReferenceProjIdeal (hKernelProjIdeal := hKernelProjIdeal) (hReferenceProjIdeal := hReferenceProjIdeal)
-- ==== Pre_scores_bounded.lean ====
abbrev S2x4096x4096 : Shape := ⟨3, ![2, 4096, 4096]⟩
abbrev S2x4096x2048 : Shape := ⟨3, ![2, 4096, 2048]⟩
abbrev S2x4096x16x128 : Shape := ⟨4, ![2, 4096, 16, 128]⟩
abbrev S2x16x4096x4096 : Shape := ⟨4, ![2, 16, 4096, 4096]⟩
abbrev S_ : Shape := ⟨0, ![]⟩

class Facts : Prop where
  slices_S2x4096x4096_S2x4096x2048_0_0_0 : S2x4096x4096.Slices ![0, 0, 0] S2x4096x2048
  shapeCasts_S2x4096x2048_S2x4096x16x128 : S2x4096x2048.ShapeCasts S2x4096x16x128
  bcast_S_S2x16x4096x4096 : S_.BroadcastsInDim S2x16x4096x4096 (![] : Fin 0 → Fin S2x16x4096x4096.rank)
  dot_S2x4096x16x128_S2x4096x16x128_S2x16x4096x4096_3_3_1_1_02_02_wf : DotDims.WF S2x4096x16x128 S2x4096x16x128 S2x16x4096x4096 [3] [3] [1] [1] [0, 2] [0, 2]

variable [Facts]

def dot_S2x4096x16x128_S2x4096x16x128_S2x16x4096x4096_3_3_1_1_02_02 : DotDims S2x4096x16x128 S2x4096x16x128 S2x16x4096x4096 where
  lhsContracting := [3]
  rhsContracting := [3]
  lhsNonContracting := [1]
  rhsNonContracting := [1]
  lhsBatch := [0, 2]
  rhsBatch := [0, 2]
  wf := dot_S2x4096x16x128_S2x4096x16x128_S2x16x4096x4096_3_3_1_1_02_02_wf
def fn {F : FTy → Type} [FloatOps F] (main_arg0 : FVec F S2x4096x4096 .f32) (main_arg1 : FVec F S2x4096x4096 .f32) : IVec S2x16x4096x4096 1 :=
  let main_v0 : FVec F S2x4096x2048 .f32 := (extractStridedSlice S2x4096x2048 ![0, 0, 0] · slices_S2x4096x4096_S2x4096x2048_0_0_0) main_arg1
  let main_v1 : FVec F S2x4096x16x128 .f32 := shapeCast S2x4096x16x128 main_v0 shapeCasts_S2x4096x2048_S2x4096x16x128
  let main_v2 : FVec F S2x4096x2048 .f32 := (extractStridedSlice S2x4096x2048 ![0, 0, 0] · slices_S2x4096x4096_S2x4096x2048_0_0_0) main_arg0
  let main_v3 : FVec F S2x4096x16x128 .f32 := shapeCast S2x4096x16x128 main_v2 shapeCasts_S2x4096x2048_S2x4096x16x128
  let main_v4 : FVec F S2x16x4096x4096 .f32 := (fun l r => Host.dotGeneral dot_S2x4096x16x128_S2x4096x16x128_S2x16x4096x4096_3_3_1_1_02_02 none l r) main_v1 main_v3
  let main_v5 : IVec S2x16x4096x4096 32 := iotaInDim S2x16x4096x4096 32 3
  let main_v6 : IVec S2x16x4096x4096 32 := iotaInDim S2x16x4096x4096 32 2
  let main_v7 : IVec S2x16x4096x4096 1 := cmpi .slt main_v5 main_v6
  let main_cst : FVec F S_ .f32 := constant S_ .f32 0x00000000#32
  let main_v8 : FVec F S2x16x4096x4096 .f32 := broadcastInDim S2x16x4096x4096 ![] bcast_S_S2x16x4096x4096 main_cst
  let main_v9 : FVec F S2x16x4096x4096 .f32 := select main_v7 main_v4 main_v8
  let main_cst_0 : FVec F S_ .f32 := constant S_ .f32 0x43FA0000#32
  let main_v10 : FVec F S2x16x4096x4096 .f32 := broadcastInDim S2x16x4096x4096 ![] bcast_S_S2x16x4096x4096 main_cst_0
  let main_v11 : IVec S2x16x4096x4096 1 := cmpf .ole main_v9 main_v10
  main_v11
-- ==== Kernel.lean ====
abbrev S2x4096x4096 : Shape := ⟨3, ![2, 4096, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S8192x4096 : Shape := ⟨2, ![8192, 4096]⟩
abbrev S8192x2048 : Shape := ⟨2, ![8192, 2048]⟩
abbrev S8192x8192 : Shape := ⟨2, ![8192, 8192]⟩
abbrev S256x1024 : Shape := ⟨2, ![256, 1024]⟩
abbrev S4096x1024 : Shape := ⟨2, ![4096, 1024]⟩
abbrev S8x256x1 : Shape := ⟨3, ![8, 256, 1]⟩
abbrev S8x256x128 : Shape := ⟨3, ![8, 256, 128]⟩
abbrev S256x128 : Shape := ⟨2, ![256, 128]⟩
abbrev S1x256x1 : Shape := ⟨3, ![1, 256, 1]⟩
abbrev S1x256x128 : Shape := ⟨3, ![1, 256, 128]⟩

abbrev nBuf : Space → Nat
  | .hbm => 29
  | .vmem => 11
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S_, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .bf16⟩
  | .hbm, ⟨14, _⟩ => ⟨S8192x4096, .f32⟩
  | .hbm, ⟨15, _⟩ => ⟨S8192x4096, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x8192, .f32⟩
  | .hbm, ⟨27, _⟩ => ⟨S8192x8192, .bf16⟩
  | .hbm, ⟨28, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S256x256, .bf16⟩
  | .local _ .vmem, ⟨7, _⟩ => ⟨S256x1024, .bf16⟩
  | .local _ .vmem, ⟨8, _⟩ => ⟨S256x1024, .bf16⟩
  | .local _ .vmem, ⟨9, _⟩ => ⟨S8x256x1, .f32⟩
  | .local _ .vmem, ⟨10, _⟩ => ⟨S8x256x128, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 16], ![false, false, false]⟩

def k0_cond1 (i : grid0.Coords) : BitVec 1 :=
  let arg2 : BitVec 32 := BitVec.ofNat 32 (i 2).val
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let c1_i32_5 : BitVec 32 := 1#32
  let v13 : BitVec 1 := Scalar.cmpi .eq v12 c1_i32_5
  let v14 : BitVec 32 := Scalar.extui v13
  let c0_i32_6 : BitVec 32 := 0#32
  let v15 : BitVec 1 := Scalar.cmpi .ne v14 c0_i32_6
  v15

def k0_mult1 (i : grid0.Coords) : BitVec 32 :=
  let arg2 : BitVec 32 := BitVec.ofNat 32 (i 2).val
  let c0_i32_55 : BitVec 32 := 0#32
  let v85 : BitVec 32 := Scalar.subi arg2 c0_i32_55
  let c256_i32 : BitVec 32 := 256#32
  let v86 : BitVec 32 := Scalar.muli v85 c256_i32
  v86
def k0_off1 (i : grid0.Coords) : Fin 2 → Nat :=
  let arg2 : BitVec 32 := BitVec.ofNat 32 (i 2).val
  let c0_i32_55 : BitVec 32 := 0#32
  let v85 : BitVec 32 := Scalar.subi arg2 c0_i32_55
  let c256_i32 : BitVec 32 := 256#32
  let v86 : BitVec 32 := Scalar.muli v85 c256_i32
  let v87 : BitVec 32 := v86
  let v109 : Index := Scalar.indexCast v87
  let c0_73 : Index := 0#32
  ![v109.toNat, 0]
def k0_off2 (i : grid0.Coords) : Fin 2 → Nat :=
  let arg2 : BitVec 32 := BitVec.ofNat 32 (i 2).val
  let c0_i32_55 : BitVec 32 := 0#32
  let v85 : BitVec 32 := Scalar.subi arg2 c0_i32_55
  let c256_i32 : BitVec 32 := 256#32
  let v86 : BitVec 32 := Scalar.muli v85 c256_i32
  let v87 : BitVec 32 := v86
  let v115 : Index := Scalar.indexCast v87
  let c128_77 : Index := 128#32
  ![v115.toNat, 128]
def k0_off3 (i : grid0.Coords) : Fin 2 → Nat :=
  let arg2 : BitVec 32 := BitVec.ofNat 32 (i 2).val
  let c0_i32_55 : BitVec 32 := 0#32
  let v85 : BitVec 32 := Scalar.subi arg2 c0_i32_55
  let c256_i32 : BitVec 32 := 256#32
  let v86 : BitVec 32 := Scalar.muli v85 c256_i32
  let v87 : BitVec 32 := v86
  let v134 : Index := Scalar.indexCast v87
  let c256_86 : Index := 256#32
  ![v134.toNat, 256]
def k0_off4 (i : grid0.Coords) : Fin 2 → Nat :=
  let arg2 : BitVec 32 := BitVec.ofNat 32 (i 2).val
  let c0_i32_55 : BitVec 32 := 0#32
  let v85 : BitVec 32 := Scalar.subi arg2 c0_i32_55
  let c256_i32 : BitVec 32 := 256#32
  let v86 : BitVec 32 := Scalar.muli v85 c256_i32
  let v87 : BitVec 32 := v86
  let v153 : Index := Scalar.indexCast v87
  let c384_95 : Index := 384#32
  ![v153.toNat, 384]
def k0_off5 (i : grid0.Coords) : Fin 2 → Nat :=
  let arg2 : BitVec 32 := BitVec.ofNat 32 (i 2).val
  let c0_i32_55 : BitVec 32 := 0#32
  let v85 : BitVec 32 := Scalar.subi arg2 c0_i32_55
  let c256_i32 : BitVec 32 := 256#32
  let v86 : BitVec 32 := Scalar.muli v85 c256_i32
  let v87 : BitVec 32 := v86
  let v172 : Index := Scalar.indexCast v87
  let c512_104 : Index := 512#32
  ![v172.toNat, 512]
def k0_off6 (i : grid0.Coords) : Fin 2 → Nat :=
  let arg2 : BitVec 32 := BitVec.ofNat 32 (i 2).val
  let c0_i32_55 : BitVec 32 := 0#32
  let v85 : BitVec 32 := Scalar.subi arg2 c0_i32_55
  let c256_i32 : BitVec 32 := 256#32
  let v86 : BitVec 32 := Scalar.muli v85 c256_i32
  let v87 : BitVec 32 := v86
  let v205 : Index := Scalar.indexCast v87
  let c640_116 : Index := 640#32
  ![v205.toNat, 640]
def k0_off7 (i : grid0.Coords) : Fin 2 → Nat :=
  let arg2 : BitVec 32 := BitVec.ofNat 32 (i 2).val
  let c0_i32_55 : BitVec 32 := 0#32
  let v85 : BitVec 32 := Scalar.subi arg2 c0_i32_55
  let c256_i32 : BitVec 32 := 256#32
  let v86 : BitVec 32 := Scalar.muli v85 c256_i32
  let v87 : BitVec 32 := v86
  let v238 : Index := Scalar.indexCast v87
  let c768_128 : Index := 768#32
  ![v238.toNat, 768]
def k0_off8 (i : grid0.Coords) : Fin 2 → Nat :=
  let arg2 : BitVec 32 := BitVec.ofNat 32 (i 2).val
  let c0_i32_55 : BitVec 32 := 0#32
  let v85 : BitVec 32 := Scalar.subi arg2 c0_i32_55
  let c256_i32 : BitVec 32 := 256#32
  let v86 : BitVec 32 := Scalar.muli v85 c256_i32
  let v87 : BitVec 32 := v86
  let v271 : Index := Scalar.indexCast v87
  let c896_140 : Index := 896#32
  ![v271.toNat, 896]
def k0_cond2 (i : grid0.Coords) : BitVec 1 :=
  let arg2 : BitVec 32 := BitVec.ofNat 32 (i 2).val
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let c2_i32 : BitVec 32 := 2#32
  let v16 : BitVec 1 := Scalar.cmpi .eq v12 c2_i32
  let v17 : BitVec 32 := Scalar.extui v16
  let c0_i32_7 : BitVec 32 := 0#32
  let v18 : BitVec 1 := Scalar.cmpi .ne v17 c0_i32_7
  v18

def k0_mult2 (i : grid0.Coords) : BitVec 32 :=
  let arg2 : BitVec 32 := BitVec.ofNat 32 (i 2).val
  let c0_i32_55 : BitVec 32 := 0#32
  let v85 : BitVec 32 := Scalar.subi arg2 c0_i32_55
  let c256_i32 : BitVec 32 := 256#32
  let v87 : BitVec 32 := Scalar.muli v85 c256_i32
  v87
def k0_mult3 (i : grid0.Coords) : BitVec 32 :=
  let arg2 : BitVec 32 := BitVec.ofNat 32 (i 2).val
  let c1_i32_56 : BitVec 32 := 1#32
  let v86 : BitVec 32 := Scalar.subi arg2 c1_i32_56
  let c256_i32_57 : BitVec 32 := 256#32
  let v89 : BitVec 32 := Scalar.muli v86 c256_i32_57
  v89
def k0_off9 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v87 : BitVec 32 := Scalar.muli v85 c256_i32
  let v88 : BitVec 32 := v87
  let v112 : Index := Scalar.indexCast v88
  let c0_75 : Index := 0#32
  ![v112.toNat, 0]
def k0_off10 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v87 : BitVec 32 := Scalar.muli v85 c256_i32
  let v88 : BitVec 32 := v87
  let v118 : Index := Scalar.indexCast v88
  let c128_79 : Index := 128#32
  ![v118.toNat, 128]
def k0_off11 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v87 : BitVec 32 := Scalar.muli v85 c256_i32
  let v88 : BitVec 32 := v87
  let v137 : Index := Scalar.indexCast v88
  let c256_88 : Index := 256#32
  ![v137.toNat, 256]
def k0_off12 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v87 : BitVec 32 := Scalar.muli v85 c256_i32
  let v88 : BitVec 32 := v87
  let v156 : Index := Scalar.indexCast v88
  let c384_97 : Index := 384#32
  ![v156.toNat, 384]
def k0_off13 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v87 : BitVec 32 := Scalar.muli v85 c256_i32
  let v88 : BitVec 32 := v87
  let v175 : Index := Scalar.indexCast v88
  let c512_106 : Index := 512#32
  ![v175.toNat, 512]
def k0_off14 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v87 : BitVec 32 := Scalar.muli v85 c256_i32
  let v88 : BitVec 32 := v87
  let v208 : Index := Scalar.indexCast v88
  let c640_118 : Index := 640#32
  ![v208.toNat, 640]
def k0_off15 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v87 : BitVec 32 := Scalar.muli v85 c256_i32
  let v88 : BitVec 32 := v87
  let v241 : Index := Scalar.indexCast v88
  let c768_130 : Index := 768#32
  ![v241.toNat, 768]
def k0_off16 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v87 : BitVec 32 := Scalar.muli v85 c256_i32
  let v88 : BitVec 32 := v87
  let v274 : Index := Scalar.indexCast v88
  let c896_142 : Index := 896#32
  ![v274.toNat, 896]
def k0_cond3 (i : grid0.Coords) : BitVec 1 :=
  let arg2 : BitVec 32 := BitVec.ofNat 32 (i 2).val
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let c3_i32 : BitVec 32 := 3#32
  let v19 : BitVec 1 := Scalar.cmpi .eq v12 c3_i32
  let v20 : BitVec 32 := Scalar.extui v19
  let c0_i32_8 : BitVec 32 := 0#32
  let v21 : BitVec 1 := Scalar.cmpi .ne v20 c0_i32_8
  v21

def k0_mult4 (i : grid0.Coords) : BitVec 32 :=
  let arg2 : BitVec 32 := BitVec.ofNat 32 (i 2).val
  let c0_i32_55 : BitVec 32 := 0#32
  let v85 : BitVec 32 := Scalar.subi arg2 c0_i32_55
  let c256_i32 : BitVec 32 := 256#32
  let v88 : BitVec 32 := Scalar.muli v85 c256_i32
  v88
def k0_mult5 (i : grid0.Coords) : BitVec 32 :=
  let arg2 : BitVec 32 := BitVec.ofNat 32 (i 2).val
  let c1_i32_56 : BitVec 32 := 1#32
  let v86 : BitVec 32 := Scalar.subi arg2 c1_i32_56
  let c256_i32_58 : BitVec 32 := 256#32
  let v90 : BitVec 32 := Scalar.muli v86 c256_i32_58
  v90
def k0_mult6 (i : grid0.Coords) : BitVec 32 :=
  let arg2 : BitVec 32 := BitVec.ofNat 32 (i 2).val
  let c2_i32_57 : BitVec 32 := 2#32
  let v87 : BitVec 32 := Scalar.subi arg2 c2_i32_57
  let c256_i32_59 : BitVec 32 := 256#32
  let v92 : BitVec 32 := Scalar.muli v87 c256_i32_59
  v92
def k0_off17 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v88 : BitVec 32 := Scalar.muli v85 c256_i32
  let v89 : BitVec 32 := v88
  let v115 : Index := Scalar.indexCast v89
  let c0_77 : Index := 0#32
  ![v115.toNat, 0]
def k0_off18 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v88 : BitVec 32 := Scalar.muli v85 c256_i32
  let v89 : BitVec 32 := v88
  let v121 : Index := Scalar.indexCast v89
  let c128_81 : Index := 128#32
  ![v121.toNat, 128]
def k0_off19 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v88 : BitVec 32 := Scalar.muli v85 c256_i32
  let v89 : BitVec 32 := v88
  let v140 : Index := Scalar.indexCast v89
  let c256_90 : Index := 256#32
  ![v140.toNat, 256]
def k0_off20 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v88 : BitVec 32 := Scalar.muli v85 c256_i32
  let v89 : BitVec 32 := v88
  let v159 : Index := Scalar.indexCast v89
  let c384_99 : Index := 384#32
  ![v159.toNat, 384]
def k0_off21 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v88 : BitVec 32 := Scalar.muli v85 c256_i32
  let v89 : BitVec 32 := v88
  let v178 : Index := Scalar.indexCast v89
  let c512_108 : Index := 512#32
  ![v178.toNat, 512]
def k0_off22 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v88 : BitVec 32 := Scalar.muli v85 c256_i32
  let v89 : BitVec 32 := v88
  let v211 : Index := Scalar.indexCast v89
  let c640_120 : Index := 640#32
  ![v211.toNat, 640]
def k0_off23 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v88 : BitVec 32 := Scalar.muli v85 c256_i32
  let v89 : BitVec 32 := v88
  let v244 : Index := Scalar.indexCast v89
  let c768_132 : Index := 768#32
  ![v244.toNat, 768]
def k0_off24 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v88 : BitVec 32 := Scalar.muli v85 c256_i32
  let v89 : BitVec 32 := v88
  let v277 : Index := Scalar.indexCast v89
  let c896_144 : Index := 896#32
  ![v277.toNat, 896]
def k0_cond4 (i : grid0.Coords) : BitVec 1 :=
  let arg2 : BitVec 32 := BitVec.ofNat 32 (i 2).val
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let c4_i32_9 : BitVec 32 := 4#32
  let v22 : BitVec 1 := Scalar.cmpi .eq v12 c4_i32_9
  let v23 : BitVec 32 := Scalar.extui v22
  let c0_i32_10 : BitVec 32 := 0#32
  let v24 : BitVec 1 := Scalar.cmpi .ne v23 c0_i32_10
  v24

def k0_mult7 (i : grid0.Coords) : BitVec 32 :=
  let arg2 : BitVec 32 := BitVec.ofNat 32 (i 2).val
  let c0_i32_55 : BitVec 32 := 0#32
  let v85 : BitVec 32 := Scalar.subi arg2 c0_i32_55
  let c256_i32 : BitVec 32 := 256#32
  let v89 : BitVec 32 := Scalar.muli v85 c256_i32
  v89
def k0_mult8 (i : grid0.Coords) : BitVec 32 :=
  let arg2 : BitVec 32 := BitVec.ofNat 32 (i 2).val
  let c1_i32_56 : BitVec 32 := 1#32
  let v86 : BitVec 32 := Scalar.subi arg2 c1_i32_56
  let c256_i32_59 : BitVec 32 := 256#32
  let v91 : BitVec 32 := Scalar.muli v86 c256_i32_59
  v91
def k0_mult9 (i : grid0.Coords) : BitVec 32 :=
  let arg2 : BitVec 32 := BitVec.ofNat 32 (i 2).val
  let c2_i32_57 : BitVec 32 := 2#32
  let v87 : BitVec 32 := Scalar.subi arg2 c2_i32_57
  let c256_i32_60 : BitVec 32 := 256#32
  let v93 : BitVec 32 := Scalar.muli v87 c256_i32_60
  v93
def k0_mult10 (i : grid0.Coords) : BitVec 32 :=
  let arg2 : BitVec 32 := BitVec.ofNat 32 (i 2).val
  let c3_i32_58 : BitVec 32 := 3#32
  let v88 : BitVec 32 := Scalar.subi arg2 c3_i32_58
  let c256_i32_61 : BitVec 32 := 256#32
  let v95 : BitVec 32 := Scalar.muli v88 c256_i32_61
  v95
def k0_off25 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v89 : BitVec 32 := Scalar.muli v85 c256_i32
  let v90 : BitVec 32 := v89
  let v118 : Index := Scalar.indexCast v90
  let c0_79 : Index := 0#32
  ![v118.toNat, 0]
def k0_off26 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v89 : BitVec 32 := Scalar.muli v85 c256_i32
  let v90 : BitVec 32 := v89
  let v124 : Index := Scalar.indexCast v90
  let c128_83 : Index := 128#32
  ![v124.toNat, 128]
def k0_off27 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v89 : BitVec 32 := Scalar.muli v85 c256_i32
  let v90 : BitVec 32 := v89
  let v143 : Index := Scalar.indexCast v90
  let c256_92 : Index := 256#32
  ![v143.toNat, 256]
def k0_off28 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v89 : BitVec 32 := Scalar.muli v85 c256_i32
  let v90 : BitVec 32 := v89
  let v162 : Index := Scalar.indexCast v90
  let c384_101 : Index := 384#32
  ![v162.toNat, 384]
def k0_off29 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v89 : BitVec 32 := Scalar.muli v85 c256_i32
  let v90 : BitVec 32 := v89
  let v181 : Index := Scalar.indexCast v90
  let c512_110 : Index := 512#32
  ![v181.toNat, 512]
def k0_off30 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v89 : BitVec 32 := Scalar.muli v85 c256_i32
  let v90 : BitVec 32 := v89
  let v214 : Index := Scalar.indexCast v90
  let c640_122 : Index := 640#32
  ![v214.toNat, 640]
def k0_off31 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v89 : BitVec 32 := Scalar.muli v85 c256_i32
  let v90 : BitVec 32 := v89
  let v247 : Index := Scalar.indexCast v90
  let c768_134 : Index := 768#32
  ![v247.toNat, 768]
def k0_off32 (i : grid0.Coords) (c0_i32_55 : BitVec 32) : Fin 2 → Nat :=
  let arg2 : BitVec 32 := BitVec.ofNat 32 (i 2).val
  let v85 : BitVec 32 := Scalar.subi arg2 c0_i32_55
  let c256_i32 : BitVec 32 := 256#32
  let v89 : BitVec 32 := Scalar.muli v85 c256_i32
  let v90 : BitVec 32 := v89
  let v280 : Index := Scalar.indexCast v90
  let c896_146 : Index := 896#32
  ![v280.toNat, 896]
@[reducible] def k0_t1_loop (i : grid0.Coords) : Scf.Loop 32 :=
  let c0_i32_25 : BitVec 32 := 0#32
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_27 : BitVec 32 := 1#32
  ⟨c0_i32_25, v52, c1_i32_27⟩
def k0_mult11 (i : grid0.Coords) (k0_t1 : Fin (k0_t1_loop i).trips) : BitVec 32 :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c1_i32_27 : BitVec 32 := 1#32
  let arg10 : BitVec 32 := Scf.iv c0_i32_25 c1_i32_27 k0_t1
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let c0_i32_57 : BitVec 32 := 0#32
  let v90 : BitVec 32 := Scalar.subi v89 c0_i32_57
  let c256_i32 : BitVec 32 := 256#32
  let v103 : BitVec 32 := Scalar.muli v90 c256_i32
  v103
def k0_mult12 (i : grid0.Coords) (k0_t1 : Fin (k0_t1_loop i).trips) : BitVec 32 :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_58 : BitVec 32 := 1#32
  let v91 : BitVec 32 := Scalar.subi v26 c1_i32_58
  let c4_i32_59 : BitVec 32 := 4#32
  let c0_i32_24 : BitVec 32 := 0#32
  let c0_i32_25 : BitVec 32 := 0#32
  let c1_i32_27 : BitVec 32 := 1#32
  let arg10 : BitVec 32 := Scf.iv c0_i32_25 c1_i32_27 k0_t1
  let c1_i32_23 : BitVec 32 := 1#32
  let v85 : BitVec 32 := Scalar.muli arg10 c1_i32_23
  let v86 : BitVec 32 := Scalar.addi c0_i32_24 v85
  let v92 : BitVec 32 := Scalar.muli c4_i32_59 v86
  let v93 : BitVec 32 := Scalar.subi v91 v92
  let c1_i32_60 : BitVec 32 := 1#32
  let v94 : BitVec 32 := Scalar.subi v93 c1_i32_60
  let c256_i32_67 : BitVec 32 := 256#32
  let v105 : BitVec 32 := Scalar.muli v94 c256_i32_67
  v105
def k0_mult13 (i : grid0.Coords) (k0_t1 : Fin (k0_t1_loop i).trips) : BitVec 32 :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_61 : BitVec 32 := 1#32
  let v95 : BitVec 32 := Scalar.subi v26 c1_i32_61
  let c4_i32_62 : BitVec 32 := 4#32
  let c0_i32_24 : BitVec 32 := 0#32
  let c0_i32_25 : BitVec 32 := 0#32
  let c1_i32_27 : BitVec 32 := 1#32
  let arg10 : BitVec 32 := Scf.iv c0_i32_25 c1_i32_27 k0_t1
  let c1_i32_23 : BitVec 32 := 1#32
  let v85 : BitVec 32 := Scalar.muli arg10 c1_i32_23
  let v86 : BitVec 32 := Scalar.addi c0_i32_24 v85
  let v96 : BitVec 32 := Scalar.muli c4_i32_62 v86
  let v97 : BitVec 32 := Scalar.subi v95 v96
  let c2_i32_63 : BitVec 32 := 2#32
  let v98 : BitVec 32 := Scalar.subi v97 c2_i32_63
  let c256_i32_68 : BitVec 32 := 256#32
  let v107 : BitVec 32 := Scalar.muli v98 c256_i32_68
  v107
def k0_mult14 (i : grid0.Coords) (k0_t1 : Fin (k0_t1_loop i).trips) : BitVec 32 :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_64 : BitVec 32 := 1#32
  let v99 : BitVec 32 := Scalar.subi v26 c1_i32_64
  let c4_i32_65 : BitVec 32 := 4#32
  let c0_i32_24 : BitVec 32 := 0#32
  let c0_i32_25 : BitVec 32 := 0#32
  let c1_i32_27 : BitVec 32 := 1#32
  let arg10 : BitVec 32 := Scf.iv c0_i32_25 c1_i32_27 k0_t1
  let c1_i32_23 : BitVec 32 := 1#32
  let v85 : BitVec 32 := Scalar.muli arg10 c1_i32_23
  let v86 : BitVec 32 := Scalar.addi c0_i32_24 v85
  let v100 : BitVec 32 := Scalar.muli c4_i32_65 v86
  let v101 : BitVec 32 := Scalar.subi v99 v100
  let c3_i32_66 : BitVec 32 := 3#32
  let v102 : BitVec 32 := Scalar.subi v101 c3_i32_66
  let c256_i32_69 : BitVec 32 := 256#32
  let v109 : BitVec 32 := Scalar.muli v102 c256_i32_69
  v109
def k0_off33 (i : grid0.Coords) (k0_t1 : Fin (k0_t1_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c1_i32_27 : BitVec 32 := 1#32
  let arg10 : BitVec 32 := Scf.iv c0_i32_25 c1_i32_27 k0_t1
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v145 : Index := Scalar.indexCast v104
  let c0_120 : Index := 0#32
  ![v145.toNat, 0]
def k0_off34 (i : grid0.Coords) (k0_t1 : Fin (k0_t1_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c1_i32_27 : BitVec 32 := 1#32
  let arg10 : BitVec 32 := Scf.iv c0_i32_25 c1_i32_27 k0_t1
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v151 : Index := Scalar.indexCast v104
  let c128_123 : Index := 128#32
  ![v151.toNat, 128]
def k0_off35 (i : grid0.Coords) (k0_t1 : Fin (k0_t1_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c1_i32_27 : BitVec 32 := 1#32
  let arg10 : BitVec 32 := Scf.iv c0_i32_25 c1_i32_27 k0_t1
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v168 : Index := Scalar.indexCast v104
  let c256_131 : Index := 256#32
  ![v168.toNat, 256]
def k0_off36 (i : grid0.Coords) (k0_t1 : Fin (k0_t1_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c1_i32_27 : BitVec 32 := 1#32
  let arg10 : BitVec 32 := Scf.iv c0_i32_25 c1_i32_27 k0_t1
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v185 : Index := Scalar.indexCast v104
  let c384_139 : Index := 384#32
  ![v185.toNat, 384]
def k0_off37 (i : grid0.Coords) (k0_t1 : Fin (k0_t1_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c1_i32_27 : BitVec 32 := 1#32
  let arg10 : BitVec 32 := Scf.iv c0_i32_25 c1_i32_27 k0_t1
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v202 : Index := Scalar.indexCast v104
  let c512_147 : Index := 512#32
  ![v202.toNat, 512]
def k0_off38 (i : grid0.Coords) (k0_t1 : Fin (k0_t1_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c1_i32_27 : BitVec 32 := 1#32
  let arg10 : BitVec 32 := Scf.iv c0_i32_25 c1_i32_27 k0_t1
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v231 : Index := Scalar.indexCast v104
  let c640_157 : Index := 640#32
  ![v231.toNat, 640]
def k0_off39 (i : grid0.Coords) (k0_t1 : Fin (k0_t1_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c1_i32_27 : BitVec 32 := 1#32
  let arg10 : BitVec 32 := Scf.iv c0_i32_25 c1_i32_27 k0_t1
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v260 : Index := Scalar.indexCast v104
  let c768_167 : Index := 768#32
  ![v260.toNat, 768]
def k0_off40 (i : grid0.Coords) (k0_t1 : Fin (k0_t1_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c1_i32_27 : BitVec 32 := 1#32
  let arg10 : BitVec 32 := Scf.iv c0_i32_25 c1_i32_27 k0_t1
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v289 : Index := Scalar.indexCast v104
  let c896_177 : Index := 896#32
  ![v289.toNat, 896]
@[reducible] def k0_t2_loop (i : grid0.Coords) : Scf.Loop 32 :=
  let c0_i32_25 : BitVec 32 := 0#32
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let v49 : BitVec 32 := Scalar.addi c0_i32_25 v48
  let c1_i32_28 : BitVec 32 := 1#32
  ⟨v52, v49, c1_i32_28⟩
def k0_mult15 (i : grid0.Coords) (k0_t2 : Fin (k0_t2_loop i).trips) : BitVec 32 :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg10 : BitVec 32 := Scf.iv v52 c1_i32_28 k0_t2
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let c0_i32_57 : BitVec 32 := 0#32
  let v90 : BitVec 32 := Scalar.subi v89 c0_i32_57
  let c256_i32 : BitVec 32 := 256#32
  let v103 : BitVec 32 := Scalar.muli v90 c256_i32
  v103
def k0_mult16 (i : grid0.Coords) (k0_t2 : Fin (k0_t2_loop i).trips) : BitVec 32 :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_58 : BitVec 32 := 1#32
  let v91 : BitVec 32 := Scalar.subi v26 c1_i32_58
  let c4_i32_59 : BitVec 32 := 4#32
  let c0_i32_24 : BitVec 32 := 0#32
  let c0_i32_25 : BitVec 32 := 0#32
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg10 : BitVec 32 := Scf.iv v52 c1_i32_28 k0_t2
  let c1_i32_23 : BitVec 32 := 1#32
  let v85 : BitVec 32 := Scalar.muli arg10 c1_i32_23
  let v86 : BitVec 32 := Scalar.addi c0_i32_24 v85
  let v92 : BitVec 32 := Scalar.muli c4_i32_59 v86
  let v93 : BitVec 32 := Scalar.subi v91 v92
  let c1_i32_60 : BitVec 32 := 1#32
  let v94 : BitVec 32 := Scalar.subi v93 c1_i32_60
  let c256_i32_67 : BitVec 32 := 256#32
  let v105 : BitVec 32 := Scalar.muli v94 c256_i32_67
  v105
def k0_mult17 (i : grid0.Coords) (k0_t2 : Fin (k0_t2_loop i).trips) : BitVec 32 :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_61 : BitVec 32 := 1#32
  let v95 : BitVec 32 := Scalar.subi v26 c1_i32_61
  let c4_i32_62 : BitVec 32 := 4#32
  let c0_i32_24 : BitVec 32 := 0#32
  let c0_i32_25 : BitVec 32 := 0#32
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg10 : BitVec 32 := Scf.iv v52 c1_i32_28 k0_t2
  let c1_i32_23 : BitVec 32 := 1#32
  let v85 : BitVec 32 := Scalar.muli arg10 c1_i32_23
  let v86 : BitVec 32 := Scalar.addi c0_i32_24 v85
  let v96 : BitVec 32 := Scalar.muli c4_i32_62 v86
  let v97 : BitVec 32 := Scalar.subi v95 v96
  let c2_i32_63 : BitVec 32 := 2#32
  let v98 : BitVec 32 := Scalar.subi v97 c2_i32_63
  let c256_i32_68 : BitVec 32 := 256#32
  let v107 : BitVec 32 := Scalar.muli v98 c256_i32_68
  v107
def k0_mult18 (i : grid0.Coords) (k0_t2 : Fin (k0_t2_loop i).trips) : BitVec 32 :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_64 : BitVec 32 := 1#32
  let v99 : BitVec 32 := Scalar.subi v26 c1_i32_64
  let c4_i32_65 : BitVec 32 := 4#32
  let c0_i32_24 : BitVec 32 := 0#32
  let c0_i32_25 : BitVec 32 := 0#32
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg10 : BitVec 32 := Scf.iv v52 c1_i32_28 k0_t2
  let c1_i32_23 : BitVec 32 := 1#32
  let v85 : BitVec 32 := Scalar.muli arg10 c1_i32_23
  let v86 : BitVec 32 := Scalar.addi c0_i32_24 v85
  let v100 : BitVec 32 := Scalar.muli c4_i32_65 v86
  let v101 : BitVec 32 := Scalar.subi v99 v100
  let c3_i32_66 : BitVec 32 := 3#32
  let v102 : BitVec 32 := Scalar.subi v101 c3_i32_66
  let c256_i32_69 : BitVec 32 := 256#32
  let v109 : BitVec 32 := Scalar.muli v102 c256_i32_69
  v109
def k0_off41 (i : grid0.Coords) (k0_t2 : Fin (k0_t2_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg10 : BitVec 32 := Scf.iv v52 c1_i32_28 k0_t2
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v145 : Index := Scalar.indexCast v104
  let c0_120 : Index := 0#32
  ![v145.toNat, 0]
def k0_off42 (i : grid0.Coords) (k0_t2 : Fin (k0_t2_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg10 : BitVec 32 := Scf.iv v52 c1_i32_28 k0_t2
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v151 : Index := Scalar.indexCast v104
  let c128_123 : Index := 128#32
  ![v151.toNat, 128]
def k0_off43 (i : grid0.Coords) (k0_t2 : Fin (k0_t2_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg10 : BitVec 32 := Scf.iv v52 c1_i32_28 k0_t2
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v168 : Index := Scalar.indexCast v104
  let c256_131 : Index := 256#32
  ![v168.toNat, 256]
def k0_off44 (i : grid0.Coords) (k0_t2 : Fin (k0_t2_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg10 : BitVec 32 := Scf.iv v52 c1_i32_28 k0_t2
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v185 : Index := Scalar.indexCast v104
  let c384_139 : Index := 384#32
  ![v185.toNat, 384]
def k0_off45 (i : grid0.Coords) (k0_t2 : Fin (k0_t2_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg10 : BitVec 32 := Scf.iv v52 c1_i32_28 k0_t2
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v202 : Index := Scalar.indexCast v104
  let c512_147 : Index := 512#32
  ![v202.toNat, 512]
def k0_off46 (i : grid0.Coords) (k0_t2 : Fin (k0_t2_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg10 : BitVec 32 := Scf.iv v52 c1_i32_28 k0_t2
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v231 : Index := Scalar.indexCast v104
  let c640_157 : Index := 640#32
  ![v231.toNat, 640]
def k0_off47 (i : grid0.Coords) (k0_t2 : Fin (k0_t2_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg10 : BitVec 32 := Scf.iv v52 c1_i32_28 k0_t2
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v260 : Index := Scalar.indexCast v104
  let c768_167 : Index := 768#32
  ![v260.toNat, 768]
def k0_off48 (i : grid0.Coords) (k0_t2 : Fin (k0_t2_loop i).trips) (c0_i32_57 : BitVec 32) : Fin 2 → Nat :=
  let arg2 : BitVec 32 := BitVec.ofNat 32 (i 2).val
  let c1_i32_11 : BitVec 32 := 1#32
  let v25 : BitVec 32 := Scalar.addi arg2 c1_i32_11
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg2 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi v11 c1_i32_4
  let v26 : BitVec 32 := Scalar.subi v25 v12
  let c1_i32_55 : BitVec 32 := 1#32
  let v87 : BitVec 32 := Scalar.subi v26 c1_i32_55
  let c4_i32_56 : BitVec 32 := 4#32
  let c0_i32_24 : BitVec 32 := 0#32
  let c0_i32_25 : BitVec 32 := 0#32
  let c0_i32_13 : BitVec 32 := 0#32
  let v28 : BitVec 1 := Scalar.cmpi .sgt v26 c0_i32_13
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c4_i32_12 : BitVec 32 := 4#32
  let c0_i32_15 : BitVec 32 := 0#32
  let v33 : BitVec 1 := Scalar.cmpi .sgt c4_i32_12 c0_i32_15
  let v34 : BitVec 32 := Scalar.extui v33
  let c0_i32_16 : BitVec 32 := 0#32
  let v35 : BitVec 1 := Scalar.cmpi .slt c4_i32_12 c0_i32_16
  let v36 : BitVec 32 := Scalar.extui v35
  let v37 : BitVec 32 := Scalar.subi v34 v36
  let v38 : BitVec 1 := Scalar.cmpi .ne v32 v37
  let v39 : BitVec 32 := Scalar.remsi v26 c4_i32_12
  let c0_i32_17 : BitVec 32 := 0#32
  let v40 : BitVec 1 := Scalar.cmpi .ne v39 c0_i32_17
  let v41 : BitVec 1 := Scalar.andi v38 v40
  let v27 : BitVec 32 := Scalar.divsi v26 c4_i32_12
  let c1_i32_18 : BitVec 32 := 1#32
  let v42 : BitVec 32 := Scalar.subi v27 c1_i32_18
  let v43 : BitVec 32 := Scalar.select v41 v42 v27
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg10 : BitVec 32 := Scf.iv v52 c1_i32_28 k0_t2
  let c1_i32_23 : BitVec 32 := 1#32
  let v85 : BitVec 32 := Scalar.muli arg10 c1_i32_23
  let v86 : BitVec 32 := Scalar.addi c0_i32_24 v85
  let v88 : BitVec 32 := Scalar.muli c4_i32_56 v86
  let v89 : BitVec 32 := Scalar.subi v87 v88
  let v90 : BitVec 32 := Scalar.subi v89 c0_i32_57
  let c256_i32 : BitVec 32 := 256#32
  let v103 : BitVec 32 := Scalar.muli v90 c256_i32
  let v104 : BitVec 32 := v103
  let v289 : Index := Scalar.indexCast v104
  let c896_177 : Index := 896#32
  ![v289.toNat, 896]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S2x4096x4096 : Shape := ⟨3, ![2, 4096, 4096]⟩
abbrev S2x4096x2048 : Shape := ⟨3, ![2, 4096, 2048]⟩
abbrev S2x4096x16x128 : Shape := ⟨4, ![2, 4096, 16, 128]⟩
abbrev S2x16x4096x128 : Shape := ⟨4, ![2, 16, 4096, 128]⟩
abbrev S2x16x4096x4096 : Shape := ⟨4, ![2, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8192x2048 : Shape := ⟨2, ![8192, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S2x4096x2048, .f32⟩
  | .hbm, ⟨3, _⟩ => ⟨S2x4096x2048, .f32⟩
  | .hbm, ⟨4, _⟩ => ⟨S2x4096x16x128, .f32⟩
  | .hbm, ⟨5, _⟩ => ⟨S2x16x4096x128, .f32⟩
  | .hbm, ⟨6, _⟩ => ⟨S2x4096x16x128, .f32⟩
  | .hbm, ⟨7, _⟩ => ⟨S2x16x4096x128, .f32⟩
  | .hbm, ⟨8, _⟩ => ⟨S2x4096x2048, .f32⟩
  | .hbm, ⟨9, _⟩ => ⟨S2x4096x2048, .f32⟩
  | .hbm, ⟨10, _⟩ => ⟨S2x4096x16x128, .f32⟩
  | .hbm, ⟨11, _⟩ => ⟨S2x16x4096x128, .f32⟩
  | .hbm, ⟨12, _⟩ => ⟨S2x16x4096x4096, .f32⟩
  | .hbm, ⟨13, _⟩ => ⟨S_, .f32⟩
  | .hbm, ⟨14, _⟩ => ⟨S2x16x4096x4096, .f32⟩
  | .hbm, ⟨15, _⟩ => ⟨S2x16x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S2x16x4096x4096, .f32⟩
  | .hbm, ⟨25, _⟩ => ⟨S2x16x4096x4096, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .i1⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S_, .f32⟩
  | .hbm, ⟨39, _⟩ => ⟨S_, .f32⟩
  | .hbm, ⟨40, _⟩ => ⟨S2x16x4096x4096, .i1⟩
  | .hbm, ⟨41, _⟩ => ⟨S2x16x4096x4096, .f32⟩
  | .hbm, ⟨42, _⟩ => ⟨S2x16x4096x4096, .f32⟩
  | .hbm, ⟨43, _⟩ => ⟨S_, .f32⟩
  | .hbm, ⟨44, _⟩ => ⟨S_, .f32⟩
  | .hbm, ⟨45, _⟩ => ⟨S2x16x4096x4096, .f32⟩
  | .hbm, ⟨46, _⟩ => ⟨S2x16x4096x4096, .f32⟩
  | .hbm, ⟨47, _⟩ => ⟨S2x16x4096x4096, .f32⟩
  | .hbm, ⟨48, _⟩ => ⟨S_, .f32⟩
  | .hbm, ⟨49, _⟩ => ⟨S2x16x4096x4096, .f32⟩
  | .hbm, ⟨50, _⟩ => ⟨S2x16x4096x4096, .f32⟩
  | .hbm, ⟨51, _⟩ => ⟨S2x16x4096x4096, .f32⟩
  | .hbm, ⟨52, _⟩ => ⟨S2x16x4096x4096, .f32⟩
  | .hbm, ⟨53, _⟩ => ⟨S2x16x4096x4096, .i1⟩
  | .hbm, ⟨54, _⟩ => ⟨S2x16x4096x4096, .f32⟩
  | .hbm, ⟨55, _⟩ => ⟨S2x16x4096x4096, .f32⟩
  | .hbm, ⟨56, _⟩ => ⟨S2x16x4096x4096, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S2x16x4096x4096, .f32⟩
  | .hbm, ⟨65, _⟩ => ⟨S_, .f32⟩
  | .hbm, ⟨66, _⟩ => ⟨S_, .f32⟩
  | .hbm, ⟨67, _⟩ => ⟨S2x16x4096x4096, .i1⟩
  | .hbm, ⟨68, _⟩ => ⟨S2x16x4096x4096, .f32⟩
  | .hbm, ⟨69, _⟩ => ⟨S2x16x4096x4096, .f32⟩
  | .hbm, ⟨70, _⟩ => ⟨S2x16x4096x128, .f32⟩
  | .hbm, ⟨71, _⟩ => ⟨S2x4096x16x128, .f32⟩
  | .hbm, ⟨72, _⟩ => ⟨S8192x2048, .f32⟩
  | .hbm, ⟨73, _⟩ => ⟨S8192x2048, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v22 : Ref sig .tc := ⟨.hbm, 42, rfl⟩
abbrev main_call2_cst : Ref sig .tc := ⟨.hbm, 43, rfl⟩
abbrev main_call2_v0 : Ref sig .tc := ⟨.hbm, 44, rfl⟩
abbrev main_v23 : Ref sig .tc := ⟨.hbm, 45, rfl⟩
abbrev main_v24 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩

abbrev nD : Nat := 1
abbrev τ : Topo := Topo.v7x

variable {F : FTy → Type} [FloatOps F]
-- ==== KernelMix.lean ====
abbrev S2x4096x12288 : Shape := ⟨3, ![2, 4096, 12288]⟩
abbrev S2x4096x2048 : Shape := ⟨3, ![2, 4096, 2048]⟩
abbrev S1x4096 : Shape := ⟨2, ![1, 4096]⟩
abbrev S1x8x128x128 : Shape := ⟨4, ![1, 8, 128, 128]⟩
abbrev S1x8x128 : Shape := ⟨3, ![1, 8, 128]⟩
abbrev S1x4096x2048 : Shape := ⟨3, ![1, 4096, 2048]⟩
abbrev S2x2048 : Shape := ⟨2, ![2, 2048]⟩
abbrev S8192x12288 : Shape := ⟨2, ![8192, 12288]⟩
abbrev S8192x2048 : Shape := ⟨2, ![8192, 2048]⟩
abbrev S4096 : Shape := ⟨1, ![4096]⟩
abbrev S8x128x128 : Shape := ⟨3, ![8, 128, 128]⟩
abbrev S8x128 : Shape := ⟨2, ![8, 128]⟩
abbrev S8x128x1 : Shape := ⟨3, ![8, 128, 1]⟩
abbrev S4096x2048 : Shape := ⟨2, ![4096, 2048]⟩
abbrev S1x2048 : Shape := ⟨2, ![1, 2048]⟩
abbrev S2048 : Shape := ⟨1, ![2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128x512 : Shape := ⟨2, ![128, 512]⟩

abbrev nBuf : Space → Nat
  | .hbm => 29
  | .vmem => 20
  | .smem => 0
  | _ => 0

abbrev bufTy : (tb : Table) → Fin (tcTables nBuf tb) → BufTy
  | .hbm, ⟨0, _⟩ => ⟨S2x4096x12288, .f32⟩
  | .hbm, ⟨1, _⟩ => ⟨S2x4096x2048, .f32⟩
  | .hbm, ⟨2, _⟩ => ⟨S1x4096, .f32⟩
  | .hbm, ⟨3, _⟩ => ⟨S1x4096, .f32⟩
  | .hbm, ⟨4, _⟩ => ⟨S1x8x128x128, .f32⟩
  | .hbm, ⟨5, _⟩ => ⟨S1x8x128, .f32⟩
  | .hbm, ⟨6, _⟩ => ⟨S1x4096x2048, .f32⟩
  | .hbm, ⟨7, _⟩ => ⟨S2x2048, .f32⟩
  | .hbm, ⟨8, _⟩ => ⟨S2x2048, .f32⟩
  | .hbm, ⟨9, _⟩ => ⟨S8192x12288, .f32⟩
  | .hbm, ⟨10, _⟩ => ⟨S8192x12288, .bf16⟩
  | .hbm, ⟨11, _⟩ => ⟨S8192x2048, .f32⟩
  | .hbm, ⟨12, _⟩ => ⟨S4096, .f32⟩
  | .hbm, ⟨13, _⟩ => ⟨S1x4096, .f32⟩
  | .hbm, ⟨14, _⟩ => ⟨S4096, .f32⟩
  | .hbm, ⟨15, _⟩ => ⟨S1x4096, .f32⟩
  | .hbm, ⟨16, _⟩ => ⟨S8x128x128, .f32⟩
  | .hbm, ⟨17, _⟩ => ⟨S8x128, .f32⟩
  | .hbm, ⟨18, _⟩ => ⟨S8x128x1, .f32⟩
  | .hbm, ⟨19, _⟩ => ⟨S4096x2048, .f32⟩
  | .hbm, ⟨20, _⟩ => ⟨S4096x2048, .bf16⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x2048, .f32⟩
  | .local _ .vmem, ⟨7, _⟩ => ⟨S256x2048, .f32⟩
  | .local _ .vmem, ⟨8, _⟩ => ⟨S1x4096, .f32⟩
  | .local _ .vmem, ⟨9, _⟩ => ⟨S1x4096, .f32⟩
  | .local _ .vmem, ⟨10, _⟩ => ⟨S8x128x128, .f32⟩
  | .local _ .vmem, ⟨11, _⟩ => ⟨S8x128x1, .f32⟩
  | .local _ .vmem, ⟨12, _⟩ => ⟨S4096x2048, .bf16⟩
  | .local _ .vmem, ⟨13, _⟩ => ⟨S1x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | .local _ .vmem, ⟨18, _⟩ => ⟨S256x2048, .bf16⟩
  | .local _ .vmem, ⟨19, _⟩ => ⟨S256x4096, .bf16⟩
  | _, _ => ⟨S2x4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceMixIdeal.lean ====
abbrev S2x4096x12288 : Shape := ⟨3, ![2, 4096, 12288]⟩
abbrev S2x4096x2048 : Shape := ⟨3, ![2, 4096, 2048]⟩
abbrev S1x4096 : Shape := ⟨2, ![1, 4096]⟩
abbrev S1x8x128x128 : Shape := ⟨4, ![1, 8, 128, 128]⟩
abbrev S1x8x128 : Shape := ⟨3, ![1, 8, 128]⟩
abbrev S1x4096x2048 : Shape := ⟨3, ![1, 4096, 2048]⟩
abbrev S2x2048 : Shape := ⟨2, ![2, 2048]⟩
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S2x32x128x8x512 : Shape := ⟨5, ![2, 32, 128, 8, 512]⟩
abbrev S128x128 : Shape := ⟨2, ![128, 128]⟩
abbrev S1x128x128 : Shape := ⟨3, ![1, 128, 128]⟩
abbrev S8x128x128 : Shape := ⟨3, ![8, 128, 128]⟩
abbrev S8x2x32x512x128 : Shape := ⟨5, ![8, 2, 32, 512, 128]⟩
abbrev S8x128 : Shape := ⟨2, ![8, 128]⟩
abbrev S128x8 : Shape := ⟨2, ![128, 8]⟩
abbrev S1x1x128x8x1 : Shape := ⟨5, ![1, 1, 128, 8, 1]⟩
abbrev S4096x2048 : Shape := ⟨2, ![4096, 2048]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 109
  | .vmem => 0
  | .smem => 0
  | _ => 0

abbrev bufTy : (tb : Table) → Fin (tcTables nBuf tb) → BufTy
  | .hbm, ⟨0, _⟩ => ⟨S2x4096x12288, .f32⟩
  | .hbm, ⟨1, _⟩ => ⟨S2x4096x2048, .f32⟩
  | .hbm, ⟨2, _⟩ => ⟨S1x4096, .f32⟩
  | .hbm, ⟨3, _⟩ => ⟨S1x4096, .f32⟩
  | .hbm, ⟨4, _⟩ => ⟨S1x8x128x128, .f32⟩
  | .hbm, ⟨5, _⟩ => ⟨S1x8x128, .f32⟩
  | .hbm, ⟨6, _⟩ => ⟨S1x4096x2048, .f32⟩
  | .hbm, ⟨7, _⟩ => ⟨S2x2048, .f32⟩
  | .hbm, ⟨8, _⟩ => ⟨S2x2048, .f32⟩
  | .hbm, ⟨9, _⟩ => ⟨S2x4096x4096, .f32⟩
  | .hbm, ⟨10, _⟩ => ⟨S2x4096x4096, .f32⟩
  | .hbm, ⟨11, _⟩ => ⟨S2x4096x4096, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x4096, .f32⟩
  | .hbm, ⟨34, _⟩ => ⟨S2x4096x4096, .f32⟩
  | .hbm, ⟨35, _⟩ => ⟨S1x1x4096, .f32⟩
  | .hbm, ⟨36, _⟩ => ⟨S2x4096x4096, .f32⟩
  | .hbm, ⟨37, _⟩ => ⟨S2x4096x4096, .f32⟩
  | .hbm, ⟨38, _⟩ => ⟨S1x1x4096, .f32⟩
  | .hbm, ⟨39, _⟩ => ⟨S2x4096x4096, .f32⟩
  | .hbm, ⟨40, _⟩ => ⟨S2x4096x4096, .f32⟩
  | .hbm, ⟨41, _⟩ => ⟨S2x32x128x8x512, .f32⟩
  | .hbm, ⟨42, _⟩ => ⟨S_, .i1⟩
  | .hbm, ⟨43, _⟩ => ⟨S128x128, .i1⟩
  | .hbm, ⟨44, _⟩ => ⟨S128x128, .i32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i1⟩
  | .hbm, ⟨51, _⟩ => ⟨S128x128, .i1⟩
  | .hbm, ⟨52, _⟩ => ⟨S128x128, .i1⟩
  | .hbm, ⟨53, _⟩ => ⟨S1x128x128, .i1⟩
  | .hbm, ⟨54, _⟩ => ⟨S8x128x128, .f32⟩
  | .hbm, ⟨55, _⟩ => ⟨S8x128x128, .f32⟩
  | .hbm, ⟨56, _⟩ => ⟨S_, .f32⟩
  | .hbm, ⟨57, _⟩ => ⟨S8x128x128, .f32⟩
  | .hbm, ⟨58, _⟩ => ⟨S8x128x128, .i1⟩
  | .hbm, ⟨59, _⟩ => ⟨S8x128x128, .f32⟩
  | .hbm, ⟨60, _⟩ => ⟨S8x2x32x512x128, .f32⟩
  | .hbm, ⟨61, _⟩ => ⟨S2x32x128x8x512, .f32⟩
  | .hbm, ⟨62, _⟩ => ⟨S8x128, .f32⟩
  | .hbm, ⟨63, _⟩ => ⟨S128x8, .f32⟩
  | .hbm, ⟨64, _⟩ => ⟨S1x1x128x8x1, .f32⟩
  | .hbm, ⟨65, _⟩ => ⟨S2x32x128x8x512, .f32⟩
  | .hbm, ⟨66, _⟩ => ⟨S2x32x128x8x512, .f32⟩
  | .hbm, ⟨67, _⟩ => ⟨S2x4096x4096, .f32⟩
  | .hbm, ⟨68, _⟩ => ⟨S2x4096x4096, .f32⟩
  | .hbm, ⟨69, _⟩ => ⟨S2x4096x4096, .f32⟩
  | .hbm, ⟨70, _⟩ => ⟨S4096x2048, .f32⟩
  | .hbm, ⟨71, _⟩ => ⟨S2x4096x2048, .f32⟩
  | .hbm, ⟨72, _⟩ => ⟨S_, .f32⟩
  | .hbm, ⟨73, _⟩ => ⟨S2x4096x2048, .f32⟩
  | .hbm, ⟨74, _⟩ => ⟨S2x4096x2048, .f32⟩
  | .hbm, ⟨75, _⟩ => ⟨S2x4096x2048, .f32⟩
  | .hbm, ⟨76, _⟩ => ⟨S1x2048, .f32⟩
  | .hbm, ⟨77, _⟩ => ⟨S2048, .f32⟩
  | .hbm, ⟨78, _⟩ => ⟨S1x2048, .f32⟩
  | .hbm, ⟨79, _⟩ => ⟨S2048, .f32⟩
  | .hbm, ⟨80, _⟩ => ⟨S_, .f32⟩
  | .hbm, ⟨81, _⟩ => ⟨S2x4096, .f32⟩
  | .hbm, ⟨82, _⟩ => ⟨S2x4096x1, .f32⟩
  | .hbm, ⟨83, _⟩ => ⟨S_, .f32⟩
  | .hbm, ⟨84, _⟩ => ⟨S2x4096x1, .f32⟩
  | .hbm, ⟨85, _⟩ => ⟨S2x4096x1, .f32⟩
  | .hbm, ⟨86, _⟩ => ⟨S2x4096x2048, .f32⟩
  | .hbm, ⟨87, _⟩ => ⟨S2x4096x2048, .f32⟩
  | .hbm, ⟨88, _⟩ => ⟨S2x4096x2048, .f32⟩
  | .hbm, ⟨89, _⟩ => ⟨S_, .f32⟩
  | .hbm, ⟨90, _⟩ => ⟨S2x4096, .f32⟩
  | .hbm, ⟨91, _⟩ => ⟨S2x4096x1, .f32⟩
  | .hbm, ⟨92, _⟩ => ⟨S_, .f32⟩
  | .hbm, ⟨93, _⟩ => ⟨S2x4096x1, .f32⟩
  | .hbm, ⟨94, _⟩ => ⟨S2x4096x1, .f32⟩
  | .hbm, ⟨95, _⟩ => ⟨S_, .f32⟩
  | .hbm, ⟨96, _⟩ => ⟨S2x4096x1, .f32⟩
  | .hbm, ⟨97, _⟩ => ⟨S2x4096x1, .f32⟩
  | .hbm, ⟨98, _⟩ => ⟨S2x4096x1, .f32⟩
  | .hbm, ⟨99, _⟩ => ⟨S2x4096x2048, .f32⟩
  | .hbm, ⟨100, _⟩ => ⟨S2x4096x2048, .f32⟩
  | .hbm, ⟨101, _⟩ => ⟨S1x1x2048, .f32⟩
  | .hbm, ⟨102, _⟩ => ⟨S2x4096x2048, .f32⟩
  | .hbm, ⟨103, _⟩ => ⟨S2x4096x2048, .f32⟩
  | .hbm, ⟨104, _⟩ => ⟨S1x1x2048, .f32⟩
  | .hbm, ⟨105, _⟩ => ⟨S2x4096x2048, .f32⟩
  | .hbm, ⟨106, _⟩ => ⟨S2x4096x2048, .f32⟩
  | .hbm, ⟨107, _⟩ => ⟨S8192x2048, .f32⟩
  | .hbm, ⟨108, _⟩ => ⟨S8192x2048, .bf16⟩
  | _, _ => ⟨S2x4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_0 : Ref sig .tc := ⟨.hbm, 50, rfl⟩
abbrev main_call0_v5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_call1_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]
-- ==== KernelOut.lean ====
abbrev S2x4096x2048 : Shape := ⟨3, ![2, 4096, 2048]⟩
abbrev S2x4096x8192 : Shape := ⟨3, ![2, 4096, 8192]⟩
abbrev S1x2048x2048 : Shape := ⟨3, ![1, 2048, 2048]⟩
abbrev S2x2048 : Shape := ⟨2, ![2, 2048]⟩
abbrev S8192x2048 : Shape := ⟨2, ![8192, 2048]⟩
abbrev S8192x8192 : Shape := ⟨2, ![8192, 8192]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 20
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2x4096x8192, .f32⟩
  | .hbm, ⟨2, _⟩ => ⟨S2x4096x2048, .f32⟩
  | .hbm, ⟨3, _⟩ => ⟨S1x2048x2048, .f32⟩
  | .hbm, ⟨4, _⟩ => ⟨S2x2048, .f32⟩
  | .hbm, ⟨5, _⟩ => ⟨S2x2048, .f32⟩
  | .hbm, ⟨6, _⟩ => ⟨S8192x2048, .f32⟩
  | .hbm, ⟨7, _⟩ => ⟨S8192x2048, .bf16⟩
  | .hbm, ⟨8, _⟩ => ⟨S8192x8192, .f32⟩
  | .hbm, ⟨9, _⟩ => ⟨S8192x8192, .bf16⟩
  | .hbm, ⟨10, _⟩ => ⟨S8192x2048, .f32⟩
  | .hbm, ⟨11, _⟩ => ⟨S2048x2048, .f32⟩
  | .hbm, ⟨12, _⟩ => ⟨S2048x2048, .bf16⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOutIdeal.lean ====
abbrev S2x4096x2048 : Shape := ⟨3, ![2, 4096, 2048]⟩
abbrev S2x4096x8192 : Shape := ⟨3, ![2, 4096, 8192]⟩
abbrev S1x2048x2048 : Shape := ⟨3, ![1, 2048, 2048]⟩
abbrev S2x2048 : Shape := ⟨2, ![2, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x8192, .f32⟩
  | .hbm, ⟨2, _⟩ => ⟨S2x4096x2048, .f32⟩
  | .hbm, ⟨3, _⟩ => ⟨S1x2048x2048, .f32⟩
  | .hbm, ⟨4, _⟩ => ⟨S2x2048, .f32⟩
  | .hbm, ⟨5, _⟩ => ⟨S2x2048, .f32⟩
  | .hbm, ⟨6, _⟩ => ⟨S2x4096x2048, .f32⟩
  | .hbm, ⟨7, _⟩ => ⟨S2x4096x2048, .f32⟩
  | .hbm, ⟨8, _⟩ => ⟨S2048x2048, .f32⟩
  | .hbm, ⟨9, _⟩ => ⟨S2x4096x2048, .f32⟩
  | .hbm, ⟨10, _⟩ => ⟨S_, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S_, .f32⟩
  | .hbm, ⟨28, _⟩ => ⟨S2x4096, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S_, .f32⟩
  | .hbm, ⟨34, _⟩ => ⟨S2x4096x1, .f32⟩
  | .hbm, ⟨35, _⟩ => ⟨S2x4096x1, .f32⟩
  | .hbm, ⟨36, _⟩ => ⟨S2x4096x1, .f32⟩
  | .hbm, ⟨37, _⟩ => ⟨S2x4096x2048, .f32⟩
  | .hbm, ⟨38, _⟩ => ⟨S2x4096x2048, .f32⟩
  | .hbm, ⟨39, _⟩ => ⟨S1x1x2048, .f32⟩
  | .hbm, ⟨40, _⟩ => ⟨S2x4096x2048, .f32⟩
  | .hbm, ⟨41, _⟩ => ⟨S2x4096x2048, .f32⟩
  | .hbm, ⟨42, _⟩ => ⟨S1x1x2048, .f32⟩
  | .hbm, ⟨43, _⟩ => ⟨S2x4096x2048, .f32⟩
  | .hbm, ⟨44, _⟩ => ⟨S2x4096x2048, .f32⟩
  | .hbm, ⟨45, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== KernelIn.lean ====
abbrev S2x4096x2048 : Shape := ⟨3, ![2, 4096, 2048]⟩
abbrev S1x2048x12288 : Shape := ⟨3, ![1, 2048, 12288]⟩
abbrev S1x12288 : Shape := ⟨2, ![1, 12288]⟩
abbrev S1x4096x2048 : Shape := ⟨3, ![1, 4096, 2048]⟩
abbrev S8192x2048 : Shape := ⟨2, ![8192, 2048]⟩
abbrev S2048x12288 : Shape := ⟨2, ![2048, 12288]⟩
abbrev S12288 : Shape := ⟨1, ![12288]⟩
abbrev S4096x2048 : Shape := ⟨2, ![4096, 2048]⟩
abbrev S8192x12288 : Shape := ⟨2, ![8192, 12288]⟩
abbrev S1024x2048 : Shape := ⟨2, ![1024, 2048]⟩
abbrev S2048x1024 : Shape := ⟨2, ![2048, 1024]⟩
abbrev S1x1024 : Shape := ⟨2, ![1, 1024]⟩
abbrev S128x2048 : Shape := ⟨2, ![128, 2048]⟩
abbrev S1024x1024 : Shape := ⟨2, ![1024, 1024]⟩
abbrev S3x1024x256 : Shape := ⟨3, ![3, 1024, 256]⟩
abbrev S2048x256 : Shape := ⟨2, ![2048, 256]⟩
abbrev S1024x256 : Shape := ⟨2, ![1024, 256]⟩
abbrev S1x1024x256 : Shape := ⟨3, ![1, 1024, 256]⟩
abbrev S1x256 : Shape := ⟨2, ![1, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S1x2048x12288, .f32⟩
  | .hbm, ⟨2, _⟩ => ⟨S1x12288, .f32⟩
  | .hbm, ⟨3, _⟩ => ⟨S1x4096x2048, .f32⟩
  | .hbm, ⟨4, _⟩ => ⟨S8192x2048, .f32⟩
  | .hbm, ⟨5, _⟩ => ⟨S2048x12288, .f32⟩
  | .hbm, ⟨6, _⟩ => ⟨S12288, .f32⟩
  | .hbm, ⟨7, _⟩ => ⟨S1x12288, .f32⟩
  | .hbm, ⟨8, _⟩ => ⟨S4096x2048, .f32⟩
  | .hbm, ⟨9, _⟩ => ⟨S8192x12288, .bf16⟩
  | .hbm, ⟨10, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S128x2048, .f32⟩
  | .local _ .vmem, ⟨7, _⟩ => ⟨S128x2048, .f32⟩
  | .local _ .vmem, ⟨8, _⟩ => ⟨S1024x1024, .bf16⟩
  | .local _ .vmem, ⟨9, _⟩ => ⟨S1024x1024, .bf16⟩
  | .local _ .vmem, ⟨10, _⟩ => ⟨S128x2048, .bf16⟩
  | .local _ .vmem, ⟨11, _⟩ => ⟨S128x2048, .bf16⟩
  | .local _ .vmem, ⟨12, _⟩ => ⟨S1024x2048, .bf16⟩
  | .local _ .vmem, ⟨13, _⟩ => ⟨S3x1024x256, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 12], ![false, false]⟩

def k0_cond3 (i : grid0.Coords) : BitVec 1 :=
  let arg1 : BitVec 32 := BitVec.ofNat 32 (i 1).val
  let c8_i32 : BitVec 32 := 8#32
  let v8 : BitVec 1 := Scalar.cmpi .slt arg1 c8_i32
  let v9 : BitVec 32 := Scalar.extui v8
  let c0_i32_2 : BitVec 32 := 0#32
  let v10 : BitVec 1 := Scalar.cmpi .ne v9 c0_i32_2
  v10

def k0_cond4 (i : grid0.Coords) : BitVec 1 :=
  let arg1 : BitVec 32 := BitVec.ofNat 32 (i 1).val
  let c8_i32_3 : BitVec 32 := 8#32
  let v11 : BitVec 1 := Scalar.cmpi .sge arg1 c8_i32_3
  let v12 : BitVec 32 := Scalar.extui v11
  let c0_i32_4 : BitVec 32 := 0#32
  let v13 : BitVec 1 := Scalar.cmpi .ne v12 c0_i32_4
  v13

def k0_cond1 (i : grid0.Coords) : BitVec 1 :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c32_i32 : BitVec 32 := 32#32
  let v2 : BitVec 1 := Scalar.cmpi .slt v1 c32_i32
  let v3 : BitVec 32 := Scalar.extui v2
  let c0_i32 : BitVec 32 := 0#32
  let v4 : BitVec 1 := Scalar.cmpi .ne v3 c0_i32
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelInIdeal.lean ====
variable {F : FTy → Type} [FloatOps F] [Named F]
def κ : String → Option EReal := fun
  | "gelu_cubic" => some ((80338380498831 / 2251799813685248 : ℝ) : EReal)
  | _ => none
-- ==== ReferenceInIdeal.lean ====
abbrev S2x4096x2048 : Shape := ⟨3, ![2, 4096, 2048]⟩
abbrev S1x2048x12288 : Shape := ⟨3, ![1, 2048, 12288]⟩
abbrev S1x12288 : Shape := ⟨2, ![1, 12288]⟩
abbrev S1x4096x2048 : Shape := ⟨3, ![1, 4096, 2048]⟩
abbrev S2048x12288 : Shape := ⟨2, ![2048, 12288]⟩
abbrev S2x4096x12288 : Shape := ⟨3, ![2, 4096, 12288]⟩
abbrev S12288 : Shape := ⟨1, ![12288]⟩
abbrev S1x1x12288 : Shape := ⟨3, ![1, 1, 12288]⟩
abbrev S2x4096x4096 : Shape := ⟨3, ![2, 4096, 4096]⟩
abbrev S_ : Shape := ⟨0, ![]⟩
abbrev S8192x12288 : Shape := ⟨2, ![8192, 12288]⟩
abbrev S4096x2048 : Shape := ⟨2, ![4096, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x12288, .f32⟩
  | .hbm, ⟨2, _⟩ => ⟨S1x12288, .f32⟩
  | .hbm, ⟨3, _⟩ => ⟨S1x4096x2048, .f32⟩
  | .hbm, ⟨4, _⟩ => ⟨S2048x12288, .f32⟩
  | .hbm, ⟨5, _⟩ => ⟨S2x4096x12288, .f32⟩
  | .hbm, ⟨6, _⟩ => ⟨S12288, .f32⟩
  | .hbm, ⟨7, _⟩ => ⟨S1x1x12288, .f32⟩
  | .hbm, ⟨8, _⟩ => ⟨S2x4096x12288, .f32⟩
  | .hbm, ⟨9, _⟩ => ⟨S2x4096x12288, .f32⟩
  | .hbm, ⟨10, _⟩ => ⟨S2x4096x4096, .f32⟩
  | .hbm, ⟨11, _⟩ => ⟨S2x4096x4096, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | .hbm, ⟨15, _⟩ => ⟨S_, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S_, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S_, .f32⟩
  | .hbm, ⟨24, _⟩ => ⟨S2x4096x4096, .f32⟩
  | .hbm, ⟨25, _⟩ => ⟨S2x4096x4096, .f32⟩
  | .hbm, ⟨26, _⟩ => ⟨S_, .f32⟩
  | .hbm, ⟨27, _⟩ => ⟨S2x4096x4096, .f32⟩
  | .hbm, ⟨28, _⟩ => ⟨S2x4096x4096, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S_, .f32⟩
  | .hbm, ⟨33, _⟩ => ⟨S2x4096x4096, .f32⟩
  | .hbm, ⟨34, _⟩ => ⟨S2x4096x4096, .f32⟩
  | .hbm, ⟨35, _⟩ => ⟨S2x4096x4096, .f32⟩
  | .hbm, ⟨36, _⟩ => ⟨S_, .f32⟩
  | .hbm, ⟨37, _⟩ => ⟨S2x4096x4096, .f32⟩
  | .hbm, ⟨38, _⟩ => ⟨S2x4096x4096, .f32⟩
  | .hbm, ⟨39, _⟩ => ⟨S2x4096x4096, .f32⟩
  | .hbm, ⟨40, _⟩ => ⟨S_, .f32⟩
  | .hbm, ⟨41, _⟩ => ⟨S2x4096x4096, .f32⟩
  | .hbm, ⟨42, _⟩ => ⟨S2x4096x4096, .f32⟩
  | .hbm, ⟨43, _⟩ => ⟨S_, .f32⟩
  | .hbm, ⟨44, _⟩ => ⟨S2x4096x4096, .f32⟩
  | .hbm, ⟨45, _⟩ => ⟨S2x4096x4096, .f32⟩
  | .hbm, ⟨46, _⟩ => ⟨S2x4096x4096, .f32⟩
  | .hbm, ⟨47, _⟩ => ⟨S2x4096x4096, .f32⟩
  | .hbm, ⟨48, _⟩ => ⟨S2x4096x4096, .f32⟩
  | .hbm, ⟨49, _⟩ => ⟨S_, .f32⟩
  | .hbm, ⟨50, _⟩ => ⟨S2x4096x4096, .f32⟩
  | .hbm, ⟨51, _⟩ => ⟨S2x4096x4096, .f32⟩
  | .hbm, ⟨52, _⟩ => ⟨S_, .f32⟩
  | .hbm, ⟨53, _⟩ => ⟨S2x4096x4096, .f32⟩
  | .hbm, ⟨54, _⟩ => ⟨S2x4096x4096, .f32⟩
  | .hbm, ⟨55, _⟩ => ⟨S2x4096x4096, .f32⟩
  | .hbm, ⟨56, _⟩ => ⟨S2x4096x12288, .f32⟩
  | .hbm, ⟨57, _⟩ => ⟨S8192x12288, .f32⟩
  | .hbm, ⟨58, _⟩ => ⟨S8192x12288, .bf16⟩
  | .hbm, ⟨59, _⟩ => ⟨S4096x2048, .f32⟩
  | .hbm, ⟨60, _⟩ => ⟨S4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== KernelProj.lean ====
abbrev S2x4096x2048 : Shape := ⟨3, ![2, 4096, 2048]⟩
abbrev S2048x4096 : Shape := ⟨2, ![2048, 4096]⟩
abbrev S1x2048x4096 : Shape := ⟨3, ![1, 2048, 4096]⟩
abbrev S1x2048x2048 : Shape := ⟨3, ![1, 2048, 2048]⟩
abbrev S8192x2048 : Shape := ⟨2, ![8192, 2048]⟩
abbrev S2048x2048 : Shape := ⟨2, ![2048, 2048]⟩
abbrev S8192x8192 : Shape := ⟨2, ![8192, 8192]⟩
abbrev S1024x2048 : Shape := ⟨2, ![1024, 2048]⟩
abbrev S2048x1024 : Shape := ⟨2, ![2048, 1024]⟩
abbrev S64x2048 : Shape := ⟨2, ![64, 2048]⟩
abbrev S1024x1024 : Shape := ⟨2, ![1024, 1024]⟩
abbrev S3x1024x256 : Shape := ⟨3, ![3, 1024, 256]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 10
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2048x4096, .f32⟩
  | .hbm, ⟨2, _⟩ => ⟨S1x2048x4096, .f32⟩
  | .hbm, ⟨3, _⟩ => ⟨S1x2048x2048, .f32⟩
  | .hbm, ⟨4, _⟩ => ⟨S8192x2048, .f32⟩
  | .hbm, ⟨5, _⟩ => ⟨S8192x2048, .bf16⟩
  | .hbm, ⟨6, _⟩ => ⟨S2048x4096, .f32⟩
  | .hbm, ⟨7, _⟩ => ⟨S2048x2048, .f32⟩
  | .hbm, ⟨8, _⟩ => ⟨S8192x8192, .bf16⟩
  | .hbm, ⟨9, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S64x2048, .f32⟩
  | .local _ .vmem, ⟨7, _⟩ => ⟨S64x2048, .f32⟩
  | .local _ .vmem, ⟨8, _⟩ => ⟨S1024x1024, .bf16⟩
  | .local _ .vmem, ⟨9, _⟩ => ⟨S1024x1024, .bf16⟩
  | .local _ .vmem, ⟨10, _⟩ => ⟨S64x2048, .bf16⟩
  | .local _ .vmem, ⟨11, _⟩ => ⟨S64x2048, .bf16⟩
  | .local _ .vmem, ⟨12, _⟩ => ⟨S2048x1024, .bf16⟩
  | .local _ .vmem, ⟨13, _⟩ => ⟨S3x1024x256, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg0 : BitVec 32 := BitVec.ofNat 32 (i 0).val
  let c4_i32_4 : BitVec 32 := 4#32
  let v14 : BitVec 1 := Scalar.cmpi .slt arg0 c4_i32_4
  let v15 : BitVec 32 := Scalar.extui v14
  let c0_i32_5 : BitVec 32 := 0#32
  let v16 : BitVec 1 := Scalar.cmpi .ne v15 c0_i32_5
  v16

def k0_cond5 (i : grid0.Coords) : BitVec 1 :=
  let arg0 : BitVec 32 := BitVec.ofNat 32 (i 0).val
  let c4_i32_6 : BitVec 32 := 4#32
  let v17 : BitVec 1 := Scalar.cmpi .sge arg0 c4_i32_6
  let c6_i32 : BitVec 32 := 6#32
  let v18 : BitVec 1 := Scalar.cmpi .slt arg0 c6_i32
  let v19 : BitVec 1 := Scalar.andi v17 v18
  let v20 : BitVec 32 := Scalar.extui v19
  let c0_i32_7 : BitVec 32 := 0#32
  let v21 : BitVec 1 := Scalar.cmpi .ne v20 c0_i32_7
  v21

def k0_cond6 (i : grid0.Coords) : BitVec 1 :=
  let arg0 : BitVec 32 := BitVec.ofNat 32 (i 0).val
  let c6_i32_8 : BitVec 32 := 6#32
  let v22 : BitVec 1 := Scalar.cmpi .sge arg0 c6_i32_8
  let v23 : BitVec 32 := Scalar.extui v22
  let c0_i32_9 : BitVec 32 := 0#32
  let v24 : BitVec 1 := Scalar.cmpi .ne v23 c0_i32_9
  v24

def k0_cond1 (i : grid0.Coords) : BitVec 1 :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c32_i32 : BitVec 32 := 32#32
  let v3 : BitVec 1 := Scalar.cmpi .slt v2 c32_i32
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelProjIdeal.lean ====
variable {F : FTy → Type} [FloatOps F] [Named F]
def κ : String → Option EReal := fun
  | "q_scale" => some (((11863283 / 134217728) * (Real.log 2)⁻¹ : ℝ) : EReal)
  | _ => none
-- ==== ReferenceProjIdeal.lean ====
abbrev S2x4096x2048 : Shape := ⟨3, ![2, 4096, 2048]⟩
abbrev S2048x4096 : Shape := ⟨2, ![2048, 4096]⟩
abbrev S1x2048x4096 : Shape := ⟨3, ![1, 2048, 4096]⟩
abbrev S1x2048x2048 : Shape := ⟨3, ![1, 2048, 2048]⟩
abbrev S2x4096x4096 : Shape := ⟨3, ![2, 4096, 4096]⟩
abbrev S_ : Shape := ⟨0, ![]⟩
abbrev S2x4096x8192 : Shape := ⟨3, ![2, 4096, 8192]⟩
abbrev S8192x8192 : Shape := ⟨2, ![8192, 8192]⟩
abbrev S2048x2048 : Shape := ⟨2, ![2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x4096, .f32⟩
  | .hbm, ⟨2, _⟩ => ⟨S1x2048x4096, .f32⟩
  | .hbm, ⟨3, _⟩ => ⟨S1x2048x2048, .f32⟩
  | .hbm, ⟨4, _⟩ => ⟨S2x4096x4096, .f32⟩
  | .hbm, ⟨5, _⟩ => ⟨S2048x4096, .f32⟩
  | .hbm, ⟨6, _⟩ => ⟨S2x4096x4096, .f32⟩
  | .hbm, ⟨7, _⟩ => ⟨S2x4096x2048, .f32⟩
  | .hbm, ⟨8, _⟩ => ⟨S2x4096x2048, .f32⟩
  | .hbm, ⟨9, _⟩ => ⟨S_, .f32⟩
  | .hbm, ⟨10, _⟩ => ⟨S2x4096x2048, .f32⟩
  | .hbm, ⟨11, _⟩ => ⟨S2x4096x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x8192, .f32⟩
  | .hbm, ⟨27, _⟩ => ⟨S8192x8192, .f32⟩
  | .hbm, ⟨28, _⟩ => ⟨S8192x8192, .bf16⟩
  | .hbm, ⟨29, _⟩ => ⟨S2048x2048, .f32⟩
  | .hbm, ⟨30, _⟩ => ⟨S2048x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Proof.Val.Weights.lean ====
/- The stick-breaking weights over the extended reals, one query row at a time: what a score costs the stick, in units of
   log 2, and the weight of a key.  Both the kernel's spelling (powers of two, a clamp) and the reference's (natural
   exponentials, `softplus`, `log_sigmoid`) are brought to these two functions. -/
module

public import Idealize.ShloMosaic.PureOps.Ideal.Laws
public import Mathlib.Analysis.SpecialFunctions.Pow.Real
public import Mathlib.Analysis.SpecialFunctions.Log.Basic
public import Mathlib.Analysis.Complex.Exponential

@[expose] public section

noncomputable section

namespace Cert.Stick

open Idealize.ShloMosaic

/-- The score's scale: one over the square root of the head dimension, as the nearest 32-bit float. -/
def scale : ℝ := 11863283 / 134217728

/-- The scale of the kernel's queries: the score's scale in units of log 2. -/
def scale2 : ℝ := scale * (Real.log 2)⁻¹

theorem log2_pos : 0 < Real.log 2 := Real.log_pos (by norm_num)

theorem scale_pos : 0 < scale := by unfold scale; norm_num

theorem scale2_pos : 0 < scale2 := mul_pos scale_pos (inv_pos.mpr log2_pos)

theorem scale2_mul : scale2 * Real.log 2 = scale := by
  unfold scale2
  rw [mul_assoc, inv_mul_cancel₀ log2_pos.ne', mul_one]

/-- What a key of raw score `x` costs the stick: `log₂ (1 + exp (scale · x))`, a real number. -/
def cost (x : EReal) : ℝ := Real.log (1 + (Ideal.exp (x * (scale : EReal))).toReal) / Real.log 2

/-- The weight of a key of raw score `x` when the keys from it to the query have cost `c`. -/
def weight (x : EReal) (c : ℝ) : EReal := Ideal.exp2 (x * (scale2 : EReal) + ((-c : ℝ) : EReal))

/-- The natural logarithm of 2 exceeds 0.691. -/
theorem log2_gt : (0.691 : ℝ) < Real.log 2 := by
  rw [Real.lt_log_iff_exp_lt (by norm_num)]
  refine (Real.exp_bound' (by norm_num) (by norm_num) (n := 6) (by norm_num)).trans_lt ?_
  norm_num [Finset.sum_range_succ, Nat.factorial]

/-- A raw score of at most 500 is at most 64 in units of log 2. -/
theorem scale2_le {r : ℝ} (h : r ≤ 500) : r * scale2 ≤ 64 := by
  have h2 := log2_gt
  have h3 : scale2 ≤ 64 / 500 := by
    unfold scale2 scale
    rw [← div_eq_mul_inv, div_le_iff₀ log2_pos]
    linarith
  rcases le_or_gt r 0 with hr | hr
  · nlinarith [scale2_pos]
  · nlinarith [scale2_pos]

/-- A value at most a real is minus infinity or a real. -/
theorem bot_or_coe {x : EReal} {b : ℝ} (h : x ≤ (b : EReal)) : x = ⊥ ∨ ∃ r : ℝ, x = r ∧ r ≤ b := by
  induction x using EReal.rec with
  | bot => exact Or.inl rfl
  | coe r => exact Or.inr ⟨r, rfl, EReal.coe_le_coe_iff.mp h⟩
  | top => exact absurd (top_le_iff.mp h) (EReal.coe_ne_top b)

theorem exp2_eq (r : ℝ) : Real.rpow 2 (r * scale2) = Real.exp (r * scale) := by
  show (2 : ℝ) ^ (r * scale2) = _
  rw [Real.rpow_def_of_pos (by norm_num), ← scale2_mul]
  congr 1; ring

theorem cost_bot : cost ⊥ = 0 := by
  unfold cost
  rw [EReal.bot_mul_coe_of_pos scale_pos, Ideal.exp_bot]
  simp

theorem cost_coe (r : ℝ) : cost r = Real.log (1 + Real.exp (r * scale)) / Real.log 2 := by
  unfold cost
  rw [← EReal.coe_mul, Ideal.exp_coe, EReal.toReal_coe]

/-- The kernel's `log₂ (1 + 2^z)`, with its clamp at 64 and its maximum, at a score the clamp doesn't reach. -/
theorem softplus2_eq {x : EReal} (h : x ≤ ((500 : ℝ) : EReal)) :
    max (x * (scale2 : EReal)) (Ideal.log (1 + Ideal.exp2 (min (x * (scale2 : EReal)) ((64 : ℝ) : EReal)))
      * (((Real.log 2)⁻¹ : ℝ) : EReal)) = ((cost x : ℝ) : EReal) := by
  rcases bot_or_coe h with rfl | ⟨r, rfl, hr⟩
  · rw [EReal.bot_mul_coe_of_pos scale2_pos, cost_bot, min_eq_left bot_le, Ideal.exp2_bot, add_zero]
    have : Ideal.log 1 = 0 := by
      rw [← EReal.coe_one, Ideal.log_coe, if_neg (by norm_num), Real.log_one, EReal.coe_zero]
    rw [this, zero_mul]; simp
  · rw [cost_coe, ← EReal.coe_mul, min_eq_left (EReal.coe_le_coe_iff.mpr (scale2_le hr)), Ideal.exp2_coe, exp2_eq,
      ← EReal.coe_one, ← EReal.coe_add, Ideal.log_coe,
      if_neg (not_le.mpr (by positivity)), ← EReal.coe_mul, ← div_eq_mul_inv]
    rw [max_eq_right]
    rw [EReal.coe_le_coe_iff, le_div_iff₀ log2_pos, mul_assoc, scale2_mul]
    calc r * scale = Real.log (Real.exp (r * scale)) := (Real.log_exp _).symm
      _ ≤ _ := Real.log_le_log (Real.exp_pos _) (by linarith)

/-- `softplus` as it is computed from the maximum and the absolute value. -/
def softplus (z : EReal) : EReal := max z 0 + Ideal.log1p (Ideal.exp (-max (z - 0) (-(z - 0))))

theorem softplus_coe (r : ℝ) : softplus r = ((Real.log (1 + Real.exp r) : ℝ) : EReal) := by
  unfold softplus Ideal.log1p
  rw [sub_zero, ← EReal.coe_neg, ← EReal.coe_zero, ← EReal.coe_strictMono.monotone.map_max, ← EReal.coe_strictMono.monotone.map_max, ← EReal.coe_neg, Ideal.exp_coe,
    ← EReal.coe_one, ← EReal.coe_add, Ideal.log_coe, if_neg (not_le.mpr (by positivity)), ← EReal.coe_add]
  congr 1
  rcases le_total r 0 with h | h
  · rw [max_eq_right h, max_eq_right (by linarith), neg_neg, zero_add]
  · rw [max_eq_left h, max_eq_left (by linarith)]
    have : 1 + Real.exp r = Real.exp r * (1 + Real.exp (-r)) := by
      rw [mul_add, ← Real.exp_add]; simp [add_comm]
    rw [this, Real.log_mul (Real.exp_pos _).ne' (by positivity), Real.log_exp]

theorem softplus_bot : softplus ⊥ = 0 := by
  unfold softplus Ideal.log1p
  have : Ideal.log 1 = 0 := by
    rw [← EReal.coe_one, Ideal.log_coe, if_neg (by norm_num), Real.log_one, EReal.coe_zero]
  simp [this]

theorem softplus_top : softplus ⊤ = ⊤ := by
  unfold softplus Ideal.log1p
  have : Ideal.log 1 = 0 := by
    rw [← EReal.coe_one, Ideal.log_coe, if_neg (by norm_num), Real.log_one, EReal.coe_zero]
  simp [this]

/-- The reference's `softplus` of a bounded score is its cost in natural units. -/
theorem softplus_eq {x : EReal} (h : x ≤ ((500 : ℝ) : EReal)) :
    softplus (x * (scale : EReal)) = ((Real.log 2 * cost x : ℝ) : EReal) := by
  rcases bot_or_coe h with rfl | ⟨r, rfl, hr⟩
  · rw [EReal.bot_mul_coe_of_pos scale_pos, cost_bot, softplus_bot]; simp
  · rw [← EReal.coe_mul, softplus_coe, cost_coe, mul_div_cancel₀ _ log2_pos.ne']

/-- The reference's weight, `exp (log_sigmoid z + a)` with `a` the natural logarithm of what the keys after it leave of
    the stick, is the weight with those keys' cost and its own. -/
theorem weight_eq {x : EReal} (h : x ≤ ((500 : ℝ) : EReal)) (c : ℝ) :
    Ideal.exp (-softplus (-(x * (scale : EReal))) + ((-(Real.log 2 * c) : ℝ) : EReal)) = weight x (cost x + c) := by
  unfold weight
  rcases bot_or_coe h with rfl | ⟨r, rfl, hr⟩
  · rw [EReal.bot_mul_coe_of_pos scale_pos, EReal.bot_mul_coe_of_pos scale2_pos, EReal.neg_bot, softplus_top]
    simp
  · rw [← EReal.coe_mul, ← EReal.coe_neg, softplus_coe, ← EReal.coe_neg, ← EReal.coe_add, Ideal.exp_coe, ← EReal.coe_mul,
      ← EReal.coe_add, Ideal.exp2_coe, cost_coe]
    congr 1
    show Real.exp _ = (2 : ℝ) ^ (_ : ℝ)
    rw [Real.rpow_def_of_pos (by norm_num)]
    congr 1
    have e1 : Real.log 2 * (r * scale2 + -(Real.log (1 + Real.exp (r * scale)) / Real.log 2 + c))
        = r * (scale2 * Real.log 2) - Real.log (1 + Real.exp (r * scale)) * (Real.log 2 / Real.log 2) - Real.log 2 * c := by
      ring
    rw [e1, scale2_mul, div_self log2_pos.ne', mul_one]
    have e2 : 1 + Real.exp (r * scale) = Real.exp (r * scale) * (1 + Real.exp (-(r * scale))) := by
      rw [mul_add, ← Real.exp_add]; simp [add_comm]
    rw [e2, Real.log_mul (Real.exp_pos _).ne' (by positivity), Real.log_exp]
    ring

/-- A positive real scale may be taken out of a sum of products, each with the scale on its first factor. -/
theorem sum_scaled {ι : Type*} (s : Finset ι) (f g : ι → EReal) {c : ℝ} (hc : 0 < c) :
    ∑ i ∈ s, (f i * (c : EReal)) * g i = (∑ i ∈ s, f i * g i) * (c : EReal) := by
  classical
  induction s using Finset.induction_on with
  | empty => simp
  | insert a s ha ih =>
    rw [Finset.sum_insert ha, Finset.sum_insert ha, ih, EReal.right_distrib_of_nonneg_of_ne_top
      (EReal.coe_nonneg.mpr hc.le) (EReal.coe_ne_top c), mul_right_comm]

end Cert.Stick

end
-- ==== Proof.Val.Host.lean ====
/- WHAT THE REGION READS: the projections and the negated triangle that @main prepares, at an index. -/
module
public import proofs.«01_k».proof.Proof.Gen.KernelIdeal.Value
public import proofs.«01_k».proof.Proof.Val.Weights
public import Idealize.ShloMosaic.Lib.StableHlo.ReadAt
public import Idealize.ShloMosaic.Lib.Pointwise
public import Idealize.ShloMosaic.Lib.WordCmp
@[expose] public section
set_option maxRecDepth 16384
noncomputable section
namespace Cert.KernelIdeal.Stick
open Idealize.ShloMosaic Idealize.ShloMosaic.TcCoe Idealize.ShloMosaic.Tactic
open Cert.KernelIdeal.Gen Cert.KernelIdeal Cert.Stick

/-- One over the square root of 128, as it is written into both programs. -/
theorem scale_bits : Ideal.ofBits .f32 0x3DB504F3#32 = (scale : EReal) := by
  simp [Ideal.ofBits, Ideal.ieee, -EReal.coe_mul, scale]; norm_num

theorem log_two : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]; norm_num
  rw [this, Ideal.log_coe, if_neg (by norm_num)]

theorem neg_one_bits : Ideal.ofBits .f32 0xBF800000#32 = -1 := by
  have : Ideal.ofBits .f32 0xBF800000#32 = ((-1 : ℝ) : EReal) := by
    simp [Ideal.ofBits, Ideal.ieee, -EReal.coe_mul]; norm_num
  rw [this]; simp

variable (m : (ℓ : Loc nD τ sig) → Buf (Elt Ideal) ℓ) (c : Dev nD)

/-- The projections the region reads: keys, values, scaled queries and gates side by side. -/
def proj : Vec Ideal S8192x8192 .bf16 := V m c main_v19
/-- The negated triangle the region reads. -/
def negTri : Vec Ideal S256x256 .bf16 := V m c main_v7
/-- Keys and values, as launched. -/
def argKv : Vec Ideal S2x4096x4096 .f32 := m ((c : Thread nD τ).loc main_arg0)
/-- Queries and gates, as launched. -/
def argH : Vec Ideal S2x4096x4096 .f32 := m ((c : Thread nD τ).loc main_arg1)

theorem negTri_apply (a b : Fin 256) : negTri m c (ix2 a b) = if b.val ≤ a.val then (-1 : EReal) else 0 := by
  unfold negTri V
  simp only [hostOps0, hostOps0_1, hostOps0_2, List.flatten_cons, List.flatten_nil, List.append_nil, List.cons_append, List.nil_append]
  after_reads_at
  rw [neg_one_bits]
  have ha := a.isLt
  have hb := b.isLt
  rw [WordCmp.cmpi_sge_ofNat (w := 32) (by norm_num; omega) (by norm_num; omega)]
  by_cases h : b.val ≤ a.val
  · rw [if_pos h, decide_eq_true h]; rfl
  · rw [if_neg h, decide_eq_false h]; rfl

theorem proj_kv (b : Fin 2) (s : Fin 4096) (p : Fin 4096) :
    proj m c (ix2 ⟨4096 * b.val + s.val, by omega⟩ ⟨p.val, by omega⟩) = argKv m c (ix3 b s p) := by
  unfold proj argKv V
  simp only [hostOps0, hostOps0_1, hostOps0_2, List.flatten_cons, List.flatten_nil, List.append_nil, List.cons_append, List.nil_append]
  after_reads_at
  after_reads_at

theorem proj_query (b : Fin 2) (s : Fin 4096) (p : Fin 2048) :
    proj m c (ix2 ⟨4096 * b.val + s.val, by omega⟩ ⟨4096 + p.val, by omega⟩)
      = argH m c (ix3 b s ⟨p.val, by omega⟩) * (scale2 : EReal) := by
  unfold proj argH V
  simp only [hostOps0, hostOps0_1, hostOps0_2, List.flatten_cons, List.flatten_nil, List.append_nil, List.cons_append, List.nil_append]
  after_reads_at
  after_reads_at
  have e : (ix3 ⟨(4096 * b.val + s.val) / 4096, by omega⟩ ⟨(4096 * b.val + s.val) % 4096, by omega⟩ ⟨p.val, by omega⟩ :
      S2x4096x4096.Idx) = ix3 b s ⟨p.val, by omega⟩ := by
    congr 1
    · apply Fin.ext; show (4096 * b.val + s.val) / 4096 = b.val; omega
    · apply Fin.ext; show (4096 * b.val + s.val) % 4096 = s.val; omega
  rw [e]
  show Ideal.div (_ * Ideal.ofBits .f32 0x3DB504F3#32) (Ideal.log (Ideal.ofBits .f32 0x40000000#32)) = _
  rw [scale_bits, log_two, Ideal.div_coe log2_pos.ne', mul_assoc, ← EReal.coe_mul]
  rw [show scale * (1 / Real.log 2) = scale2 by unfold scale2; rw [one_div]]
end Cert.KernelIdeal.Stick
-- ==== Proof.Val.Steps.lean ====
/- ONE TILE OF THE SWEEP, AND WHAT A TRIP AND A FIRST SWEEP OF THE KERNEL STORE.

   The kernel carries, for each of the 8 heads of its block, a column of 256 remaining log-weights and a 256×128
   accumulator, and updates both once per tile of 256 keys, from the diagonal tile downwards.  This module writes that
   update once (`step`), and shows that each trip of the loop, and each of the four first sweeps, stores for every
   head the updates of its tiles one after the other.  Everything here holds of any number system. -/
module
public import proofs.«01_k».proof.Proof.Gen.KernelIdeal.Value
public import Idealize.ShloMosaic.Lib.Pipeline.ValueKit
public import Idealize.ShloMosaic.Lib.Pipeline.ReadBack
@[expose] public section
set_option maxRecDepth 16384
noncomputable section
namespace Cert.KernelIdeal.Stick
open Idealize.ShloMosaic Idealize.ShloMosaic.TcCoe Idealize.ShloMosaic.Tactic
open Idealize.SL Idealize.SL.RA Idealize.SL.BI Idealize.SL.Sem
open Cert.KernelIdeal.Gen
variable {F : FTy → Type} [FloatOps F] [Named F]

/-! ### One tile -/

/-- The base-2 logits of a tile: scaled queries against keys. -/
def logits (q k : Vec F S256x128 .bf16) : FVec F S256x256 .f32 :=
  matmul dot_S256x128_S256x128_S256x256_1_1_0_0_n_n none (shapeCast S256x128 q shapeCasts_S256x128_S256x128)
    (shapeCast S256x128 k shapeCasts_S256x128_S256x128) (constant S256x256 .f32 0x00000000#32)

/-- What attending to each key of the tile takes from the weight left to earlier keys: the base-2 softplus. -/
def costs (z : FVec F S256x256 .f32) : FVec F S256x256 .f32 :=
  maximumf z (mulf (log (addf (broadcast S256x256 (Scalar.ofBits .f32 0x3F800000#32))
    (exp2 (minimumf z (broadcast S256x256 (Scalar.ofBits .f32 0x42800000#32))))))
    (broadcast S256x256 (Named.named κ "log2_e" 0x3FB8AA3B#32)))

/-- The entries of the diagonal tile whose key lies strictly before the query. -/
def earlier : IVec S256x256 1 :=
  cmpi .slt (iota .tc S256x256 32 [1] iota_S256x256_d1_w32) (iota .tc S256x256 32 [0] iota_S256x256_d0_w32)

/-- A tile as it is, or (on the diagonal, `d`) with zeros wherever the key isn't strictly before the query. -/
def keep (d : Bool) (x : FVec F S256x256 .f32) : FVec F S256x256 .f32 :=
  match d with
  | true => select earlier x (broadcast S256x256 (Scalar.ofBits .f32 0x00000000#32))
  | false => x

/-- Minus the costs summed from each key of the tile to its end. -/
def suffix (tri : FVec F S256x256 .bf16) (c : FVec F S256x256 .f32) : FVec F S256x256 .f32 :=
  matmul dot_S256x256_S256x256_S256x256_1_0_0_1_n_n none (truncf .bf16 c bitsLt_bf16_f32) tri
    (constant S256x256 .f32 0x00000000#32)

/-- A head's state: minus what the keys seen so far cost, and the sum of weighted values so far. -/
abbrev State (F : FTy → Type) : Type := FVec F S256x1 .f32 × FVec F S256x128 .f32

/-- The state before any tile. -/
def start : State F :=
  (broadcast S256x1 (Scalar.ofBits .f32 0x00000000#32), broadcast S256x128 (Scalar.ofBits .f32 0x00000000#32))

/-- The state after one more tile. -/
def step (d : Bool) (tri : FVec F S256x256 .bf16) (q k v : Vec F S256x128 .bf16) (s : State F) : State F :=
  (addf s.1 (extractStridedSlice S256x1 ![0, 0] (suffix tri (keep d (costs (logits q k)))) slices_S256x256_o0_0_S256x1),
   addf s.2 (matmul dot_S256x256_S256x128_S256x128_1_0_0_1_n_n none
     (truncf .bf16 (keep d (exp2 (addf (addf (logits q k) (suffix tri (keep d (costs (logits q k)))))
       (broadcastTo S256x256 s.1 broadcasts_S256x1_S256x256)))) bitsLt_bf16_f32)
     (shapeCast S256x128 v shapeCasts_S256x128_S256x128) (constant S256x128 .f32 0x00000000#32)))

/-! ### The tiles of a block -/

/-- Where a tile of keys (or values) begins: a row and a column within bounds. -/
abbrev Place : Type := { o : Fin 2 → ℕ // ∀ a, o a + S256x128.size a ≤ S4096x1024.size a }

/-- The tile at a place. -/
def tileAt (x : Vec F S4096x1024 .bf16) (o : Place) : Vec F S256x128 .bf16 :=
  View.ld x (Rect.unit o.1 S256x128.size o.2)

theorem head_inb (h : Fin 8) : ∀ a, (![0, 128 * h.val] : Fin 2 → ℕ) a + S256x128.size a ≤ S256x1024.size a := by
  revert h; decide

/-- The columns of one head of a block of queries. -/
def headOf (x : Vec F S256x1024 .bf16) (h : Fin 8) : Vec F S256x128 .bf16 :=
  View.ld x (Rect.unit ![0, 128 * h.val] S256x128.size (head_inb h))

/-- The update of one head at the tile at `o`. -/
def stepAt (d : Bool) (tri : FVec F S256x256 .bf16) (xq : Vec F S256x1024 .bf16) (xk xv : Vec F S4096x1024 .bf16)
    (o : Fin 8 → Place) (h : Fin 8) (s : State F) : State F :=
  step d tri (headOf xq h) (tileAt xk (o h)) (tileAt xv (o h)) s

/-- Four tiles in turn: a trip of the loop. -/
def tripAt (tri : FVec F S256x256 .bf16) (xq : Vec F S256x1024 .bf16) (xk xv : Vec F S4096x1024 .bf16)
    (o : Fin 4 → Fin 8 → Place) (h : Fin 8) (s : State F) : State F :=
  stepAt false tri xq xk xv (o 3) h (stepAt false tri xq xk xv (o 2) h
    (stepAt false tri xq xk xv (o 1) h (stepAt false tri xq xk xv (o 0) h s)))

/-! ### What the 8 heads store -/

theorem col_inb (h : Fin 8) : ∀ a, (![h.val, 0, 0] : Fin 3 → ℕ) a + S1x256x1.size a ≤ S8x256x1.size a := by
  revert h; decide
theorem plane_inb (h : Fin 8) : ∀ a, (![h.val, 0, 0] : Fin 3 → ℕ) a + S1x256x128.size a ≤ S8x256x128.size a := by
  revert h; decide

/-- Where a head's column lies among the 8. -/
abbrev colRect (h : Fin 8) : Rect S8x256x1 := Rect.unit ![h.val, 0, 0] S1x256x1.size (col_inb h)
/-- Where a head's accumulator lies among the 8. -/
abbrev planeRect (h : Fin 8) : Rect S8x256x128 := Rect.unit ![h.val, 0, 0] S1x256x128.size (plane_inb h)

def colPiece (P : Fin 8 → FVec F S256x1 .f32) (h : Fin 8) : View.Piece (Elt F) S8x256x1 .f32 :=
  ⟨colRect h, shapeCast S1x256x1 (P h) shapeCasts_S256x1_S1x256x1⟩
def planePiece (P : Fin 8 → FVec F S256x128 .f32) (h : Fin 8) : View.Piece (Elt F) S8x256x128 .f32 :=
  ⟨planeRect h, shapeCast S1x256x128 (P h) shapeCasts_S256x128_S1x256x128⟩

/-- The 8 columns stored one after the other (the last first). -/
def colPieces (P : Fin 8 → FVec F S256x1 .f32) : List (View.Piece (Elt F) S8x256x1 .f32) :=
  [colPiece P 7, colPiece P 6, colPiece P 5, colPiece P 4, colPiece P 3, colPiece P 2, colPiece P 1, colPiece P 0]
/-- The 8 accumulators stored one after the other (the last first). -/
def planePieces (P : Fin 8 → FVec F S256x128 .f32) : List (View.Piece (Elt F) S8x256x128 .f32) :=
  [planePiece P 7, planePiece P 6, planePiece P 5, planePiece P 4, planePiece P 3, planePiece P 2, planePiece P 1,
    planePiece P 0]

/-- A head's state as loaded from the two buffers of 8. -/
def loaded (C : Vec F S8x256x1 .f32) (A : Vec F S8x256x128 .f32) (h : Fin 8) : State F :=
  (shapeCast S256x1 (View.ld C (colRect h)) shapeCasts_S1x256x1_S256x1,
   shapeCast S256x128 (View.ld A (planeRect h)) shapeCasts_S1x256x128_S256x128)

/-- The tile of each head at step `j` of a trip. -/
def tripPlace (i : grid0.Coords) (k : Fin (k0_t1_loop i).trips) (j : Fin 4) : Fin 8 → Place :=
  ![⟨k0_off33 i k (BitVec.ofNat 32 j.val), k0_off33_inb i k j⟩, ⟨k0_off34 i k (BitVec.ofNat 32 j.val), k0_off34_inb i k j⟩,
    ⟨k0_off35 i k (BitVec.ofNat 32 j.val), k0_off35_inb i k j⟩, ⟨k0_off36 i k (BitVec.ofNat 32 j.val), k0_off36_inb i k j⟩,
    ⟨k0_off37 i k (BitVec.ofNat 32 j.val), k0_off37_inb i k j⟩, ⟨k0_off38 i k (BitVec.ofNat 32 j.val), k0_off38_inb i k j⟩,
    ⟨k0_off39 i k (BitVec.ofNat 32 j.val), k0_off39_inb i k j⟩, ⟨k0_off40 i k (BitVec.ofNat 32 j.val), k0_off40_inb i k j⟩]

/-- What a trip stores: every head's state after the trip's four tiles. -/
theorem trip_eq (𝒱 : Variants) (c : Dev nD) (bd : Option 𝒱.V) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x256 .bf16) (harg6 : arg6.IsWhole) (arg7 : Memref sig .tc .vmem S256x1024 .bf16) (harg7 : arg7.IsWhole) (arg8 : Memref sig .tc .vmem S8x256x1 .f32) (harg8 : arg8.IsWhole) (arg9 : Memref sig .tc .vmem S8x256x128 .f32) (harg9 : arg9.IsWhole) (v1 : FVec F S256x256 .bf16) (v26 v27' v27 v29 v31 : BitVec 32) (X_arg3 : BufTy.Contents (Elt F) arg3.view.ty) (X_arg4 : BufTy.Contents (Elt F) arg4.view.ty) (X_arg5 : BufTy.Contents (Elt F) arg5.view.ty) (k : Fin (k0_t1_loop i).trips) (f_arg8 : BufTy.Contents (Elt F) arg8.view.ty) (f_arg9 : BufTy.Contents (Elt F) arg9.view.ty) :
    tripL_k0_t1 (F := F) 𝒱 c bd i arg3 harg3 arg4 harg4 arg5 harg5 arg6 harg6 arg7 harg7 arg8 harg8 arg9 harg9 v1 v26 v27' v27 v29 v31 X_arg3 X_arg4 X_arg5 k f_arg8 f_arg9
      = (colPieces fun h => (tripAt v1 (arg3.view.read _ X_arg3) (arg4.view.read _ X_arg4) (arg5.view.read _ X_arg5)
            (tripPlace i k) h (loaded (arg8.view.read _ f_arg8) (arg9.view.read _ f_arg9) h)).1,
         planePieces fun h => (tripAt v1 (arg3.view.read _ X_arg3) (arg4.view.read _ X_arg4) (arg5.view.read _ X_arg5)
            (tripPlace i k) h (loaded (arg8.view.read _ f_arg8) (arg9.view.read _ f_arg9) h)).2) := by
  unfold tripL_k0_t1 trip_k0_t1
  dsimp only
  rfl

end Cert.KernelIdeal.Stick
-- ==== Proof.Val.Cases.lean ====
/- WHAT A POINT OF THE GRID LEAVES IN THE OUTPUT BLOCK, BEFORE ITS LOOP IS READ.

   A point's first sweep takes one to four tiles, the diagonal one first; the loop then takes four tiles a trip, and
   the eight accumulators are cast and stored side by side.  In each of the four cases the block is `Final` of the
   states after that case's first sweep. -/
module
public import proofs.«01_k».proof.Proof.Val.Steps
@[expose] public section
set_option maxRecDepth 16384
noncomputable section
namespace Cert.KernelIdeal.Stick
open Idealize.ShloMosaic Idealize.ShloMosaic.TcCoe Idealize.ShloMosaic.Tactic
open Idealize.SL Idealize.SL.RA Idealize.SL.BI Idealize.SL.Sem
open Cert.KernelIdeal.Gen
variable {F : FTy → Type} [FloatOps F] [Named F]

/-- A head's columns of the output block, holding its cast accumulator. -/
def outPiece (P : Fin 8 → FVec F S256x128 .f32) (h : Fin 8) : View.Piece (Elt F) S256x1024 .bf16 :=
  ⟨Rect.unit ![0, 128 * h.val] S256x128.size (head_inb h), truncf .bf16 (P h) bitsLt_bf16_f32⟩

/-- The 8 stores of the output block (the last first). -/
def outPieces (P : Fin 8 → FVec F S256x128 .f32) : List (View.Piece (Elt F) S256x1024 .bf16) :=
  [outPiece P 7, outPiece P 6, outPiece P 5, outPiece P 4, outPiece P 3, outPiece P 2, outPiece P 1, outPiece P 0]

section
variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x256 .bf16) (harg6 : arg6.IsWhole) (arg7 : Memref sig .tc .vmem S256x1024 .bf16) (harg7 : arg7.IsWhole) (arg8 : Memref sig .tc .vmem S8x256x1 .f32) (harg8 : arg8.IsWhole) (arg9 : Memref sig .tc .vmem S8x256x128 .f32) (harg9 : arg9.IsWhole)
  (x0 : Vec F S256x1024 .bf16) (x1 : Vec F S4096x1024 .bf16) (x2 : Vec F S4096x1024 .bf16) (x3 : Vec F S256x256 .bf16)

/-- The triangular matrix as the kernel reads it. -/
def triOf : FVec F S256x256 .bf16 :=
  k0_pay867 (View.readAt (Elt F) arg6.view (Rect.unit ![0, 0] S256x256.size inb_S256x256_S256x256_0_0).toLoadRect
    (harg6.unread x3))

/-- The state of head `h` after the tiles `os`, the first of them the diagonal one. -/
def sweep (o : Fin 8 → Place) (os : List (Fin 8 → Place)) (h : Fin 8) : State F :=
  os.foldl (fun s o => stepAt false (triOf arg6 harg6 x3) (arg3.view.read _ (harg3.unread x0))
      (arg4.view.read _ (harg4.unread x1)) (arg5.view.read _ (harg5.unread x2)) o h s)
    (stepAt true (triOf arg6 harg6 x3) (arg3.view.read _ (harg3.unread x0))
      (arg4.view.read _ (harg4.unread x1)) (arg5.view.read _ (harg5.unread x2)) o h start)

/-- The block `out` is stored from the accumulators that the loop leaves after starting from the states `P` (the
    remainder loop's pieces come last, and there are none where that loop makes no trip). -/
def Final (P : Fin 8 → State F) (out : Vec F S256x1024 .bf16) : Prop :=
  ∃ (v26 v27' v27 v29 v31 : BitVec 32) (C0 : List (View.Piece (Elt F) S8x256x1 .f32))
    (A0 L2 : List (View.Piece (Elt F) S8x256x128 .f32)),
    (out = View.read (Elt F) VO0_4 (VO0_4.writes (Elt F) VO0_4.junk (outPieces fun h =>
      shapeCast S256x128 (arg9.view.readCov (L2 ++ ((pb_k0_t1 (F := F) Variants.none c none i arg3 harg3 arg4 harg4 arg5 harg5 arg6 harg6 arg7 harg7 arg8 harg8 arg9 harg9
          (triOf arg6 harg6 x3) v26 v27' v27 v29 v31 (harg3.unread x0) (harg4.unread x1) (harg5.unread x2)
          (arg8.view.writes (Elt F) arg8.view.junk C0) (arg9.view.writes (Elt F) arg9.view.junk A0)
          (k0_t1_loop i).trips).2 ++ A0)) (planeRect h).toLoadRect) shapeCasts_S1x256x128_S256x128))) ∧
    C0 = (colPieces fun h => (P h).1) ∧ A0 = (planePieces fun h => (P h).2) ∧
    ((k0_t2_loop i).trips = 0 → L2 = [])

/-- Each head's tile, where the first sweep takes one tile. -/
def placeA (hc : cond0_0 i) : Fin 8 → Place :=
  ![⟨k0_off1 i, k0_off1_inb i hc⟩,
    ⟨k0_off2 i, k0_off2_inb i hc⟩,
    ⟨k0_off3 i, k0_off3_inb i hc⟩,
    ⟨k0_off4 i, k0_off4_inb i hc⟩,
    ⟨k0_off5 i, k0_off5_inb i hc⟩,
    ⟨k0_off6 i, k0_off6_inb i hc⟩,
    ⟨k0_off7 i, k0_off7_inb i hc⟩,
    ⟨k0_off8 i, k0_off8_inb i hc⟩]

theorem final_A (hc0 : cond0_0 i) (hc1 : ¬cond0_1 i) (hc2 : ¬cond0_2 i) (hc3 : ¬cond0_3 i) :
    Final c i arg3 harg3 arg4 harg4 arg5 harg5 arg6 harg6 arg7 harg7 arg8 harg8 arg9 harg9 x0 x1 x2 x3 (sweep arg3 harg3 arg4 harg4 arg5 harg5 arg6 harg6 x0 x1 x2 x3 (placeA i hc0) [])
      (out0_A_4 c i arg3 harg3 arg4 harg4 arg5 harg5 arg6 harg6 arg7 harg7 arg8 harg8 arg9 harg9 hc0 hc1 hc2 hc3 x0 x1 x2 x3) := by
  unfold Final
  frame_open
  refine ⟨_, _, _, _, _, _, _, (pb_k0_t2 (F := F) Variants.none c none i arg3 harg3 arg4 harg4 arg5 harg5 arg6 harg6 arg7 harg7 arg8 harg8 arg9 harg9 _ _ _ _ _ _ _ _ _ _ _ _ _).2, rfl, rfl, rfl, fun h0 => ?_⟩
  rw [show Scf.trips (k0_t2_loop i).lb (k0_t2_loop i).ub (k0_t2_loop i).st = 0 from h0]
  rfl

/-- Each head's tile at step `j`, where the first sweep takes two tiles. -/
def placeB (hc : cond0_1 i) (j : Fin 2) : Fin 8 → Place :=
  ![⟨k0_off9 i (BitVec.ofNat 32 j.val), k0_off9_inb i hc j⟩,
    ⟨k0_off10 i (BitVec.ofNat 32 j.val), k0_off10_inb i hc j⟩,
    ⟨k0_off11 i (BitVec.ofNat 32 j.val), k0_off11_inb i hc j⟩,
    ⟨k0_off12 i (BitVec.ofNat 32 j.val), k0_off12_inb i hc j⟩,
    ⟨k0_off13 i (BitVec.ofNat 32 j.val), k0_off13_inb i hc j⟩,
    ⟨k0_off14 i (BitVec.ofNat 32 j.val), k0_off14_inb i hc j⟩,
    ⟨k0_off15 i (BitVec.ofNat 32 j.val), k0_off15_inb i hc j⟩,
    ⟨k0_off16 i (BitVec.ofNat 32 j.val), k0_off16_inb i hc j⟩]

theorem final_B (hc0 : ¬cond0_0 i) (hc1 : cond0_1 i) (hc2 : ¬cond0_2 i) (hc3 : ¬cond0_3 i) :
    Final c i arg3 harg3 arg4 harg4 arg5 harg5 arg6 harg6 arg7 harg7 arg8 harg8 arg9 harg9 x0 x1 x2 x3 (sweep arg3 harg3 arg4 harg4 arg5 harg5 arg6 harg6 x0 x1 x2 x3 (placeB i hc1 0) [placeB i hc1 1])
      (out0_B_4 c i arg3 harg3 arg4 harg4 arg5 harg5 arg6 harg6 arg7 harg7 arg8 harg8 arg9 harg9 hc0 hc1 hc2 hc3 x0 x1 x2 x3) := by
  unfold Final
  frame_open
  refine ⟨_, _, _, _, _, _, _, (pb_k0_t2 (F := F) Variants.none c none i arg3 harg3 arg4 harg4 arg5 harg5 arg6 harg6 arg7 harg7 arg8 harg8 arg9 harg9 _ _ _ _ _ _ _ _ _ _ _ _ _).2, rfl, rfl, rfl, fun h0 => ?_⟩
  rw [show Scf.trips (k0_t2_loop i).lb (k0_t2_loop i).ub (k0_t2_loop i).st = 0 from h0]
  rfl

/-- Each head's tile at step `j`, where the first sweep takes three tiles. -/
def placeC (hc : cond0_2 i) (j : Fin 3) : Fin 8 → Place :=
  ![⟨k0_off17 i (BitVec.ofNat 32 j.val), k0_off17_inb i hc j⟩,
    ⟨k0_off18 i (BitVec.ofNat 32 j.val), k0_off18_inb i hc j⟩,
    ⟨k0_off19 i (BitVec.ofNat 32 j.val), k0_off19_inb i hc j⟩,
    ⟨k0_off20 i (BitVec.ofNat 32 j.val), k0_off20_inb i hc j⟩,
    ⟨k0_off21 i (BitVec.ofNat 32 j.val), k0_off21_inb i hc j⟩,
    ⟨k0_off22 i (BitVec.ofNat 32 j.val), k0_off22_inb i hc j⟩,
    ⟨k0_off23 i (BitVec.ofNat 32 j.val), k0_off23_inb i hc j⟩,
    ⟨k0_off24 i (BitVec.ofNat 32 j.val), k0_off24_inb i hc j⟩]

theorem final_C (hc0 : ¬cond0_0 i) (hc1 : ¬cond0_1 i) (hc2 : cond0_2 i) (hc3 : ¬cond0_3 i) :
    Final c i arg3 harg3 arg4 harg4 arg5 harg5 arg6 harg6 arg7 harg7 arg8 harg8 arg9 harg9 x0 x1 x2 x3 (sweep arg3 harg3 arg4 harg4 arg5 harg5 arg6 harg6 x0 x1 x2 x3 (placeC i hc2 0) [placeC i hc2 1, placeC i hc2 2])
      (out0_C_4 c i arg3 harg3 arg4 harg4 arg5 harg5 arg6 harg6 arg7 harg7 arg8 harg8 arg9 harg9 hc0 hc1 hc2 hc3 x0 x1 x2 x3) := by
  unfold Final
  frame_open
  refine ⟨_, _, _, _, _, _, _, (pb_k0_t2 (F := F) Variants.none c none i arg3 harg3 arg4 harg4 arg5 harg5 arg6 harg6 arg7 harg7 arg8 harg8 arg9 harg9 _ _ _ _ _ _ _ _ _ _ _ _ _).2, rfl, rfl, rfl, fun h0 => ?_⟩
  rw [show Scf.trips (k0_t2_loop i).lb (k0_t2_loop i).ub (k0_t2_loop i).st = 0 from h0]
  rfl

/-- Each head's tile at step `j`, where the first sweep takes four tiles. -/
def placeD (hc : cond0_3 i) (j : Fin 4) : Fin 8 → Place :=
  ![⟨k0_off25 i (BitVec.ofNat 32 j.val), k0_off25_inb i hc j⟩,
    ⟨k0_off26 i (BitVec.ofNat 32 j.val), k0_off26_inb i hc j⟩,
    ⟨k0_off27 i (BitVec.ofNat 32 j.val), k0_off27_inb i hc j⟩,
    ⟨k0_off28 i (BitVec.ofNat 32 j.val), k0_off28_inb i hc j⟩,
    ⟨k0_off29 i (BitVec.ofNat 32 j.val), k0_off29_inb i hc j⟩,
    ⟨k0_off30 i (BitVec.ofNat 32 j.val), k0_off30_inb i hc j⟩,
    ⟨k0_off31 i (BitVec.ofNat 32 j.val), k0_off31_inb i hc j⟩,
    ⟨k0_off32 i (BitVec.ofNat 32 j.val), k0_off32_inb i hc j⟩]

theorem final_D (hc0 : ¬cond0_0 i) (hc1 : ¬cond0_1 i) (hc2 : ¬cond0_2 i) (hc3 : cond0_3 i) :
    Final c i arg3 harg3 arg4 harg4 arg5 harg5 arg6 harg6 arg7 harg7 arg8 harg8 arg9 harg9 x0 x1 x2 x3 (sweep arg3 harg3 arg4 harg4 arg5 harg5 arg6 harg6 x0 x1 x2 x3 (placeD i hc3 0) [placeD i hc3 1, placeD i hc3 2, placeD i hc3 3])
      (out0_D_4 c i arg3 harg3 arg4 harg4 arg5 harg5 arg6 harg6 arg7 harg7 arg8 harg8 arg9 harg9 hc0 hc1 hc2 hc3 x0 x1 x2 x3) := by
  unfold Final
  frame_open
  refine ⟨_, _, _, _, _, _, _, (pb_k0_t2 (F := F) Variants.none c none i arg3 harg3 arg4 harg4 arg5 harg5 arg6 harg6 arg7 harg7 arg8 harg8 arg9 harg9 _ _ _ _ _ _ _ _ _ _ _ _ _).2, rfl, rfl, rfl, fun h0 => ?_⟩
  rw [show Scf.trips (k0_t2_loop i).lb (k0_t2_loop i).ub (k0_t2_loop i).st = 0 from h0]
  rfl

end
end Cert.KernelIdeal.Stick
-- ==== Proof.Val.Loop.lean ====
/- THE LOOP READ: WHAT A POINT LEAVES IN THE OUTPUT BLOCK IS THE STATE ITERATED OVER ITS TRIPS. -/
module
public import proofs.«01_k».proof.Proof.Val.Cases
@[expose] public section
set_option maxRecDepth 16384
noncomputable section
namespace Cert.KernelIdeal.Stick
open Idealize.ShloMosaic Idealize.ShloMosaic.TcCoe Idealize.ShloMosaic.Tactic
open Idealize.SL Idealize.SL.RA Idealize.SL.BI Idealize.SL.Sem
open Cert.KernelIdeal.Gen
variable {F : FTy → Type} [FloatOps F] [Named F]

/-! ### The words -/

theorem trips_rest : ∀ i : grid0.Coords, (k0_t2_loop i).trips = 0 := by decide +kernel

theorem trips_main : ∀ i : grid0.Coords, (k0_t1_loop i).trips = (i 2).val / 4 := by decide +kernel

/-- Step `j` of trip `k` is at the tile `4k + j + 1` before the loop's first row. -/
theorem tripPlace_eq : ∀ (i : grid0.Coords) (k : Fin (k0_t1_loop i).trips) (j : Fin 4) (h : Fin 8),
    (tripPlace i k j h).1 = ![256 * (4 * ((i 2).val / 4) - 1 - 4 * k.val - j.val), 128 * h.val] := by decide +kernel

theorem placeA_eq : ∀ (i : grid0.Coords) (hc : cond0_0 i) (h : Fin 8),
    (placeA i hc h).1 = ![256 * (i 2).val, 128 * h.val] := by decide +kernel
theorem placeB_eq : ∀ (i : grid0.Coords) (hc : cond0_1 i) (j : Fin 2) (h : Fin 8),
    (placeB i hc j h).1 = ![256 * ((i 2).val - j.val), 128 * h.val] := by decide +kernel
theorem placeC_eq : ∀ (i : grid0.Coords) (hc : cond0_2 i) (j : Fin 3) (h : Fin 8),
    (placeC i hc j h).1 = ![256 * ((i 2).val - j.val), 128 * h.val] := by decide +kernel
theorem placeD_eq : ∀ (i : grid0.Coords) (hc : cond0_3 i) (j : Fin 4) (h : Fin 8),
    (placeD i hc j h).1 = ![256 * ((i 2).val - j.val), 128 * h.val] := by decide +kernel

/-! ### The 8 states side by side -/

theorem cols_cover (P : Fin 8 → FVec F S256x1 .f32) (y : S8x256x1.Idx) : ∃ p ∈ colPieces P, y ∈ p.1.set :=
  View.cover_of_tiled (colPieces P) S1x256x1.size (by rfl) y
theorem planes_cover (P : Fin 8 → FVec F S256x128 .f32) (y : S8x256x128.Idx) : ∃ p ∈ planePieces P, y ∈ p.1.set :=
  View.cover_of_tiled (planePieces P) S1x256x128.size (by rfl) y

theorem colPieces_ofFn (P : Fin 8 → FVec F S256x1 .f32) :
    colPieces P = List.ofFn fun k : Fin 8 => colPiece P k.rev := rfl
theorem planePieces_ofFn (P : Fin 8 → FVec F S256x128 .f32) :
    planePieces P = List.ofFn fun k : Fin 8 => planePiece P k.rev := rfl

theorem ld_cols (P : Fin 8 → FVec F S256x1 .f32) (h : Fin 8) :
    View.ld (View.canon (colPieces P)) (colRect h) = shapeCast S1x256x1 (P h) shapeCasts_S256x1_S1x256x1 := by
  obtain ⟨n, rfl⟩ := Fin.rev_surjective h
  funext x
  have e := View.canon_ofFn_emb_of_disjoint (Val := Elt F) (e := .f32) (fun k : Fin 8 => colRect k.rev)
    (fun k => shapeCast S1x256x1 (P k.rev) shapeCasts_S256x1_S1x256x1)
    (fun k k' hk => Rect.unit_disjoint 0 (by
      have : k.val ≠ k'.val := fun e => hk (Fin.ext e)
      show 8 - (k.val + 1) + 1 ≤ 8 - (k'.val + 1) ∨ 8 - (k'.val + 1) + 1 ≤ 8 - (k.val + 1)
      omega)) n x
  rw [colPieces_ofFn]
  exact e

theorem ld_planes (P : Fin 8 → FVec F S256x128 .f32) (h : Fin 8) :
    View.ld (View.canon (planePieces P)) (planeRect h) = shapeCast S1x256x128 (P h) shapeCasts_S256x128_S1x256x128 := by
  obtain ⟨n, rfl⟩ := Fin.rev_surjective h
  funext x
  have e := View.canon_ofFn_emb_of_disjoint (Val := Elt F) (e := .f32) (fun k : Fin 8 => planeRect k.rev)
    (fun k => shapeCast S1x256x128 (P k.rev) shapeCasts_S256x128_S1x256x128)
    (fun k k' hk => Rect.unit_disjoint 0 (by
      have : k.val ≠ k'.val := fun e => hk (Fin.ext e)
      show 8 - (k.val + 1) + 1 ≤ 8 - (k'.val + 1) ∨ 8 - (k'.val + 1) + 1 ≤ 8 - (k.val + 1)
      omega)) n x
  rw [planePieces_ofFn]
  exact e

theorem loaded_canon (P : Fin 8 → State F) (h : Fin 8) :
    loaded (View.canon (colPieces fun h => (P h).1)) (View.canon (planePieces fun h => (P h).2)) h = P h := by
  unfold loaded
  rw [ld_cols, ld_planes]
  exact Prod.ext (shapeCast_shapeCast _ _ _) (shapeCast_shapeCast _ _ _)

/-! ### The trips -/

section
variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x256 .bf16) (harg6 : arg6.IsWhole) (arg7 : Memref sig .tc .vmem S256x1024 .bf16) (harg7 : arg7.IsWhole) (arg8 : Memref sig .tc .vmem S8x256x1 .f32) (harg8 : arg8.IsWhole) (arg9 : Memref sig .tc .vmem S8x256x128 .f32) (harg9 : arg9.IsWhole)
  (x0 : Vec F S256x1024 .bf16) (x1 : Vec F S4096x1024 .bf16) (x2 : Vec F S4096x1024 .bf16) (x3 : Vec F S256x256 .bf16)

/-- The states after `n` trips from the states `P`. -/
def iter (tri : FVec F S256x256 .bf16) (P : Fin 8 → State F) : ℕ → Fin 8 → State F
  | 0, h => P h
  | n + 1, h => if hn : n < (k0_t1_loop i).trips then tripAt tri x0 x1 x2 (tripPlace i ⟨n, hn⟩) h (iter tri P n h)
      else iter tri P n h

/-- The first sweep, on the blocks themselves. -/
def sweep' (o : Fin 8 → Place) (os : List (Fin 8 → Place)) (h : Fin 8) : State F :=
  os.foldl (fun s o => stepAt false x3 x0 x1 x2 o h s) (stepAt true x3 x0 x1 x2 o h start)

theorem triOf_eq : triOf arg6 harg6 x3 = x3 := by
  unfold triOf
  rw [View.readAt_eq_ld, harg6.read_unread]
  show shapeCast S256x256 _ _ = _
  rw [shapeCast_self]
  funext x
  exact congrArg x3 (funext fun a => Fin.ext (by
    show (![0, 0] : Fin 2 → ℕ) a + 1 * (x a).val = (x a).val
    fin_cases a <;> simp))

theorem sweep_eq (o : Fin 8 → Place) (os : List (Fin 8 → Place)) (h : Fin 8) :
    sweep arg3 harg3 arg4 harg4 arg5 harg5 arg6 harg6 x0 x1 x2 x3 o os h = sweep' x0 x1 x2 x3 o os h := by
  unfold sweep sweep'
  rw [triOf_eq, harg3.read_unread, harg4.read_unread, harg5.read_unread]

/-- After `n` trips the two buffers hold the iterated states. -/
theorem read_trips (tri : FVec F S256x256 .bf16) (v26 v27' v27 v29 v31 : BitVec 32) (P : Fin 8 → State F)
    (G8 : BufTy.Contents (Elt F) arg8.view.ty) (G9 : BufTy.Contents (Elt F) arg9.view.ty)
    (h8 : arg8.view.read (Elt F) G8 = View.canon (colPieces fun h => (P h).1))
    (h9 : arg9.view.read (Elt F) G9 = View.canon (planePieces fun h => (P h).2)) (n : ℕ) (hn : n ≤ (k0_t1_loop i).trips) :
    arg8.view.read (Elt F) (arg8.view.writes (Elt F) G8 (pb_k0_t1 (F := F) Variants.none c none i arg3 harg3 arg4 harg4 arg5 harg5 arg6 harg6 arg7 harg7 arg8 harg8 arg9 harg9
        tri v26 v27' v27 v29 v31 (harg3.unread x0) (harg4.unread x1) (harg5.unread x2) G8 G9 n).1)
      = View.canon (colPieces fun h => (iter i x0 x1 x2 tri P n h).1) ∧
    arg9.view.read (Elt F) (arg9.view.writes (Elt F) G9 (pb_k0_t1 (F := F) Variants.none c none i arg3 harg3 arg4 harg4 arg5 harg5 arg6 harg6 arg7 harg7 arg8 harg8 arg9 harg9
        tri v26 v27' v27 v29 v31 (harg3.unread x0) (harg4.unread x1) (harg5.unread x2) G8 G9 n).2)
      = View.canon (planePieces fun h => (iter i x0 x1 x2 tri P n h).2) := by
  induction n with
  | zero => exact ⟨h8, h9⟩
  | succ n ih =>
    obtain ⟨i8, i9⟩ := ih (by omega)
    rw [pb_k0_t1_succ (k := ⟨n, hn⟩), trip_eq]
    dsimp only
    rw [i8, i9, harg3.read_unread, harg4.read_unread, harg5.read_unread]
    simp only [loaded_canon]
    rw [View.writes_append, View.writes_append, View.read_writes_eq_canon _ _ _ (cols_cover _),
      View.read_writes_eq_canon _ _ _ (planes_cover _)]
    have hi : ∀ h, iter i x0 x1 x2 tri P (n + 1) h
        = tripAt tri x0 x1 x2 (tripPlace i ⟨n, hn⟩) h (iter i x0 x1 x2 tri P n h) := fun h => dif_pos hn
    simp only [hi]
    exact ⟨trivial, trivial⟩

/-- The output block: every head's accumulator after the trips, cast. -/
theorem Final.eq {P : Fin 8 → State F} {out : Vec F S256x1024 .bf16}
    (H : Final c i arg3 harg3 arg4 harg4 arg5 harg5 arg6 harg6 arg7 harg7 arg8 harg8 arg9 harg9 x0 x1 x2 x3 P out) :
    out = View.canon (outPieces fun h => (iter i x0 x1 x2 x3 P (k0_t1_loop i).trips h).2) := by
  obtain ⟨v26, v27', v27, v29, v31, C0, A0, L2, rfl, rfl, rfl, hL⟩ := H
  rw [hL (trips_rest i), List.nil_append, View.read_writes_junk_eq_canon, triOf_eq]
  have hr := (read_trips c i arg3 harg3 arg4 harg4 arg5 harg5 arg6 harg6 arg7 harg7 arg8 harg8 arg9 harg9 x0 x1 x2 x3 v26 v27' v27 v29 v31 P
    (arg8.view.writes (Elt F) arg8.view.junk (colPieces fun h => (P h).1))
    (arg9.view.writes (Elt F) arg9.view.junk (planePieces fun h => (P h).2))
    (View.read_writes_junk_eq_canon _ _) (View.read_writes_junk_eq_canon _ _) _ le_rfl).2
  refine congrArg (fun Q => View.canon (outPieces Q)) (funext fun h => ?_)
  unfold View.readCov
  rw [View.readAt_eq_ld, View.writes_append, hr, ld_planes]
  exact shapeCast_shapeCast _ _ _

/-- At row `r` and column `d` of head `h`, the output block holds that accumulator's entry. -/
theorem out_apply (Q : Fin 8 → FVec F S256x128 .f32) (h : Fin 8) (x : S256x128.Idx) :
    View.canon (outPieces Q) ((Rect.unit ![0, 128 * h.val] S256x128.size (head_inb h) : Rect S256x1024).emb x)
      = truncf .bf16 (Q h) bitsLt_bf16_f32 x := by
  obtain ⟨n, rfl⟩ := Fin.rev_surjective h
  have e := View.canon_ofFn_emb_of_disjoint (Val := Elt F) (e := .bf16)
    (fun k : Fin 8 => (Rect.unit ![0, 128 * k.rev.val] S256x128.size (head_inb k.rev) : Rect S256x1024))
    (fun k => (truncf .bf16 (Q k.rev) bitsLt_bf16_f32 : FVec F S256x128 .bf16))
    (fun k k' hk => Rect.unit_disjoint 1 (by
      have : k.val ≠ k'.val := fun e => hk (Fin.ext e)
      show 128 * (8 - (k.val + 1)) + 128 ≤ 128 * (8 - (k'.val + 1)) ∨ 128 * (8 - (k'.val + 1)) + 128 ≤ 128 * (8 - (k.val + 1))
      omega)) n x
  exact e
end
end Cert.KernelIdeal.Stick
-- ==== Proof.Val.Rows.lean ====
/- One query row swept tile by tile: the sums a tile of 256 keys adds to the running cost and to the row's output, when
   the keys after the tile have been swept before it. -/
module

public import proofs.«01_k».proof.Proof.Val.Weights
public import Mathlib.Algebra.BigOperators.Intervals

@[expose] public section

noncomputable section

namespace Cert.Stick

open Idealize.ShloMosaic Finset

/-- What the keys from `s` up to the query `t` cost, of raw scores `x`. -/
def spent (x : ℕ → EReal) (s t : ℕ) : ℝ := ∑ j ∈ Ico s t, cost (x j)

/-- The output of query `t` from the keys `lo`, …, `t - 1`: their values, each times its weight. -/
def outFrom (x v : ℕ → EReal) (t lo : ℕ) : EReal := ∑ s ∈ Ico lo t, weight (x s) (spent x s t) * v s

theorem spent_add (x : ℕ → EReal) {a b c : ℕ} (hab : a ≤ b) (hbc : b ≤ c) : spent x a b + spent x b c = spent x a c :=
  sum_Ico_consecutive _ hab hbc

theorem spent_self (x : ℕ → EReal) {a b : ℕ} (h : b ≤ a) : spent x a b = 0 := by
  unfold spent; rw [Ico_eq_empty_of_le h, sum_empty]

theorem outFrom_self (x v : ℕ → EReal) (t : ℕ) : outFrom x v t t = 0 := by
  unfold outFrom; rw [Ico_self, sum_empty]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over the 256 places of a tile of which only the first `lim` count is a sum over those keys. -/
theorem sum_tile {M : Type*} [AddCommMonoid M] (f : ℕ → M) (B lim : ℕ) (hl : lim ≤ 256) :
    ∑ c : Fin 256, (if c.val < lim then f (B + c.val) else 0) = ∑ s ∈ Ico B (B + lim), f s := by
  rw [Fin.sum_univ_eq_sum_range (fun c => if c < lim then f (B + c) else 0) 256, ← sum_filter]
  have : (range 256).filter (· < lim) = range lim := by ext c; simp; omega
  rw [this, sum_Ico_eq_sum_range, Nat.add_sub_cancel_left]

/-- The tile's product with the negated triangle: at place `c` what the counted keys from there on cost, negated. -/
theorem suffix_eq (x : ℕ → EReal) (B lim : ℕ) (hl : lim ≤ 256) (c : Fin 256) (p tri : Fin 256 → EReal)
    (hp : ∀ c', p c' = if c'.val < lim then ((cost (x (B + c'.val)) : ℝ) : EReal) else 0)
    (ht : ∀ c', tri c' = if c.val ≤ c'.val then -1 else 0) :
    ∑ c', p c' * tri c' = ((-spent x (B + c.val) (B + lim) : ℝ) : EReal) := by
  have e : ∀ c' : Fin 256, p c' * tri c'
      = (((if c'.val < lim then (if c.val + B ≤ B + c'.val then -cost (x (B + c'.val)) else 0) else 0) : ℝ) : EReal) := by
    intro c'
    rw [hp, ht]
    by_cases h1 : c'.val < lim
    · by_cases h2 : c.val ≤ c'.val
      · rw [if_pos h1, if_pos h2, if_pos h1, if_pos (by omega)]; simp
      · rw [if_neg h2, if_pos h1, if_neg (by omega : ¬ c.val + B ≤ B + c'.val)]; simp
    · rw [if_neg h1, if_neg h1]; simp
  rw [sum_congr rfl fun c' _ => e c', ← coe_sum,
    sum_tile (fun s => if c.val + B ≤ s then -cost (x s) else 0) B lim hl, ← sum_filter]
  congr 1
  unfold spent
  rw [← sum_neg_distrib]
  refine sum_congr ?_ fun _ _ => rfl
  ext s; simp only [mem_filter, mem_Ico]; omega

/-- The weight the kernel forms from a score, its tile's suffix cost and the running cost. -/
theorem weight_step (x : ℕ → EReal) (B lim t c : ℕ) (hc : c < lim) (ht : B + lim ≤ t) :
    Ideal.exp2 (x (B + c) * (scale2 : EReal) + ((-spent x (B + c) (B + lim) : ℝ) : EReal)
      + ((-spent x (B + lim) t : ℝ) : EReal)) = weight (x (B + c)) (spent x (B + c) t) := by
  unfold weight
  rw [add_assoc, ← EReal.coe_add, ← spent_add x (by omega : B + c ≤ B + lim) ht, neg_add]

/-- A tile's weighted values, added to the output from the keys after it. -/
theorem outFrom_step (x v : ℕ → EReal) (B lim t : ℕ) (hl : lim ≤ 256) (ht : B + lim ≤ t) (w u : Fin 256 → EReal)
    (hw : ∀ c, w c = if c.val < lim then weight (x (B + c.val)) (spent x (B + c.val) t) else 0)
    (hu : ∀ c, u c = v (B + c.val)) :
    outFrom x v t (B + lim) + ∑ c, w c * u c = outFrom x v t B := by
  have e : ∀ c : Fin 256, w c * u c
      = if c.val < lim then weight (x (B + c.val)) (spent x (B + c.val) t) * v (B + c.val) else 0 := by
    intro c; rw [hw, hu]; split <;> simp
  rw [sum_congr rfl fun c _ => e c, sum_tile (fun s => weight (x s) (spent x s t) * v s) B lim hl, add_comm]
  exact sum_Ico_consecutive _ (by omega) ht

end Cert.Stick

end
-- ==== Proof.Val.Tile.lean ====
/- ONE TILE OVER THE EXTENDED REALS, ENTRY BY ENTRY, AND WHAT IT ADDS TO A ROW OF THE SWEEP. -/
module
public import proofs.«01_k».proof.Proof.Val.Loop
public import proofs.«01_k».proof.Proof.Val.Rows
public import Idealize.ShloMosaic.Lib.Pointwise
public import Idealize.ShloMosaic.Lib.WordCmp
@[expose] public section
set_option maxRecDepth 16384
noncomputable section
namespace Cert.KernelIdeal.Stick
open Idealize.ShloMosaic Idealize.ShloMosaic.TcCoe Idealize.ShloMosaic.Tactic
open Cert.Stick Cert.KernelIdeal.Gen

theorem logits_apply (q k : Vec Ideal S256x128 .bf16) (r c : Fin 256) :
    logits q k (ix2 r c) = ∑ d : Fin 128, q (ix2 r d) * k (ix2 c d) := by
  pointwise [logits]

theorem costs_apply (z : FVec Ideal S256x256 .f32) (r c : Fin 256) :
    costs z (ix2 r c) = max (z (ix2 r c)) (Ideal.log (1 + Ideal.exp2 (min (z (ix2 r c)) ((64 : ℝ) : EReal)))
      * (((Real.log 2)⁻¹ : ℝ) : EReal)) := by
  have h64 : Ideal.ofBits .f32 0x42800000#32 = ((64 : ℝ) : EReal) := by
    simp [Ideal.ofBits, Ideal.ieee, -EReal.coe_mul]; norm_num
  have hk : Named.named (F := Ideal) κ "log2_e" (φ := .f32) 0x3FB8AA3B#32 = (((Real.log 2)⁻¹ : ℝ) : EReal) :=
    IdealRules.named_const.ideal_named_scalar _ _ _ _ rfl
  pointwise [costs]
  rw [h64, hk]
  rfl

theorem keep_apply (x : FVec Ideal S256x256 .f32) (r c : Fin 256) :
    keep true x (ix2 r c) = if c.val < r.val then x (ix2 r c) else 0 := by
  pointwise [keep, earlier]
  have hc := c.isLt
  have hr := r.isLt
  rw [WordCmp.cmpi_slt_ofNat (by omega) (by omega)]
  by_cases h : c.val < r.val
  · rw [if_pos h, decide_eq_true h]; rfl
  · rw [if_neg h, decide_eq_false h]; rfl

theorem suffix_apply (tri : FVec Ideal S256x256 .bf16) (x : FVec Ideal S256x256 .f32) (r c : Fin 256) :
    suffix tri x (ix2 r c) = ∑ j : Fin 256, x (ix2 r j) * tri (ix2 j c) := by
  pointwise [suffix]

theorem step_cost (d : Bool) (tri : FVec Ideal S256x256 .bf16) (q k v : Vec Ideal S256x128 .bf16) (s : State Ideal) (r : Fin 256) :
    (step d tri q k v s).1 (ix2 r 0) = s.1 (ix2 r 0) + suffix tri (keep d (costs (logits q k))) (ix2 r 0) := by
  pointwise [step]

theorem step_out (d : Bool) (tri : FVec Ideal S256x256 .bf16) (q k v : Vec Ideal S256x128 .bf16) (s : State Ideal)
    (r : Fin 256) (e : Fin 128) :
    (step d tri q k v s).2 (ix2 r e) = s.2 (ix2 r e) + ∑ c : Fin 256,
      keep d (exp2 (addf (addf (logits q k) (suffix tri (keep d (costs (logits q k)))))
       (broadcastTo S256x256 s.1 broadcasts_S256x1_S256x256))) (ix2 r c) * v (ix2 c e) := by
  pointwise [step]

theorem inner_apply (z u : FVec Ideal S256x256 .f32) (w : FVec Ideal S256x1 .f32) (r c : Fin 256) :
    exp2 (addf (addf z u) (broadcastTo S256x256 w broadcasts_S256x1_S256x256)) (ix2 r c)
      = Ideal.exp2 (z (ix2 r c) + u (ix2 r c) + w (ix2 r 0)) := by
  pointwise []
  rfl

theorem start_apply (r : Fin 256) (e : Fin 128) :
    (start : State Ideal).1 (ix2 r 0) = 0 ∧ (start : State Ideal).2 (ix2 r e) = 0 := by
  constructor <;> pointwise [start]

/-! ### A row of the sweep -/

/-- A tile of which the first `lim` keys count for row `r`: all of them, or on the diagonal those before the row. -/
def Counts (d : Bool) (r : Fin 256) (lim : ℕ) : Prop := (d = true ∧ lim = r.val) ∨ (d = false ∧ lim = 256)

theorem Counts.le {d : Bool} {r : Fin 256} {lim : ℕ} (h : Counts d r lim) : lim ≤ 256 := by
  have := r.isLt
  rcases h with ⟨-, rfl⟩ | ⟨-, rfl⟩ <;> omega

theorem Counts.keep {d : Bool} {r : Fin 256} {lim : ℕ} (h : Counts d r lim) (x : FVec Ideal S256x256 .f32) (c : Fin 256) :
    keep d x (ix2 r c) = if c.val < lim then x (ix2 r c) else 0 := by
  rcases h with ⟨rfl, rfl⟩ | ⟨rfl, rfl⟩
  · exact keep_apply x r c
  · rw [if_pos c.isLt]; rfl

/-- One tile takes a row's state from the keys after the tile to the keys from its first on. -/
theorem row_step {d : Bool} {r : Fin 256} {lim : ℕ} (hd : Counts d r lim) (e : Fin 128)
    (tri : FVec Ideal S256x256 .bf16) (q k v : Vec Ideal S256x128 .bf16) (s : State Ideal)
    (x u : ℕ → EReal) (B t : ℕ) (ht : B + lim ≤ t)
    (hx : ∀ j, j < t → x j ≤ ((500 : ℝ) : EReal))
    (htri : ∀ a c : Fin 256, tri (ix2 a c) = if c.val ≤ a.val then -1 else 0)
    (hz : ∀ c : Fin 256, ∑ a : Fin 128, q (ix2 r a) * k (ix2 c a) = x (B + c.val) * (scale2 : EReal))
    (hv : ∀ c : Fin 256, v (ix2 c e) = u (B + c.val))
    (h1 : s.1 (ix2 r 0) = ((-spent x (B + lim) t : ℝ) : EReal))
    (h2 : s.2 (ix2 r e) = outFrom x u t (B + lim)) :
    (step d tri q k v s).1 (ix2 r 0) = ((-spent x B t : ℝ) : EReal) ∧
    (step d tri q k v s).2 (ix2 r e) = outFrom x u t B := by
  have hl := hd.le
  have hc : ∀ c : Fin 256, keep d (costs (logits q k)) (ix2 r c)
      = if c.val < lim then ((cost (x (B + c.val)) : ℝ) : EReal) else 0 := by
    intro c
    rw [hd.keep]
    by_cases hcl : c.val < lim
    · rw [if_pos hcl, if_pos hcl, costs_apply, logits_apply, hz, softplus2_eq (hx _ (by omega))]
    · rw [if_neg hcl, if_neg hcl]
  have hs : ∀ c : Fin 256, suffix tri (keep d (costs (logits q k))) (ix2 r c)
      = ((-spent x (B + c.val) (B + lim) : ℝ) : EReal) := by
    intro c
    rw [suffix_apply]
    exact suffix_eq x B lim hl c _ _ hc fun a => htri a c
  refine ⟨?_, ?_⟩
  · rw [step_cost, h1, hs, ← EReal.coe_add]
    congr 1
    rw [← spent_add x (by omega : B ≤ B + lim) ht]
    simp only [Fin.val_zero, Nat.add_zero]
    ring
  · rw [step_out, h2]
    refine outFrom_step x u B lim t hl ht _ _ (fun c => ?_) hv
    rw [hd.keep, inner_apply, logits_apply, hz, hs, h1]
    by_cases hcl : c.val < lim
    · rw [if_pos hcl, if_pos hcl, weight_step x B lim t c.val hcl ht]
    · rw [if_neg hcl, if_neg hcl]

end Cert.KernelIdeal.Stick
-- ==== Proof.Val.Sweep.lean ====
/- A ROW'S STATE OVER A WHOLE POINT: AFTER THE FIRST SWEEP AND ALL TRIPS IT HOLDS THE ROW'S OUTPUT FROM EVERY EARLIER KEY. -/
module
public import proofs.«01_k».proof.Proof.Val.Tile
@[expose] public section
set_option maxRecDepth 16384
noncomputable section
namespace Cert.KernelIdeal.Stick
open Idealize.ShloMosaic Idealize.ShloMosaic.TcCoe Idealize.ShloMosaic.Tactic
open Cert.Stick Cert.KernelIdeal.Gen

/-- Column `a` of head `h` among the 1024 columns of a block. -/
def headCol (h : Fin 8) (a : Fin 128) : Fin 1024 := ⟨128 * h.val + a.val, by omega⟩

theorem headOf_apply (x : Vec Ideal S256x1024 .bf16) (h : Fin 8) (r : Fin 256) (a : Fin 128) :
    headOf x h (ix2 r a) = x (ix2 r (headCol h a)) := by
  refine congrArg x (funext fun b => Fin.ext ?_)
  fin_cases b
  · show 0 + 1 * r.val = r.val; omega
  · show 128 * h.val + 1 * a.val = 128 * h.val + a.val; omega

theorem tileAt_apply (x : Vec Ideal S4096x1024 .bf16) (o : Place) (h : Fin 8) (B : ℕ) (ho : o.1 = ![B, 128 * h.val])
    (c : Fin 256) (a : Fin 128) (hB : B + c.val < 4096) :
    tileAt x o (ix2 c a) = x (ix2 ⟨B + c.val, hB⟩ (headCol h a)) := by
  refine congrArg x (funext fun b => Fin.ext ?_)
  fin_cases b
  · show o.1 0 + 1 * c.val = B + c.val
    rw [ho]; show B + 1 * c.val = _; omega
  · show o.1 1 + 1 * a.val = 128 * h.val + a.val
    rw [ho]; show 128 * h.val + 1 * a.val = _; omega

section
variable (x0 : Vec Ideal S256x1024 .bf16) (x1 x2 : Vec Ideal S4096x1024 .bf16) (x3 : Vec Ideal S256x256 .bf16)
  (h : Fin 8) (r : Fin 256) (e : Fin 128) (x u : ℕ → EReal) (t : ℕ)

/-- What the blocks hold for query row `r` (the query `t` of its batch) and output column `e` of head `h`: scaled
    scores, values, the negated triangle; and the scores of earlier keys are below the clamp. -/
structure Holds : Prop where
  score : ∀ (s : ℕ) (hs : s < 4096), ∑ a : Fin 128, x0 (ix2 r (headCol h a)) * x1 (ix2 ⟨s, hs⟩ (headCol h a))
    = x s * (scale2 : EReal)
  value : ∀ (s : ℕ) (hs : s < 4096), x2 (ix2 ⟨s, hs⟩ (headCol h e)) = u s
  tri : ∀ a c : Fin 256, x3 (ix2 a c) = if c.val ≤ a.val then -1 else 0
  bound : ∀ j, j < t → x j ≤ ((500 : ℝ) : EReal)
  short : t ≤ 4096

/-- The state has swept the keys from `B` up to the query. -/
def Swept (s : State Ideal) (B : ℕ) : Prop :=
  s.1 (ix2 r 0) = ((-spent x B t : ℝ) : EReal) ∧ s.2 (ix2 r e) = outFrom x u t B

variable {x0 x1 x2 x3 h r e x u t}

theorem Holds.step (H : Holds x0 x1 x2 x3 h r e x u t) {d : Bool} {lim : ℕ} (hd : Counts d r lim) (o : Fin 8 → Place)
    (B : ℕ) (ho : (o h).1 = ![B, 128 * h.val]) (ht : B + lim ≤ t) (s : State Ideal) (hs : Swept r e x u t s (B + lim)) :
    Swept r e x u t (stepAt d x3 x0 x1 x2 o h s) B := by
  have hB : B + 256 ≤ 4096 := by
    have := (o h).2 0
    rw [ho] at this
    exact this
  refine row_step hd e x3 _ _ _ s x u B t ht H.bound H.tri (fun c => ?_) (fun c => ?_) hs.1 hs.2
  · have hc : B + c.val < 4096 := by have := c.isLt; omega
    rw [← H.score _ hc]
    refine Finset.sum_congr rfl fun a _ => ?_
    rw [headOf_apply, tileAt_apply x1 (o h) h B ho c a hc]
  · have hc : B + c.val < 4096 := by have := c.isLt; omega
    rw [tileAt_apply x2 (o h) h B ho c e hc, H.value _ hc]

/-- Full tiles in turn, each just before the last. -/
theorem Holds.steps (H : Holds x0 x1 x2 x3 h r e x u t) : ∀ (os : List (Fin 8 → Place)) (B : ℕ) (s : State Ideal),
    (∀ (j : ℕ) (hj : j < os.length), (os[j] h).1 = ![B - 256 * (j + 1), 128 * h.val]) → 256 * os.length ≤ B → B ≤ t →
    Swept r e x u t s B →
    Swept r e x u t (os.foldl (fun s o => stepAt false x3 x0 x1 x2 o h s) s) (B - 256 * os.length)
  | [], B, s, _, _, _, hs => hs
  | o :: os, B, s, ho, hB, ht, hs => by
    rw [List.length_cons] at hB ⊢
    have h0 : (o h).1 = ![B - 256, 128 * h.val] := ho 0 (by simp)
    have hs' := H.step (d := false) (Or.inr ⟨rfl, rfl⟩) o (B - 256) h0 (by omega) s
      (by rw [show B - 256 + 256 = B by omega]; exact hs)
    have := H.steps os (B - 256) _ (fun j hj => by
      have := ho (j + 1) (by simpa using hj)
      rw [show B - 256 - 256 * (j + 1) = B - 256 * (j + 1 + 1) by omega]
      exact this) (by omega) (by omega) hs'
    rw [show B - 256 * (os.length + 1) = B - 256 - 256 * os.length by omega]
    exact this

/-- The first sweep: the diagonal tile, then full ones. -/
theorem Holds.sweep (H : Holds x0 x1 x2 x3 h r e x u t) (o : Fin 8 → Place) (os : List (Fin 8 → Place)) (B : ℕ)
    (ho : (o h).1 = ![B, 128 * h.val])
    (hos : ∀ (j : ℕ) (hj : j < os.length), (os[j] h).1 = ![B - 256 * (j + 1), 128 * h.val]) (hB : 256 * os.length ≤ B)
    (ht : B + r.val = t) : Swept r e x u t (sweep' x0 x1 x2 x3 o os h) (B - 256 * os.length) := by
  refine H.steps os B _ hos hB (by omega) ?_
  refine H.step (d := true) (Or.inl ⟨rfl, rfl⟩) o B ho (by omega) start ?_
  rw [ht]
  refine ⟨?_, ?_⟩
  · rw [(start_apply r e).1, spent_self x le_rfl]; simp
  · rw [(start_apply r e).2, outFrom_self]

/-- The trips: after `n` of them the keys from 1024·n before the loop's first on have been swept. -/
theorem Holds.iter (H : Holds x0 x1 x2 x3 h r e x u t) (i : grid0.Coords) (P : Fin 8 → State Ideal)
    (hP : Swept r e x u t (P h) (1024 * ((i 2).val / 4))) (ht : 1024 * ((i 2).val / 4) ≤ t) :
    ∀ n, n ≤ (i 2).val / 4 → Swept r e x u t (Stick.iter i x0 x1 x2 x3 P n h) (1024 * ((i 2).val / 4) - 1024 * n)
  | 0, _ => hP
  | n + 1, hn => by
    have hn' : n < (k0_t1_loop i).trips := by rw [trips_main]; omega
    have ih := H.iter i P hP ht n (by omega)
    have := H.steps [tripPlace i ⟨n, hn'⟩ 0, tripPlace i ⟨n, hn'⟩ 1, tripPlace i ⟨n, hn'⟩ 2, tripPlace i ⟨n, hn'⟩ 3]
      (1024 * ((i 2).val / 4) - 1024 * n) _ (fun j hj => by
        have e : ∀ j : Fin 4, (tripPlace i ⟨n, hn'⟩ j h).1
            = ![1024 * ((i 2).val / 4) - 1024 * n - 256 * (j.val + 1), 128 * h.val] := by
          intro j
          rw [tripPlace_eq]
          congr 1
          show 256 * (4 * ((i 2).val / 4) - 1 - 4 * n - j.val) = _
          omega
        have hj4 : j < 4 := hj
        interval_cases j
        · exact e 0
        · exact e 1
        · exact e 2
        · exact e 3) (by show 256 * 4 ≤ _; omega) (by omega) ih
    rw [show Stick.iter i x0 x1 x2 x3 P (n + 1) h
        = tripAt x3 x0 x1 x2 (tripPlace i ⟨n, hn'⟩) h (Stick.iter i x0 x1 x2 x3 P n h) from dif_pos hn',
      show 1024 * ((i 2).val / 4) - 1024 * (n + 1) = 1024 * ((i 2).val / 4) - 1024 * n - 256 * 4 by omega]
    exact this

/-- After all trips the accumulator's entry is the row's output. -/
theorem Holds.out (H : Holds x0 x1 x2 x3 h r e x u t) (i : grid0.Coords) (P : Fin 8 → State Ideal)
    (hP : Swept r e x u t (P h) (1024 * ((i 2).val / 4))) (ht : 1024 * ((i 2).val / 4) ≤ t) :
    (Stick.iter i x0 x1 x2 x3 P (k0_t1_loop i).trips h).2 (ix2 r e) = outFrom x u t 0 := by
  have := (H.iter i P hP ht _ (by rw [trips_main] : (k0_t1_loop i).trips ≤ _)).2
  rw [this, trips_main, Nat.sub_self]
end

/-! ### The four cases -/

theorem mod_A : ∀ i : grid0.Coords, cond0_0 i → (i 2).val % 4 = 0 := by decide +kernel
theorem mod_B : ∀ i : grid0.Coords, cond0_1 i → (i 2).val % 4 = 1 := by decide +kernel
theorem mod_C : ∀ i : grid0.Coords, cond0_2 i → (i 2).val % 4 = 2 := by decide +kernel
theorem mod_D : ∀ i : grid0.Coords, cond0_3 i → (i 2).val % 4 = 3 := by decide +kernel

section
variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x256 .bf16) (harg6 : arg6.IsWhole) (arg7 : Memref sig .tc .vmem S256x1024 .bf16) (harg7 : arg7.IsWhole) (arg8 : Memref sig .tc .vmem S8x256x1 .f32) (harg8 : arg8.IsWhole) (arg9 : Memref sig .tc .vmem S8x256x128 .f32) (harg9 : arg9.IsWhole)
  (x0 : Vec Ideal S256x1024 .bf16) (x1 x2 : Vec Ideal S4096x1024 .bf16) (x3 : Vec Ideal S256x256 .bf16)
  (h : Fin 8) (r : Fin 256) (e : Fin 128) (x u : ℕ → EReal)

/-- A block stored from states that the first sweep leaves holds the row's output. -/
theorem final_apply (o : Fin 8 → Place) (os : List (Fin 8 → Place)) (out : Vec Ideal S256x1024 .bf16)
    (H : Holds x0 x1 x2 x3 h r e x u (256 * (i 2).val + r.val))
    (hf : Final c i arg3 harg3 arg4 harg4 arg5 harg5 arg6 harg6 arg7 harg7 arg8 harg8 arg9 harg9 x0 x1 x2 x3
      (sweep arg3 harg3 arg4 harg4 arg5 harg5 arg6 harg6 x0 x1 x2 x3 o os) out)
    (hl : os.length = (i 2).val % 4)
    (ho : (o h).1 = ![256 * (i 2).val, 128 * h.val])
    (hos : ∀ (j : ℕ) (hj : j < os.length), (os[j] h).1 = ![256 * ((i 2).val - (j + 1)), 128 * h.val]) :
    out (ix2 r (headCol h e)) = outFrom x u (256 * (i 2).val + r.val) 0 := by
  rw [hf.eq]
  have hy : (ix2 r (headCol h e) : S256x1024.Idx)
      = (Rect.unit ![0, 128 * h.val] S256x128.size (head_inb h) : Rect S256x1024).emb (ix2 r e) := by
    refine funext fun b => Fin.ext ?_
    fin_cases b
    · show r.val = 0 + 1 * r.val; omega
    · show 128 * h.val + e.val = 128 * h.val + 1 * e.val; omega
  rw [hy, out_apply]
  show (Stick.iter i x0 x1 x2 x3 _ (k0_t1_loop i).trips h).2 (ix2 r e) = _
  refine H.out i _ ?_ (by omega)
  rw [sweep_eq]
  have := H.sweep o os (256 * (i 2).val) ho (fun j hj => by
    rw [hos j hj, Nat.mul_sub]) (by rw [hl]; omega) rfl
  rw [show 1024 * ((i 2).val / 4) = 256 * (i 2).val - 256 * os.length by rw [hl]; omega]
  exact this

theorem out_A (hc0 : cond0_0 i) (hc1 : ¬cond0_1 i) (hc2 : ¬cond0_2 i) (hc3 : ¬cond0_3 i)
    (H : Holds x0 x1 x2 x3 h r e x u (256 * (i 2).val + r.val)) :
    out0_A_4 c i arg3 harg3 arg4 harg4 arg5 harg5 arg6 harg6 arg7 harg7 arg8 harg8 arg9 harg9 hc0 hc1 hc2 hc3 x0 x1 x2 x3
      (ix2 r (headCol h e)) = outFrom x u (256 * (i 2).val + r.val) 0 :=
  final_apply c i _ _ _ _ _ _ _ _ _ _ _ _ _ _ x0 x1 x2 x3 h r e x u _ _ _ H (final_A (F := Ideal) c i _ _ _ _ _ _ _ _ _ _ _ _ _ _ x0 x1 x2 x3 hc0 hc1 hc2 hc3)
    (mod_A i hc0).symm (placeA_eq i hc0 h) (fun j hj => absurd hj (Nat.not_lt_zero j))

theorem out_B (hc0 : ¬cond0_0 i) (hc1 : cond0_1 i) (hc2 : ¬cond0_2 i) (hc3 : ¬cond0_3 i)
    (H : Holds x0 x1 x2 x3 h r e x u (256 * (i 2).val + r.val)) :
    out0_B_4 c i arg3 harg3 arg4 harg4 arg5 harg5 arg6 harg6 arg7 harg7 arg8 harg8 arg9 harg9 hc0 hc1 hc2 hc3 x0 x1 x2 x3
      (ix2 r (headCol h e)) = outFrom x u (256 * (i 2).val + r.val) 0 :=
  final_apply c i _ _ _ _ _ _ _ _ _ _ _ _ _ _ x0 x1 x2 x3 h r e x u _ _ _ H (final_B (F := Ideal) c i _ _ _ _ _ _ _ _ _ _ _ _ _ _ x0 x1 x2 x3 hc0 hc1 hc2 hc3)
    (mod_B i hc1).symm (placeB_eq i hc1 0 h) (fun j hj => by
      have : j < 1 := hj
      interval_cases j
      exact placeB_eq i hc1 1 h)

theorem out_C (hc0 : ¬cond0_0 i) (hc1 : ¬cond0_1 i) (hc2 : cond0_2 i) (hc3 : ¬cond0_3 i)
    (H : Holds x0 x1 x2 x3 h r e x u (256 * (i 2).val + r.val)) :
    out0_C_4 c i arg3 harg3 arg4 harg4 arg5 harg5 arg6 harg6 arg7 harg7 arg8 harg8 arg9 harg9 hc0 hc1 hc2 hc3 x0 x1 x2 x3
      (ix2 r (headCol h e)) = outFrom x u (256 * (i 2).val + r.val) 0 :=
  final_apply c i _ _ _ _ _ _ _ _ _ _ _ _ _ _ x0 x1 x2 x3 h r e x u _ _ _ H (final_C (F := Ideal) c i _ _ _ _ _ _ _ _ _ _ _ _ _ _ x0 x1 x2 x3 hc0 hc1 hc2 hc3)
    (mod_C i hc2).symm (placeC_eq i hc2 0 h) (fun j hj => by
      have : j < 2 := hj
      interval_cases j
      · exact placeC_eq i hc2 1 h
      · exact placeC_eq i hc2 2 h)

theorem out_D (hc0 : ¬cond0_0 i) (hc1 : ¬cond0_1 i) (hc2 : ¬cond0_2 i) (hc3 : cond0_3 i)
    (H : Holds x0 x1 x2 x3 h r e x u (256 * (i 2).val + r.val)) :
    out0_D_4 c i arg3 harg3 arg4 harg4 arg5 harg5 arg6 harg6 arg7 harg7 arg8 harg8 arg9 harg9 hc0 hc1 hc2 hc3 x0 x1 x2 x3
      (ix2 r (headCol h e)) = outFrom x u (256 * (i 2).val + r.val) 0 :=
  final_apply c i _ _ _ _ _ _ _ _ _ _ _ _ _ _ x0 x1 x2 x3 h r e x u _ _ _ H (final_D (F := Ideal) c i _ _ _ _ _ _ _ _ _ _ _ _ _ _ x0 x1 x2 x3 hc0 hc1 hc2 hc3)
    (mod_D i hc3).symm (placeD_eq i hc3 0 h) (fun j hj => by
      have : j < 3 := hj
      interval_cases j
      · exact placeD_eq i hc3 1 h
      · exact placeD_eq i hc3 2 h
      · exact placeD_eq i hc3 3 h)
end
end Cert.KernelIdeal.Stick
-- ==== Proof.Val.Layer.lean ====
/- THE ATTENTION OF THE LAYER AS ONE FORMULA: a query's raw scores and the values it gathers, read off the two arguments. -/
module
public import proofs.«01_k».proof.Proof.Val.Rows
public import Idealize.ShloMosaic.Lib.ValueIdx
@[expose] public section
noncomputable section
namespace Cert.Stick
open Idealize.ShloMosaic Idealize.ShloMosaic.ValueIdx

/-- Keys and values, or queries and gates: two batches of 4096 rows. -/
abbrev Arg : Type := (⟨3, ![2, 4096, 4096]⟩ : Shape).Idx → EReal

/-- Column `a` of head `g` in an argument's first half. -/
def lowCol (g : Fin 16) (a : Fin 128) : Fin 4096 := ⟨128 * g.val + a.val, by omega⟩
/-- Column `a` of head `g` in an argument's second half. -/
def highCol (g : Fin 16) (a : Fin 128) : Fin 4096 := ⟨2048 + 128 * g.val + a.val, by omega⟩

/-- The raw scores of query `t` of batch `b` at head `g`, key by key. -/
def rawScore (kv h : Arg) (b : Fin 2) (g : Fin 16) (t : Fin 4096) (s : ℕ) : EReal :=
  if hs : s < 4096 then ∑ a : Fin 128, h (ix3 b t (lowCol g a)) * kv (ix3 b ⟨s, hs⟩ (lowCol g a)) else 0

/-- Entry `e` of the values of head `g`, key by key. -/
def valueAt (kv : Arg) (b : Fin 2) (g : Fin 16) (e : Fin 128) (s : ℕ) : EReal :=
  if hs : s < 4096 then kv (ix3 b ⟨s, hs⟩ (highCol g e)) else 0

/-- The output of query `t` of batch `b` at entry `e` of head `g`. -/
def attended (kv h : Arg) (b : Fin 2) (g : Fin 16) (t : Fin 4096) (e : Fin 128) : EReal :=
  outFrom (rawScore kv h b g t) (valueAt kv b g e) t.val 0

/-- No key before its query scores more than 500. -/
def Bounded (kv h : Arg) : Prop :=
  ∀ (b : Fin 2) (g : Fin 16) (t : Fin 4096) (s : ℕ), s < t.val → rawScore kv h b g t s ≤ ((500 : ℝ) : EReal)
end Cert.Stick
-- ==== Proof.Val.Blocks.lean ====
/- EACH POINT'S BLOCKS AT AN INDEX, AND THE ARRAY THE POINTS LEAVE: the attention of every row and head. -/
module
public import proofs.«01_k».proof.Proof.Val.Host
public import proofs.«01_k».proof.Proof.Val.Sweep
public import proofs.«01_k».proof.Proof.Val.Layer
public import Idealize.ShloMosaic.Lib.Pipeline.ValueKit.Geometry
@[expose] public section
set_option maxRecDepth 16384
noncomputable section
namespace Cert.KernelIdeal.Stick
open Idealize.ShloMosaic Idealize.ShloMosaic.TcCoe Idealize.ShloMosaic.Tactic Idealize.ShloMosaic.Pipeline
open Cert.KernelIdeal.Gen Cert.KernelIdeal Cert.Stick

variable (m : (ℓ : Loc nD τ sig) → Buf (Elt Ideal) ℓ) (c : Dev nD)

/-- A point's batch, its half of the heads and its block of queries. -/
def batchOf (t : Fin cfg0.N) : Fin 2 := grid0.coords t 0
def halfOf (t : Fin cfg0.N) : Fin 2 := grid0.coords t 1
def rowsOf (t : Fin cfg0.N) : Fin 16 := grid0.coords t 2

/-- The head of the layer that a point's head `h` is. -/
def headAt (t : Fin cfg0.N) (h : Fin 8) : Fin 16 := ⟨8 * (halfOf t).val + h.val, by omega⟩
/-- The query of its batch that a point's row `r` is. -/
def queryAt (t : Fin cfg0.N) (r : Fin 256) : Fin 4096 := ⟨256 * (rowsOf t).val + r.val, by omega⟩

theorem index0 : ∀ t : Fin cfg0.N, win0_0.index t = ![(batchOf t).val * 16 + (rowsOf t).val, 4 + (halfOf t).val] :=
  (by decide +kernel : ∀ t : Fin grid0.N, _)
theorem index1 : ∀ t : Fin cfg0.N, win0_1.index t = ![(batchOf t).val, (halfOf t).val] :=
  (by decide +kernel : ∀ t : Fin grid0.N, _)
theorem index2 : ∀ t : Fin cfg0.N, win0_2.index t = ![(batchOf t).val, 2 + (halfOf t).val] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![(batchOf t).val * 16 + (rowsOf t).val, (halfOf t).val] :=
  (by decide +kernel : ∀ t : Fin grid0.N, _)

/-- The query block: scaled queries. -/
theorem query_block (t : Fin cfg0.N) (h : Fin 8) (r : Fin 256) (a : Fin 128) :
    iblk m c 0 t (ix2 r (headCol h a))
      = argH m c (ix3 (batchOf t) (queryAt t r) (lowCol (headAt t h) a)) * (scale2 : EReal) := by
  rw [show lowCol (headAt t h) a = ⟨(⟨1024 * (halfOf t).val + 128 * h.val + a.val, by omega⟩ : Fin 2048).val, by simp; omega⟩ from
    Fin.ext (by show 128 * (8 * (halfOf t).val + h.val) + a.val = 1024 * (halfOf t).val + 128 * h.val + a.val; omega),
    ← proj_query]
  blk_simp [iblk]
  refine congrArg (V m c main_v19) (funext fun d => Fin.ext ?_)
  fin_cases d
  · blk_simp [index0]
    show ((batchOf t).val * 16 + (rowsOf t).val) * 256 + r.val = 4096 * (batchOf t).val + (256 * (rowsOf t).val + r.val)
    omega
  · blk_simp [index0]
    show (4 + (halfOf t).val) * 1024 + (128 * h.val + a.val) = 4096 + (1024 * (halfOf t).val + 128 * h.val + a.val)
    omega

/-- The key block. -/
theorem key_block (t : Fin cfg0.N) (h : Fin 8) (s : Fin 4096) (a : Fin 128) :
    iblk m c 1 t (ix2 s (headCol h a)) = argKv m c (ix3 (batchOf t) s (lowCol (headAt t h) a)) := by
  rw [← proj_kv]
  blk_simp [iblk]
  refine congrArg (V m c main_v19) (funext fun d => Fin.ext ?_)
  fin_cases d
  · blk_simp [index1]
    show (batchOf t).val * 4096 + s.val = 4096 * (batchOf t).val + s.val
    omega
  · blk_simp [index1]
    show (halfOf t).val * 1024 + (128 * h.val + a.val) = 128 * (8 * (halfOf t).val + h.val) + a.val
    omega

/-- The value block. -/
theorem value_block (t : Fin cfg0.N) (h : Fin 8) (s : Fin 4096) (a : Fin 128) :
    iblk m c 2 t (ix2 s (headCol h a)) = argKv m c (ix3 (batchOf t) s (highCol (headAt t h) a)) := by
  rw [← proj_kv]
  blk_simp [iblk]
  refine congrArg (V m c main_v19) (funext fun d => Fin.ext ?_)
  fin_cases d
  · blk_simp [index2]
    show (batchOf t).val * 4096 + s.val = 4096 * (batchOf t).val + s.val
    omega
  · blk_simp [index2]
    show (2 + (halfOf t).val) * 1024 + (128 * h.val + a.val) = 2048 + 128 * (8 * (halfOf t).val + h.val) + a.val
    omega

/-- The triangle's one block. -/
theorem tri_block (t : Fin cfg0.N) (a b : Fin 256) :
    iblk m c 3 t (ix2 a b) = if b.val ≤ a.val then (-1 : EReal) else 0 := by
  rw [← negTri_apply m c a b]
  blk_simp [iblk]
  refine congrArg (V m c main_v7) (funext fun d => Fin.ext ?_)
  fin_cases d
  · blk_simp [index3]
  · blk_simp [index3]

/-- A point's blocks hold the scores and values of its rows. -/
theorem holds (H : Bounded (argKv m c) (argH m c)) (t : Fin cfg0.N) (h : Fin 8) (r : Fin 256) (e : Fin 128) :
    Holds (iblk m c 0 t) (iblk m c 1 t) (iblk m c 2 t) (iblk m c 3 t) h r e
      (rawScore (argKv m c) (argH m c) (batchOf t) (headAt t h) (queryAt t r))
      (valueAt (argKv m c) (batchOf t) (headAt t h) e) (256 * (grid0.coords t 2).val + r.val) where
  score := fun s hs => by
    unfold rawScore
    rw [dif_pos hs, ← sum_scaled _ _ _ scale2_pos]
    refine Finset.sum_congr rfl fun a _ => ?_
    rw [query_block, key_block]
    refine congrArg₂ (fun p q => p * (scale2 : EReal) * q) (congrArg (argH m c) ?_) (congrArg (argKv m c) ?_)
    · funext d; match d with | ⟨0, _⟩ => rfl | ⟨1, _⟩ => rfl | ⟨2, _⟩ => rfl
    · funext d; match d with | ⟨0, _⟩ => rfl | ⟨1, _⟩ => rfl | ⟨2, _⟩ => rfl
  value := fun s hs => by
    unfold valueAt
    rw [dif_pos hs, value_block]
    refine congrArg (argKv m c) ?_
    funext d; match d with | ⟨0, _⟩ => rfl | ⟨1, _⟩ => rfl | ⟨2, _⟩ => rfl
  tri := tri_block m c t
  bound := fun j hj => H _ _ (queryAt t r) j hj
  short := (queryAt t r).isLt.le

/-- The whole result: every row and head attended to. -/
def result : Vec Ideal S8192x2048 .bf16 := fun j =>
  attended (argKv m c) (argH m c) ⟨(j 0).val / 4096, by have : (j 0).val < 8192 := (j 0).isLt; omega⟩
    ⟨(j 1).val / 128, by have : (j 1).val < 2048 := (j 1).isLt; omega⟩ ⟨(j 0).val % 4096, Nat.mod_lt _ (by norm_num)⟩
    ⟨(j 1).val % 128, Nat.mod_lt _ (by norm_num)⟩

/-- What a point writes back. -/
theorem written (H : Bounded (argKv m c) (argH m c)) (t : Fin cfg0.N) (h : Fin 8) (r : Fin 256) (e : Fin 128) :
    (dats m 0 c).flushed 4 t (ix2 r (headCol h e))
      = attended (argKv m c) (argH m c) (batchOf t) (headAt t h) (queryAt t r) e := by
  have hb := holds m c H t h r e
  have h4 : t.val % 4 < 4 := Nat.mod_lt _ (by norm_num)
  by_cases h0 : t.val % 4 = 0
  · exact (congrFun (Value.flushed4_A m c t h0 (by omega) (by omega) (by omega)) _).trans
      (out_A c _ _ _ _ _ _ _ _ _ _ _ _ _ _ _ _ _ _ _ h r e _ _ _ _ _ _ hb)
  by_cases h1 : t.val % 4 = 1
  · exact (congrFun (Value.flushed4_B m c t (by omega) h1 (by omega) (by omega)) _).trans
      (out_B c _ _ _ _ _ _ _ _ _ _ _ _ _ _ _ _ _ _ _ h r e _ _ _ _ _ _ hb)
  by_cases h2 : t.val % 4 = 2
  · exact (congrFun (Value.flushed4_C m c t (by omega) (by omega) h2 (by omega)) _).trans
      (out_C c _ _ _ _ _ _ _ _ _ _ _ _ _ _ _ _ _ _ _ h r e _ _ _ _ _ _ hb)
  · exact (congrFun (Value.flushed4_D m c t (by omega) (by omega) (by omega) (by omega)) _).trans
      (out_D c _ _ _ _ _ _ _ _ _ _ _ _ _ _ _ _ _ _ _ h r e _ _ _ _ _ _ hb)

/-- The result array after the last point. -/
theorem array_eq (H : Bounded (argKv m c) (argH m c)) : (dats m 0 c).arrAt 4 cfg0.N = result m c := by
  refine (dats m 0 c).arrAt_eq_of_covers 4 _ (by decide +kernel) fun t hf y => ?_
  let r : Fin 256 := y 0
  let h : Fin 8 := ⟨(y 1).val / 128, by have : (y 1).val < 1024 := (y 1).isLt; omega⟩
  let e : Fin 128 := ⟨(y 1).val % 128, Nat.mod_lt _ (by norm_num)⟩
  have hy : y = ix2 r (headCol h e) := by
    refine funext fun d => Fin.ext ?_
    fin_cases d
    · rfl
    · show (y 1).val = 128 * ((y 1).val / 128) + (y 1).val % 128; omega
  refine Eq.trans ((congrArg ((dats m 0 c).flushed 4 t) hy).trans (written m c H t h r e)) ?_
  have e0 : (((cfg0.win 4).blk t).view.emb y 0 : ℕ) = 4096 * (batchOf t).val + (256 * (rowsOf t).val + r.val) := by
    blk_simp [index4]
    show ((batchOf t).val * 16 + (rowsOf t).val) * 256 + r.val = _
    omega
  have e1 : (((cfg0.win 4).blk t).view.emb y 1 : ℕ) = 128 * (8 * (halfOf t).val + h.val) + e.val := by
    blk_simp [index4]
    show (halfOf t).val * 1024 + (y 1).val = 128 * (8 * (halfOf t).val + (y 1).val / 128) + (y 1).val % 128
    omega
  have hb := (batchOf t).isLt
  have hq := (rowsOf t).isLt
  have hr := r.isLt
  have he := e.isLt
  show _ = attended (argKv m c) (argH m c) ⟨(((cfg0.win 4).blk t).view.emb y 0 : ℕ) / 4096, _⟩
    ⟨(((cfg0.win 4).blk t).view.emb y 1 : ℕ) / 128, _⟩ ⟨(((cfg0.win 4).blk t).view.emb y 0 : ℕ) % 4096, _⟩
    ⟨(((cfg0.win 4).blk t).view.emb y 1 : ℕ) % 128, _⟩
  congr 1
  · refine Fin.ext ?_; show (batchOf t).val = _ / 4096; rw [e0]; omega
  · refine Fin.ext ?_; show 8 * (halfOf t).val + h.val = _ / 128; rw [e1]; omega
  · refine Fin.ext ?_; show 256 * (rowsOf t).val + r.val = _ % 4096; rw [e0]; omega
  · refine Fin.ext ?_; show e.val = _ % 128; rw [e1]; omega
end Cert.KernelIdeal.Stick
-- ==== Proof.Val.InRun.lean ====
/- THE GATED INPUT PROJECTION: its body in the three steps it is made of, each run on its own. -/
module
public import proofs.«01_k».proof.Proof.Gen.KernelInIdeal.Skeleton
public import proofs.«01_k».proof.Proof.Gen.KernelInIdeal.Frame
public import Idealize.ShloMosaic.Lib.Pipeline.ValueKit
@[expose] public section
set_option maxRecDepth 16384
noncomputable section
namespace Cert.KernelInIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelInIdeal Cert.KernelInIdeal.Gen

variable {F : FTy → Type} [FloatOps F] [Named F]
local notation "𝕄" => MT nD τ sig Unit (Elt F) ℕ (UR sig nD τ) ℕ

/-- The condition the rows are rounded under: the first block of a row of blocks. -/
abbrev rowsCond (i : grid0.Coords) : Prop := Scalar.cmpi .ne (Scalar.extui (Scalar.cmpi .eq (BitVec.ofNat 32 (i 1).val) 0#32) : BitVec 32) 0#32 = 1#1

section steps
variable (i : grid0.Coords)
  (arg2 : Memref sig .tc .vmem S1024x2048 .f32) (harg2 : arg2.IsWhole) (arg3 : Memref sig .tc .vmem S2048x1024 .f32) (harg3 : arg3.IsWhole)
  (arg4 : Memref sig .tc .vmem S1x1024 .f32) (harg4 : arg4.IsWhole) (arg5 : Memref sig .tc .vmem S128x2048 .f32) (harg5 : arg5.IsWhole)
  (arg6 : Memref sig .tc .vmem S1024x1024 .bf16) (harg6 : arg6.IsWhole) (arg7 : Memref sig .tc .vmem S128x2048 .bf16) (harg7 : arg7.IsWhole)
  (arg8 : Memref sig .tc .vmem S1024x2048 .bf16) (harg8 : arg8.IsWhole) (arg9 : Memref sig .tc .vmem S3x1024x256 .f32) (harg9 : arg9.IsWhole)

/-- The step that rounds the rows of the next weights. -/
def roundNext : Prog (TpuEff nD τ sig (Elt F) Λ₀ .tc) PUnit := do
  let v14 : Vec F S128x2048 .f32 ← Prog.lift (.load arg5 (Rect.unit (s := S128x2048) ![0, 0] S128x2048.size inb_S128x2048_S128x2048_0_0).toLoadRect (View.loadsAt_vmem h_S128x2048))
  let v17 : Vec F S128x2048 .bf16 ← Prog.lift (.load arg7 (Rect.unit (s := S128x2048) ![0, 0] S128x2048.size inb_S128x2048_S128x2048_0_0).toLoadRect (View.loadsAt_vmem h_S128x2048))
  Prog.lift (.store arg7 (Rect.unit (s := S128x2048) ![0, 0] S128x2048.size inb_S128x2048_S128x2048_0_0) (k0_pay1 v14) Finset.univ (View.stores_vmem h_S128x2048 (harg7.storeExact_slice rfl _ packedbf16_S128x2048_S128x2048_0_0) (fun _ => rfl)) (.inl rfl))
  pure ⟨⟩

/-- The step that rounds the rows of the input, once for a row of blocks. -/
def roundRows : Prog (TpuEff nD τ sig (Elt F) Λ₀ .tc) PUnit := do
  let v14 : Vec F S1024x2048 .f32 ← Prog.lift (.load arg2 (Rect.unit (s := S1024x2048) ![0, 0] S1024x2048.size inb_S1024x2048_S1024x2048_0_0).toLoadRect (View.loadsAt_vmem h_S1024x2048))
  let v17 : Vec F S1024x2048 .bf16 ← Prog.lift (.load arg8 (Rect.unit (s := S1024x2048) ![0, 0] S1024x2048.size inb_S1024x2048_S1024x2048_0_0).toLoadRect (View.loadsAt_vmem h_S1024x2048))
  Prog.lift (.store arg8 (Rect.unit (s := S1024x2048) ![0, 0] S1024x2048.size inb_S1024x2048_S1024x2048_0_0) (k0_pay2 v14) Finset.univ (View.stores_vmem h_S1024x2048 (harg8.storeExact_slice rfl _ packedbf16_S1024x2048_S1024x2048_0_0) (fun _ => rfl)) (.inl rfl))
  pure ⟨⟩

/-- The four column pieces of a block the first activation is applied to. -/
def geluPieces : Prog (TpuEff nD τ sig (Elt F) Λ₀ .tc) PUnit := do
  let ⟨v39, v41⟩ : Σ' (v39 : FVec F S1024x256 .f32), FVec F S1x256 .f32 ← k0_part1 i arg2 harg2 arg3 harg3 arg4 harg4 arg5 harg5 arg6 harg6 arg7 harg7 arg8 harg8 arg9 harg9
  let ⟨v71, v77, cst_48⟩ : Σ' (v71 : FVec F S1024x256 .f32) (v77 : FVec F S1024x256 .f32), F .f32 ← k0_part2 i arg2 harg2 arg3 harg3 arg4 harg4 arg5 harg5 arg6 harg6 arg7 harg7 arg8 harg8 arg9 harg9 v39 v41
  let ⟨v111, v114, cst_69⟩ : Σ' (v111 : FVec F S1024x256 .f32) (v114 : FVec F S1024x256 .f32), F .f32 ← k0_part3 i arg2 harg2 arg3 harg3 arg4 harg4 arg5 harg5 arg6 harg6 arg7 harg7 arg8 harg8 arg9 harg9 v71 v77 cst_48
  let v125 : Vec F S1024x256 .bf16 ← Prog.lift (.load arg6 (Rect.unit (s := S1024x1024) ![0, 768] S1024x256.size inb_S1024x1024_S1024x256_0_768).toLoadRect (View.loadsAt_vmem h_S1024x256))
  Prog.lift (.store arg6 (Rect.unit (s := S1024x1024) ![0, 768] S1024x256.size inb_S1024x1024_S1024x256_0_768) (k0_pay3 v111 v114 cst_69) Finset.univ (View.stores_vmem h_S1024x256 (harg6.storeExact_slice rfl _ packedbf16_S1024x1024_S1024x256_0_768) (fun _ => rfl)) (.inl rfl))
  pure ⟨⟩

/-- The four column pieces of a block the second activation is applied to. -/
def siluPieces : Prog (TpuEff nD τ sig (Elt F) Λ₀ .tc) PUnit := do
  let ⟨v39, v41⟩ : Σ' (v39 : FVec F S1024x256 .f32), FVec F S1x256 .f32 ← k0_part4 i arg2 harg2 arg3 harg3 arg4 harg4 arg5 harg5 arg6 harg6 arg7 harg7 arg8 harg8 arg9 harg9
  let v74 : Vec F S1x1024x256 .f32 ← k0_part5 i arg2 harg2 arg3 harg3 arg4 harg4 arg5 harg5 arg6 harg6 arg7 harg7 arg8 harg8 arg9 harg9 v39 v41
  let v76 : Vec F S1x256 .f32 ← Prog.lift (.load arg4 (Rect.unit (s := S1x1024) ![0, 512] S1x256.size inb_S1x1024_S1x256_0_512).toLoadRect (View.loadsAt_vmem h_S1x256))
  let v87 : Vec F S1024x256 .bf16 ← Prog.lift (.load arg6 (Rect.unit (s := S1024x1024) ![0, 512] S1024x256.size inb_S1024x1024_S1024x256_0_512).toLoadRect (View.loadsAt_vmem h_S1024x256))
  Prog.lift (.store arg6 (Rect.unit (s := S1024x1024) ![0, 512] S1024x256.size inb_S1024x1024_S1024x256_0_512) (k0_pay4 v74 v76) Finset.univ (View.stores_vmem h_S1024x256 (harg6.storeExact_slice rfl _ packedbf16_S1024x1024_S1024x256_0_512) (fun _ => rfl)) (.inl rfl))
  let v88 : Vec F S1x1024x256 .f32 ← Prog.lift (.load arg9 (Rect.unit (s := S3x1024x256) ![0, 0, 0] S1x1024x256.size inb_S3x1024x256_S1x1024x256_0_0_0).toLoadRect (View.loadsAt_vmem h_S1x1024x256))
  let v90 : Vec F S1x256 .f32 ← Prog.lift (.load arg4 (Rect.unit (s := S1x1024) ![0, 768] S1x256.size inb_S1x1024_S1x256_0_768).toLoadRect (View.loadsAt_vmem h_S1x256))
  let v101 : Vec F S1024x256 .bf16 ← Prog.lift (.load arg6 (Rect.unit (s := S1024x1024) ![0, 768] S1024x256.size inb_S1024x1024_S1024x256_0_768).toLoadRect (View.loadsAt_vmem h_S1024x256))
  Prog.lift (.store arg6 (Rect.unit (s := S1024x1024) ![0, 768] S1024x256.size inb_S1024x1024_S1024x256_0_768) (k0_pay5 v88 v90) Finset.univ (View.stores_vmem h_S1024x256 (harg6.storeExact_slice rfl _ packedbf16_S1024x1024_S1024x256_0_768) (fun _ => rfl)) (.inl rfl))
  pure ⟨⟩

/-- The body is the steps, each under its condition. -/
theorem body_eq : cc0_gmlp_in (F := F) i arg2 harg2 arg3 harg3 arg4 harg4 arg5 harg5 arg6 harg6 arg7 harg7 arg8 harg8 arg9 harg9 =
    ((if k0_cond1 i = 1#1 then roundNext arg5 arg7 harg7 else pure ⟨⟩) >>= fun _ =>
      (if rowsCond i then roundRows arg2 arg8 harg8 else pure ⟨⟩) >>= fun _ =>
      (if k0_cond3 i = 1#1 then geluPieces i arg2 harg2 arg3 harg3 arg4 harg4 arg5 harg5 arg6 harg6 arg7 harg7 arg8 harg8 arg9 harg9 else pure ⟨⟩) >>= fun _ =>
      (if k0_cond4 i = 1#1 then siluPieces i arg2 harg2 arg3 harg3 arg4 harg4 arg5 harg5 arg6 harg6 arg7 harg7 arg8 harg8 arg9 harg9 else pure ⟨⟩) >>= fun _ =>
      pure ⟨⟩) := by
  rw [cc0_gmlp_in_eq_skeleton]
  refine Eq.trans (b := (do
    if k0_cond1 i = 1#1 then roundNext arg5 arg7 harg7 else pure ⟨⟩
    if rowsCond i then roundRows arg2 arg8 harg8 else pure ⟨⟩
    if k0_cond3 i = 1#1 then geluPieces i arg2 harg2 arg3 harg3 arg4 harg4 arg5 harg5 arg6 harg6 arg7 harg7 arg8 harg8 arg9 harg9 else pure ⟨⟩
    if k0_cond4 i = 1#1 then siluPieces i arg2 harg2 arg3 harg3 arg4 harg4 arg5 harg5 arg6 harg6 arg7 harg7 arg8 harg8 arg9 harg9 else pure ⟨⟩
    pure ⟨⟩)) rfl ?_
  split_ifs <;> rfl

/-! ### What a block is -/

/-- A store into another slot leaves a slot alone. -/
theorem slot_miss (v : View sig .tc .vmem S3x1024x256 .f32) {k k' : ℕ} (hk : k ≠ k')
    (h : ∀ a, (![k, 0, 0] : Fin 3 → ℕ) a + (![1, 1024, 256] : Fin 3 → ℕ) a ≤ S3x1024x256.size a)
    (h' : ∀ a, (![k', 0, 0] : Fin 3 → ℕ) a + (![1, 1024, 256] : Fin 3 → ℕ) a ≤ S3x1024x256.size a)
    (p : (⟨3, ![1, 1024, 256]⟩ : Shape).Idx → Elt F .f32) (L : List (View.Piece (Elt F) S3x1024x256 .f32)) :
    v.readCov (⟨Rect.unit (s := S3x1024x256) ![k, 0, 0] ![1, 1024, 256] h, p⟩ :: L) (Rect.unit (s := S3x1024x256) ![k', 0, 0] ![1, 1024, 256] h').toLoadRect
      = v.readCov L (Rect.unit (s := S3x1024x256) ![k', 0, 0] ![1, 1024, 256] h').toLoadRect := by
  rw [View.readCov_eq_canon', View.readCov_eq_canon']
  refine funext fun j => View.canon_cons_of_not_mem _ _ ?_
  have hd : Disjoint (Rect.unit (s := S3x1024x256) ![k', 0, 0] ![1, 1024, 256] h').set (Rect.unit (s := S3x1024x256) ![k, 0, 0] ![1, 1024, 256] h).set :=
    Rect.unit_disjoint (0 : Fin 3) (by show k' + 1 ≤ k ∨ k + 1 ≤ k'; omega)
  exact Finset.disjoint_left.mp hd ((Rect.unit (s := S3x1024x256) ![k', 0, 0] ![1, 1024, 256] h').idx_mem j)

/-- Columns of the weights and of the offsets. -/
def wcols (w : Vec F S2048x1024 .f32) (o : ℕ) (h : ∀ a, (![0, o] : Fin 2 → ℕ) a + S2048x256.size a ≤ S2048x1024.size a) : Vec F S2048x256 .f32 :=
  View.ld w (Rect.unit (s := S2048x1024) ![0, o] S2048x256.size h)
def bcols (b : Vec F S1x1024 .f32) (o : ℕ) (h : ∀ a, (![0, o] : Fin 2 → ℕ) a + S1x256.size a ≤ S1x1024.size a) : Vec F S1x256 .f32 :=
  View.ld b (Rect.unit (s := S1x1024) ![0, o] S1x256.size h)

/-- A block the first activation is applied to, in its four column pieces. -/
def geluTile (xs : Vec F S1024x2048 .bf16) (w : Vec F S2048x1024 .f32) (b : Vec F S1x1024 .f32) : Vec F S1024x1024 .bf16 :=
  let p0 := k0_pay6 xs (wcols w 0 inb_S2048x1024_S2048x256_0_0); let b0 := bcols b 0 inb_S1x1024_S1x256_0_0
  let p1 := k0_pay7 xs (wcols w 256 inb_S2048x1024_S2048x256_0_256); let b1 := bcols b 256 inb_S1x1024_S1x256_0_256
  let p2 := k0_pay8 xs (wcols w 512 inb_S2048x1024_S2048x256_0_512); let b2 := bcols b 512 inb_S1x1024_S1x256_0_512
  let p3 := k0_pay12 xs (wcols w 768 inb_S2048x1024_S2048x256_0_768); let b3 := bcols b 768 inb_S1x1024_S1x256_0_768
  View.canon (Val := Elt F) [⟨Rect.unit ![0, 768] S1024x256.size inb_S1024x1024_S1024x256_0_768, k0_pay3 (k0_pay17 p3 b3) (k0_pay18 p3 b3) (Scalar.ofBits .f32 0x3F4C422A#32)⟩,
    ⟨Rect.unit ![0, 512] S1024x256.size inb_S1024x1024_S1024x256_0_512, k0_pay16 p2 b2⟩,
    ⟨Rect.unit ![0, 256] S1024x256.size inb_S1024x1024_S1024x256_0_256, k0_pay15 (k0_pay13 p1 b1) (k0_pay14 p1 b1) (Scalar.ofBits .f32 0x3F000000#32)⟩,
    ⟨Rect.unit ![0, 0] S1024x256.size inb_S1024x1024_S1024x256_0_0, k0_pay11 (k0_pay9 p0) (k0_pay10 b0)⟩]

/-- A block the second activation is applied to. -/
def siluTile (xs : Vec F S1024x2048 .bf16) (w : Vec F S2048x1024 .f32) (b : Vec F S1x1024 .f32) : Vec F S1024x1024 .bf16 :=
  let p0 := k0_pay19 xs (wcols w 0 inb_S2048x1024_S2048x256_0_0); let b0 := bcols b 0 inb_S1x1024_S1x256_0_0
  let p1 := k0_pay20 xs (wcols w 256 inb_S2048x1024_S2048x256_0_256); let b1 := bcols b 256 inb_S1x1024_S1x256_0_256
  let p2 := k0_pay21 xs (wcols w 512 inb_S2048x1024_S2048x256_0_512); let b2 := bcols b 512 inb_S1x1024_S1x256_0_512
  let p3 := k0_pay25 xs (wcols w 768 inb_S2048x1024_S2048x256_0_768); let b3 := bcols b 768 inb_S1x1024_S1x256_0_768
  View.canon (Val := Elt F) [⟨Rect.unit ![0, 768] S1024x256.size inb_S1024x1024_S1024x256_0_768, k0_pay5 p3 b3⟩,
    ⟨Rect.unit ![0, 512] S1024x256.size inb_S1024x1024_S1024x256_0_512, k0_pay4 p2 b2⟩,
    ⟨Rect.unit ![0, 256] S1024x256.size inb_S1024x1024_S1024x256_0_256, k0_pay26 p1 b1⟩,
    ⟨Rect.unit ![0, 0] S1024x256.size inb_S1024x1024_S1024x256_0_0, k0_pay24 (k0_pay22 p0) (k0_pay23 b0)⟩]

/-! ### The steps run -/

set_option maxHeartbeats 1000000 in
/-- The first activation's step: the block ends as its four pieces, the rest as it was but for the products kept beside. -/
theorem gelu_run (c : Dev nD) (x1 : Vec F S2048x1024 .f32) (x2 : Vec F S1x1024 .f32) (xs : Vec F S1024x2048 .bf16)
    (E : Set ℕ) (K : PUnit → sProp 𝕄) :
    iprop(owns (c : Thread nD τ) arg3 fullShare x1 ∗ owns (c : Thread nD τ) arg4 fullShare x2
        ∗ (∃ d, owns (c : Thread nD τ) arg6 fullShare d) ∗ owns (c : Thread nD τ) arg8 fullShare xs ∗ (∃ d, owns (c : Thread nD τ) arg9 fullShare d)
        ∗ (iprop(owns (c : Thread nD τ) arg3 fullShare x1 ∗ owns (c : Thread nD τ) arg4 fullShare x2
          ∗ owns (c : Thread nD τ) arg6 fullShare (geluTile xs x1 x2) ∗ owns (c : Thread nD τ) arg8 fullShare xs
          ∗ (∃ d, owns (c : Thread nD τ) arg9 fullShare d)) -∗ K ⟨⟩)) ⊢
      wp frame (wpE (defs₀ (F := F)) Variants.none c none) E (geluPieces i arg2 harg2 arg3 harg3 arg4 harg4 arg5 harg5 arg6 harg6 arg7 harg7 arg8 harg8 arg9 harg9) K := by
  unfold geluPieces
  simp only [k0_part1_eq_skeleton, k0_part2_eq_skeleton, k0_part3_eq_skeleton]
  unfold owns
  iintro ⟨⟨%f1, %hf1, H1⟩, ⟨%f2, %hf2, H2⟩, ⟨%d4, %f4, -, H4⟩, ⟨%fs0, %hfs0, HS0⟩, ⟨%ds1, %fs1, -, HS1⟩, Hk⟩
  obtain rfl := harg3.eq_unread hf1; obtain rfl := harg4.eq_unread hf2; obtain rfl := harg8.eq_unread hfs0
  sl_exec
  sl_step
  iapply Hk
  isplitl [H1]
  · iexists _; isplitr; · ipureintro; exact harg3.read_unread _
    iexact H1
  isplitl [H2]
  · iexists _; isplitr; · ipureintro; exact harg4.read_unread _
    iexact H2
  isplitl [H4]
  · iexists _; isplitr
    swap; · iexact H4
    ipureintro
    rw [View.read_writes_eq_canon]
    swap
    · exact View.cover_of_tiledL _ S1024x256.size (by sl_kernel_rfl)
    unfold gelu_run.sl.r gelu_run.sl.r_1 gelu_run.sl.r_2 gelu_run.sl.r_3 gelu_run.sl.r_4 gelu_run.sl.r_5 gelu_run.sl.cst_69 gelu_run.sl.cst_48
      gelu_run.sl.v106 gelu_run.sl.v86 gelu_run.sl.v66 gelu_run.sl.v38 gelu_run.sl.HS1_4 gelu_run.sl.HS1_3
    simp (disch := decide) only [View.readCov_cons_toLoadRect, slot_miss, View.readAt_eq_ld, Memref.IsWhole.read_unread, View.ld_unit_lit']
    rfl
  isplitl [HS0]
  · iexists _; isplitr; · ipureintro; exact harg8.read_unread _
    iexact HS0
  iexists _; iexists _; isplitr
  swap; · iexact HS1
  ipureintro; rfl
set_option maxHeartbeats 1000000 in
/-- The second activation's step, likewise. -/
theorem silu_run (c : Dev nD) (x1 : Vec F S2048x1024 .f32) (x2 : Vec F S1x1024 .f32) (xs : Vec F S1024x2048 .bf16)
    (E : Set ℕ) (K : PUnit → sProp 𝕄) :
    iprop(owns (c : Thread nD τ) arg3 fullShare x1 ∗ owns (c : Thread nD τ) arg4 fullShare x2
        ∗ (∃ d, owns (c : Thread nD τ) arg6 fullShare d) ∗ owns (c : Thread nD τ) arg8 fullShare xs ∗ (∃ d, owns (c : Thread nD τ) arg9 fullShare d)
        ∗ (iprop(owns (c : Thread nD τ) arg3 fullShare x1 ∗ owns (c : Thread nD τ) arg4 fullShare x2
          ∗ owns (c : Thread nD τ) arg6 fullShare (siluTile xs x1 x2) ∗ owns (c : Thread nD τ) arg8 fullShare xs
          ∗ (∃ d, owns (c : Thread nD τ) arg9 fullShare d)) -∗ K ⟨⟩)) ⊢
      wp frame (wpE (defs₀ (F := F)) Variants.none c none) E (siluPieces i arg2 harg2 arg3 harg3 arg4 harg4 arg5 harg5 arg6 harg6 arg7 harg7 arg8 harg8 arg9 harg9) K := by
  unfold siluPieces
  simp only [k0_part4_eq_skeleton, k0_part5_eq_skeleton]
  unfold owns
  iintro ⟨⟨%f1, %hf1, H1⟩, ⟨%f2, %hf2, H2⟩, ⟨%d4, %f4, -, H4⟩, ⟨%fs0, %hfs0, HS0⟩, ⟨%ds1, %fs1, -, HS1⟩, Hk⟩
  obtain rfl := harg3.eq_unread hf1; obtain rfl := harg4.eq_unread hf2; obtain rfl := harg8.eq_unread hfs0
  sl_exec
  sl_step
  iapply Hk
  isplitl [H1]
  · iexists _; isplitr; · ipureintro; exact harg3.read_unread _
    iexact H1
  isplitl [H2]
  · iexists _; isplitr; · ipureintro; exact harg4.read_unread _
    iexact H2
  isplitl [H4]
  · iexists _; isplitr
    swap; · iexact H4
    ipureintro
    rw [View.read_writes_eq_canon]
    swap
    · exact View.cover_of_tiledL _ S1024x256.size (by sl_kernel_rfl)
    unfold silu_run.sl.r silu_run.sl.r_1 silu_run.sl.v60 silu_run.sl.v silu_run.sl.v88 silu_run.sl.v38 silu_run.sl.HS1_4 silu_run.sl.HS1_3
    simp (disch := decide) only [View.readCov_cons_toLoadRect, slot_miss, View.readAt_eq_ld, Memref.IsWhole.read_unread, View.ld_unit_lit']
    rfl
  isplitl [HS0]
  · iexists _; isplitr; · ipureintro; exact harg8.read_unread _
    iexact HS0
  iexists _; iexists _; isplitr
  swap; · iexact HS1
  ipureintro; rfl

include harg5 in
/-- The step that rounds the rows of the next weights. -/
theorem next_run (c : Dev nD) (x3 : Vec F S128x2048 .f32) (x5 : Vec F S128x2048 .bf16) (E : Set ℕ) (K : PUnit → sProp 𝕄) :
    iprop(owns (c : Thread nD τ) arg5 fullShare x3 ∗ owns (c : Thread nD τ) arg7 fullShare x5
        ∗ (iprop(owns (c : Thread nD τ) arg5 fullShare x3 ∗ owns (c : Thread nD τ) arg7 fullShare (k0_pay1 x3)) -∗ K ⟨⟩)) ⊢
      wp frame (wpE (defs₀ (F := F)) Variants.none c none) E (roundNext arg5 arg7 harg7) K := by
  unfold roundNext owns
  iintro ⟨⟨%f3, %hf3, H3⟩, ⟨%f5, -, H5⟩, Hk⟩
  obtain rfl := harg5.eq_unread hf3
  sl_exec
  sl_step
  iapply Hk
  isplitl [H3]
  · iexists _; isplitr; · ipureintro; exact harg5.read_unread _
    iexact H3
  iexists _; isplitr
  swap; · iexact H5
  ipureintro
  rw [View.read_writes_eq_canon]
  swap
  · exact View.cover_of_tiledL _ S128x2048.size (by sl_kernel_rfl)
  simp (disch := decide) only [View.readAt_eq_ld, Memref.IsWhole.read_unread, View.ld_unit_lit', View.canon_cons_unit_lit']

include harg2 in
/-- The step that rounds the rows of the input. -/
theorem rows_run (c : Dev nD) (x0 : Vec F S1024x2048 .f32) (xs : Vec F S1024x2048 .bf16) (E : Set ℕ) (K : PUnit → sProp 𝕄) :
    iprop(owns (c : Thread nD τ) arg2 fullShare x0 ∗ owns (c : Thread nD τ) arg8 fullShare xs
        ∗ (iprop(owns (c : Thread nD τ) arg2 fullShare x0 ∗ owns (c : Thread nD τ) arg8 fullShare (k0_pay2 x0)) -∗ K ⟨⟩)) ⊢
      wp frame (wpE (defs₀ (F := F)) Variants.none c none) E (roundRows arg2 arg8 harg8) K := by
  unfold roundRows owns
  iintro ⟨⟨%f0, %hf0, H0⟩, ⟨%f8, -, H8⟩, Hk⟩
  obtain rfl := harg2.eq_unread hf0
  sl_exec
  sl_step
  iapply Hk
  isplitl [H0]
  · iexists _; isplitr; · ipureintro; exact harg2.read_unread _
    iexact H0
  iexists _; isplitr
  swap; · iexact H8
  ipureintro
  rw [View.read_writes_eq_canon]
  swap
  · exact View.cover_of_tiledL _ S1024x2048.size (by sl_kernel_rfl)
  simp (disch := decide) only [View.readAt_eq_ld, Memref.IsWhole.read_unread, View.ld_unit_lit', View.canon_cons_unit_lit']

include harg5 in
/-- The same step under a condition. -/
theorem next_step (c : Dev nD) (q : Prop) [Decidable q] (x3 : Vec F S128x2048 .f32) (x5 : Vec F S128x2048 .bf16) (E : Set ℕ) (K : PUnit → sProp 𝕄) :
    iprop(owns (c : Thread nD τ) arg5 fullShare x3 ∗ owns (c : Thread nD τ) arg7 fullShare x5
        ∗ (iprop(owns (c : Thread nD τ) arg5 fullShare x3 ∗ owns (c : Thread nD τ) arg7 fullShare (if q then k0_pay1 x3 else x5)) -∗ K ⟨⟩)) ⊢
      wp frame (wpE (defs₀ (F := F)) Variants.none c none) E (if q then roundNext arg5 arg7 harg7 else pure ⟨⟩) K := by
  by_cases h : q
  · simp only [if_pos h]; exact next_run arg5 harg5 arg7 harg7 c x3 x5 E K
  · simp only [if_neg h]
    iintro ⟨H3, H5, Hk⟩
    sl_step
    iapply Hk
    isplitl [H3]; · iexact H3
    iexact H5

include harg2 in
/-- The same step under a condition. -/
theorem rows_step (c : Dev nD) (q : Prop) [Decidable q] (x0 : Vec F S1024x2048 .f32) (xs : Vec F S1024x2048 .bf16) (E : Set ℕ) (K : PUnit → sProp 𝕄) :
    iprop(owns (c : Thread nD τ) arg2 fullShare x0 ∗ owns (c : Thread nD τ) arg8 fullShare xs
        ∗ (iprop(owns (c : Thread nD τ) arg2 fullShare x0 ∗ owns (c : Thread nD τ) arg8 fullShare (if q then k0_pay2 x0 else xs)) -∗ K ⟨⟩)) ⊢
      wp frame (wpE (defs₀ (F := F)) Variants.none c none) E (if q then roundRows arg2 arg8 harg8 else pure ⟨⟩) K := by
  by_cases h : q
  · simp only [if_pos h]; exact rows_run arg2 harg2 arg8 harg8 c x0 xs E K
  · simp only [if_neg h]
    iintro ⟨H0, H8, Hk⟩
    sl_step
    iapply Hk
    isplitl [H0]; · iexact H0
    iexact H8

/-- THE BODY RUNS, whatever its conditions, if exactly one of the two activations' steps is taken. -/
theorem body_run (c : Dev nD) (h34 : k0_cond4 i = 1#1 ↔ ¬ k0_cond3 i = 1#1) (x0 : Vec F S1024x2048 .f32) (x1 : Vec F S2048x1024 .f32)
    (x2 : Vec F S1x1024 .f32) (x3 : Vec F S128x2048 .f32) (x5 : Vec F S128x2048 .bf16) (xs xs' : Vec F S1024x2048 .bf16)
    (hs : xs' = if rowsCond i then k0_pay2 x0 else xs) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare x5
        ∗ owns (c : Thread nD τ) arg8 fullShare xs ∗ (∃ d, owns (c : Thread nD τ) arg9 fullShare d)
        ∗ (iprop(owns (c : Thread nD τ) arg2 fullShare x0 ∗ owns (c : Thread nD τ) arg3 fullShare x1 ∗ owns (c : Thread nD τ) arg4 fullShare x2
          ∗ owns (c : Thread nD τ) arg5 fullShare x3
          ∗ owns (c : Thread nD τ) arg6 fullShare (if k0_cond3 i = 1#1 then geluTile xs' x1 x2 else siluTile xs' x1 x2)
          ∗ owns (c : Thread nD τ) arg7 fullShare (if k0_cond1 i = 1#1 then k0_pay1 x3 else x5)
          ∗ owns (c : Thread nD τ) arg8 fullShare xs' ∗ (∃ d, owns (c : Thread nD τ) arg9 fullShare d)) -∗ K ⟨⟩)) ⊢
      wp frame (wpE (defs₀ (F := F)) Variants.none c none) E (cc0_gmlp_in i arg2 harg2 arg3 harg3 arg4 harg4 arg5 harg5 arg6 harg6 arg7 harg7 arg8 harg8 arg9 harg9) K := by
  rw [body_eq]
  simp only [wp_bind]
  subst hs
  iintro ⟨H0, H1, H2, H3, H4, H5, H8, H9, Hk⟩
  iapply (next_step arg5 harg5 arg7 harg7 c (k0_cond1 i = 1#1) x3 x5 E _)
  isplitl [H3]; · iexact H3
  isplitl [H5]; · iexact H5
  iintro ⟨H3, H5⟩
  iapply (rows_step arg2 harg2 arg8 harg8 c (rowsCond i) x0 xs E _)
  isplitl [H0]; · iexact H0
  isplitl [H8]; · iexact H8
  iintro ⟨H0, H8⟩
  by_cases h3 : k0_cond3 i = 1#1
  · have h4 : ¬ k0_cond4 i = 1#1 := fun h => h34.mp h h3
    simp only [if_pos h3, if_neg h4]
    iapply (gelu_run i arg2 harg2 arg3 harg3 arg4 harg4 arg5 harg5 arg6 harg6 arg7 harg7 arg8 harg8 arg9 harg9 c x1 x2 _ E _)
    isplitl [H1]; · iexact H1
    isplitl [H2]; · iexact H2
    isplitl [H4]; · iexact H4
    isplitl [H8]; · iexact H8
    isplitl [H9]; · iexact H9
    iintro ⟨H1, H2, H4, H8, H9⟩
    sl_step
    sl_step
    iapply Hk
    isplitl [H0]; · iexact H0
    isplitl [H1]; · iexact H1
    isplitl [H2]; · iexact H2
    isplitl [H3]; · iexact H3
    isplitl [H4]; · iexact H4
    isplitl [H5]; · iexact H5
    isplitl [H8]; · iexact H8
    iexact H9
  · have h4 : k0_cond4 i = 1#1 := h34.mpr h3
    simp only [if_neg h3, if_pos h4]
    sl_step
    iapply (silu_run i arg2 harg2 arg3 harg3 arg4 harg4 arg5 harg5 arg6 harg6 arg7 harg7 arg8 harg8 arg9 harg9 c x1 x2 _ E _)
    isplitl [H1]; · iexact H1
    isplitl [H2]; · iexact H2
    isplitl [H4]; · iexact H4
    isplitl [H8]; · iexact H8
    isplitl [H9]; · iexact H9
    iintro ⟨H1, H2, H4, H8, H9⟩
    sl_step
    iapply Hk
    isplitl [H0]; · iexact H0
    isplitl [H1]; · iexact H1
    isplitl [H2]; · iexact H2
    isplitl [H3]; · iexact H3
    isplitl [H4]; · iexact H4
    isplitl [H5]; · iexact H5
    isplitl [H8]; · iexact H8
    iexact H9
end steps
end Cert.KernelInIdeal.Own
-- ==== Proof.Val.InFrame.lean ====
/- THE GATED INPUT PROJECTION: what every buffer holds after each grid point, the body's triple at a point, and the run. -/
module
public import proofs.«01_k».proof.Proof.Val.InRun
public import Idealize.ShloMosaic.Lib.Pipeline.TableIdle
@[expose] public section
set_option maxRecDepth 16384
noncomputable section
namespace Cert.KernelInIdeal.Own
open Idealize.ShloMosaic Idealize.ShloMosaic.TcCoe Idealize.ShloMosaic.Tactic
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Cert.KernelInIdeal Cert.KernelInIdeal.Gen

variable {F : FTy → Type} [FloatOps F] [Named F]
local notation "𝕄" => MT nD τ sig Unit (Elt F) ℕ (UR sig nD τ) ℕ

/-! ### The schedule: which points meet which condition -/

/-- The next weights are rounded at the first 32 points, -/
theorem cond_next : ∀ t : Fin cfg0.N, k0_cond1 (grid0.coords t) = 1#1 ↔ t.val < 32 :=
  (by decide +kernel : ∀ t : Fin grid0.N, k0_cond1 (grid0.coords t) = 1#1 ↔ t.val < 32)
/-- the rows at the first point of a row of blocks; -/
theorem cond_rows : ∀ t : Fin cfg0.N, rowsCond (grid0.coords t) ↔ t.val % 12 = 0 :=
  (by decide +kernel : ∀ t : Fin grid0.N, rowsCond (grid0.coords t) ↔ t.val % 12 = 0)
/-- the first activation belongs to the first eight column blocks, -/
theorem cond_gelu : ∀ t : Fin cfg0.N, k0_cond3 (grid0.coords t) = 1#1 ↔ t.val % 12 ≤ 7 :=
  (by decide +kernel : ∀ t : Fin grid0.N, k0_cond3 (grid0.coords t) = 1#1 ↔ t.val % 12 ≤ 7)
/-- the second to the others. -/
theorem cond_silu : ∀ t : Fin cfg0.N, k0_cond4 (grid0.coords t) = 1#1 ↔ ¬ k0_cond3 (grid0.coords t) = 1#1 :=
  (by decide +kernel : ∀ t : Fin grid0.N, k0_cond4 (grid0.coords t) = 1#1 ↔ ¬ k0_cond3 (grid0.coords t) = 1#1)

/-- The activations' window is stored at every point, -/
theorem live_act : ∀ t : Fin cfg0.N, cfg0.idle 4 (grid0.coords t) = false :=
  (by decide +kernel : ∀ t : Fin grid0.N, cfg0.idle 4 (grid0.coords t) = false)
/-- the weights' window at the first 32, -/
theorem idle_next : ∀ t : Fin cfg0.N, cfg0.idle 5 (grid0.coords t) = decide (32 ≤ t.val) :=
  (by decide +kernel : ∀ t : Fin grid0.N, cfg0.idle 5 (grid0.coords t) = decide (32 ≤ t.val))
/-- and it is written back at the first 31 and at the last. -/
theorem flush_next : ∀ t : Fin cfg0.N, (cfg0.win 5).flush t = decide (t.val < 31 ∨ t.val = 95) := fun t => by
  rw [Pipeline.Window.flush_eq_flushF]
  exact (by decide +kernel : ∀ t : Fin grid0.N, (cfg0.win 5).flushF t = decide (t.val < 31 ∨ t.val = 95)) t
/-- What was stored at point 31 is still there at the last point. -/
theorem fresh_last : cfg0.fresh 5 95 = false := by
  rw [Pipeline.Cfg.fresh_tab cfg0 5 (fun n => decide (n ≤ 31 ∨ n = 96)) rfl
    (fun t => by
      rw [flush_next, idle_next]
      have : t.val < 96 := lt_of_lt_of_eq t.isLt (show cfg0.N = 96 from N_0)
      by_cases h : t.val < 31 <;> by_cases h' : t.val = 95 <;> simp [h, h'] <;> omega) 95 (by decide)]
  rfl
/-- The rows are fetched at the first point of a row of blocks only, -/
theorem fetch_rows : ∀ t : Fin cfg0.N, t.val % 12 ≠ 0 → (cfg0.win 0).fetch t = false := fun t => by
  rw [Pipeline.Window.fetch_eq_fetchF]
  exact (by decide +kernel : ∀ t : Fin grid0.N, t.val % 12 ≠ 0 → (cfg0.win 0).fetchF t = false) t
/-- the next weights at the first 32 points only. -/
theorem fetch_next : ∀ t : Fin cfg0.N, 32 ≤ t.val → (cfg0.win 3).fetch t = false := fun t => by
  rw [Pipeline.Window.fetch_eq_fetchF]
  exact (by decide +kernel : ∀ t : Fin grid0.N, 32 ≤ t.val → (cfg0.win 3).fetchF t = false) t

/-! ### What the buffers hold -/

variable (m : (ℓ : Loc nD τ sig) → Buf (Elt F) ℓ) (ρ : Dev nD → PrngReg)

/-- The rounded rows at a point, -/
def rowsAt (c : Dev nD) (t : Fin cfg0.N) : Vec F S1024x2048 .bf16 := k0_pay2 (iblk m c 0 t)
/-- the block of activations it leaves, -/
def actAt (c : Dev nD) (t : Fin cfg0.N) : Vec F S1024x1024 .bf16 :=
  if k0_cond3 (grid0.coords t) = 1#1 then geluTile (rowsAt m c t) (iblk m c 1 t) (iblk m c 2 t)
  else siluTile (rowsAt m c t) (iblk m c 1 t) (iblk m c 2 t)
/-- and the block of rounded next weights. -/
def nextAt (c : Dev nD) (t : Fin cfg0.N) : Vec F S128x2048 .bf16 := k0_pay1 (iblk m c 3 t)

/-- The rows' scratch and the products'. -/
abbrev rowsRef : Memref sig .tc .vmem S1024x2048 .bf16 := Memref.whole cc0_scratch0
abbrev prodRef : Memref sig .tc .vmem S3x1024x256 .f32 := Memref.whole cc0_scratch1

/-- What the launch hands over, buffer by buffer. -/
theorem start_eq (c : Dev nD) :
    (Pipeline.ΦA spec0 c : sProp 𝕄) = iprop(iprop((∃ d, owns (c : Thread nD τ) rowsRef fullShare d) ∗ (∃ d, owns (c : Thread nD τ) prodRef fullShare d)) ∗ (∃ r, prngReg c r)) := by
  unfold Pipeline.ΦA; rw [scopedRest0_eq]; simp only [rowsRef, prodRef, owns_whole]; try rfl

/-- Between points: after any point, the rows' scratch holds that point's rounded rows. -/
def carried (c : Dev nD) : (n : ℕ) → n ≤ cfg0.N → sProp 𝕄
  | 0, _ => Pipeline.ΦA spec0 c
  | n + 1, hn => iprop(iprop(owns (c : Thread nD τ) rowsRef fullShare (rowsAt m c ⟨n, hn⟩) ∗ (∃ d, owns (c : Thread nD τ) prodRef fullShare d)) ∗ (∃ r, prngReg c r))

/-- The pipeline's data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => actAt m c t
    | ⟨5, _⟩ => nextAt m c t
  Φ t := carried m c t.val (Nat.le_of_lt_succ t.isLt)
  q _ := fullShare
  owed _ := 0

theorem A_eq (c : Dev nD) (w : Fin cfg0.W) : (dats m 0 c).A w = V m c (Pipeline.arrRef spec0 w) := by dsimp only [dats]
theorem carried_start (c : Dev nD) (t : Fin cfg0.N) : (dats m 0 c).Φ t.castSucc = carried m c t.val (Nat.le_of_lt t.isLt) := by
  dsimp only [dats]; exact Pipeline.Dat.Φ_castSucc (carried m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = actAt m c t := by dsimp only [dats]
theorem after_5 (c : Dev nD) (t : Fin cfg0.N) : (dats m 0 c).after 5 t = nextAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-- Where the rows are not fetched, they are the point before's. -/
theorem rowsAt_pred (c : Dev nD) (t : Fin cfg0.N) (h : t.val % 12 ≠ 0) :
    rowsAt m c t = rowsAt m c ⟨t.val - 1, Nat.lt_of_le_of_lt (Nat.sub_le _ _) t.isLt⟩ := by
  obtain ⟨_, e⟩ := Pipeline.Window.index_eq_of_fetch (cfg0.win 0) rfl t (fetch_rows t h)
  have d : Vec F S1024x2048 .f32 := iblk m c 0 t
  have := (dats m 0 c).fetched_congr 0 e rfl d
  unfold Dat.fetched Dat.blockOf at this
  rw [A_eq] at this
  exact congrArg k0_pay2 this

/-- Likewise the next weights, -/
theorem nextAt_pred (c : Dev nD) (t : Fin cfg0.N) (h : 32 ≤ t.val) :
    nextAt m c t = nextAt m c ⟨t.val - 1, Nat.lt_of_le_of_lt (Nat.sub_le _ _) t.isLt⟩ := by
  obtain ⟨_, e⟩ := Pipeline.Window.index_eq_of_fetch (cfg0.win 3) rfl t (fetch_next t h)
  have d : Vec F S128x2048 .f32 := iblk m c 3 t
  have := (dats m 0 c).fetched_congr 3 e rfl d
  unfold Dat.fetched Dat.blockOf at this
  rw [A_eq] at this
  exact congrArg k0_pay1 this

/-- so that the last point finds in the weights' buffer what it would itself have left there. -/
theorem before_last (c : Dev nD) (t : Fin cfg0.N) (ht : t.val = 95) (d) : (dats m 0 c).before 5 t d = nextAt m c t := by
  rw [(dats m 0 c).before_out_traj 5 rfl (fun _ _ => rfl)
    (fun t h0 hi hf => by
      rw [idle_next] at hi
      rw [after_5, after_5]; exact nextAt_pred m c t (of_decide_eq_true hi)) 95 t ht d,
    if_neg (by rw [ht, fresh_last]; exact Bool.false_ne_true), after_5]
  exact (nextAt_pred m c t (by omega)).symm

/-! ### The body at a point -/

/-- The windows' buffers at a point. -/
abbrev st_0 (t : Fin cfg0.N) : Memref sig .tc .vmem S1024x2048 .f32 := win0_0.stage (cfg0.slots t 0)
abbrev st_1 (t : Fin cfg0.N) : Memref sig .tc .vmem S2048x1024 .f32 := win0_1.stage (cfg0.slots t 1)
abbrev st_2 (t : Fin cfg0.N) : Memref sig .tc .vmem S1x1024 .f32 := win0_2.stage (cfg0.slots t 2)
abbrev st_3 (t : Fin cfg0.N) : Memref sig .tc .vmem S128x2048 .f32 := win0_3.stage (cfg0.slots t 3)
abbrev st_4 (t : Fin cfg0.N) : Memref sig .tc .vmem S1024x1024 .bf16 := win0_4.stage (cfg0.slots t 4)
abbrev st_5 (t : Fin cfg0.N) : Memref sig .tc .vmem S128x2048 .bf16 := win0_5.stage (cfg0.slots t 5)

/-- What the point is entered with, -/
def entered (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d))
    ∗ (∃ d, owns (c : Thread nD τ) (st_4 t) fullShare ((dats m 0 c).before 4 t d))
    ∗ (∃ d, owns (c : Thread nD τ) (st_5 t) fullShare ((dats m 0 c).before 5 t d)))

/-- and what it is left with. -/
def left (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- A window stored at the point, or an input, is left at what the data says. -/
theorem leaves_of_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The weights' buffer, as the body leaves it, is what the pipeline asks for at every point. -/
theorem leaves_next (c : Dev nD) (t : Fin cfg0.N) (d) :
    owns (c : Thread nD τ) (st_5 t) fullShare (if k0_cond1 (grid0.coords t) = 1#1 then k0_pay1 (iblk m c 3 t) else (dats m 0 c).before 5 t d)
      ⊢ (dats m 0 c).leavesExact 5 t := by
  by_cases h : t.val < 32
  · rw [if_pos ((cond_next t).mpr h), leaves_of_live m c 5 t (by rw [idle_next]; simp; omega), after_5]
    rfl
  · rw [if_neg (fun e => h ((cond_next t).mp e))]
    have hi : cfg0.idle 5 (grid0.coords t) = true := by rw [idle_next]; simp; omega
    by_cases hl : t.val = 95
    · rw [before_last m c t hl d]
      unfold Dat.leavesExact
      rw [hi, show (cfg0.win 5).flush t = true from by rw [flush_next]; simp [hl]]
      rw [after_5]
    · rw [(dats m 0 c).leavesExact_idle 5 t hi (by rw [flush_next]; simp [hl]; omega)]
      iintro H
      iexists d; iexact H

/-- The rows' scratch before the point, whatever the point. -/
theorem carried_rows (c : Dev nD) (t : Fin cfg0.N) (n : ℕ) (hN : n ≤ cfg0.N) (hn : t.val = n) :
    carried m c n hN ⊢ iprop(iprop((∃ xs, ⌜rowsAt m c t = if rowsCond (grid0.coords t) then k0_pay2 (iblk m c 0 t) else xs⌝ ∗ owns (c : Thread nD τ) rowsRef fullShare xs)
      ∗ (∃ d, owns (c : Thread nD τ) prodRef fullShare d)) ∗ (∃ r, prngReg c r)) := by
  rcases n with _ | n
  · simp only [carried]
    rw [start_eq]
    iintro ⟨⟨⟨%xs, HS0⟩, HS1⟩, Hg⟩
    isplitl [HS0 HS1]
    · isplitl [HS0]
      · iexists xs
        isplitr
        · ipureintro; rw [if_pos ((cond_rows t).mpr (by rw [hn]))]; rfl
        iexact HS0
      iexact HS1
    iexact Hg
  · simp only [carried]
    iintro ⟨⟨HS0, HS1⟩, Hg⟩
    isplitl [HS0 HS1]
    · isplitl [HS0]
      · iexists _
        isplitr
        swap
        · iexact HS0
        · ipureintro
          by_cases h : t.val % 12 = 0
          · rw [if_pos ((cond_rows t).mpr h)]; rfl
          · rw [if_neg (fun e => h ((cond_rows t).mp e)), rowsAt_pred m c t h]
            congr 1; exact Fin.ext (by simp [hn])
      iexact HS1
    iexact Hg

set_option maxHeartbeats 1600000 in
/-- The body at any point. -/
theorem point (c : Dev nD) (t : Fin cfg0.N) :
    entered m c t ⊢ wp frame (wpE (defs₀ (F := F)) Variants.none c none) Set.univ (bodyAt0 t) (fun _ => left m c t) := by
  unfold entered left bodyAt0
  simp only [before_0, before_1, before_2, before_3]
  rw [show (dats m 0 c).owesAt () t.succ = (dats m 0 c).owesAt () t.castSucc from rfl]
  rw [show (dats m 0 c).Φ t.succ = iprop(iprop(owns (c : Thread nD τ) rowsRef fullShare (rowsAt m c t) ∗ (∃ d, owns (c : Thread nD τ) prodRef fullShare d)) ∗ (∃ r, prngReg c r)) from rfl]
  rw [leaves_of_live m c 0 t rfl, leaves_of_live m c 1 t rfl, leaves_of_live m c 2 t rfl, leaves_of_live m c 3 t rfl,
    leaves_of_live m c 4 t (live_act t), after_0, after_1, after_2, after_3, after_4]
  rw [carried_start]
  refine (Idealize.SL.BI.Laws.sep_mono (carried_rows m c t t.val _ rfl) (Idealize.SL.BI.Entails.refl _)).trans ?_
  iintro ⟨⟨⟨⟨%xs, %hxs, HS0⟩, HS1⟩, Hg⟩, Ho, ⟨%d0, H0⟩, ⟨%d1, H1⟩, ⟨%d2, H2⟩, ⟨%d3, H3⟩, ⟨%d4, H4⟩, ⟨%d5, H5⟩⟩
  iapply (body_run (grid0.coords t) _ _ _ _ _ _ _ _ _ _ _ _ _ _ _ _ c (cond_silu t) (iblk m c 0 t) (iblk m c 1 t) (iblk m c 2 t) (iblk m c 3 t) ((dats m 0 c).before 5 t d5) xs (rowsAt m c t) hxs Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iapply (leaves_next m c t d5)
  iexact H5

/-! ### The run -/

/-- The body's triple, as the pipeline asks for it. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (point m c t) rfl .rfl fun _ => .rfl

theorem into (c : Dev nD) : Pipeline.ΦA spec0 c ⊢ (dats m 0 c).Φ 0 := by
  rw [show (dats m 0 c).Φ 0 = Pipeline.ΦA spec0 c from rfl]

theorem out (c : Dev nD) : (dats m 0 c).Φ (Fin.last cfg0.N) ⊢ Pipeline.ΦA spec0 c := by
  rw [show (dats m 0 c).Φ (Fin.last cfg0.N) = carried m c (95 + 1) (Nat.le_refl _) from rfl, start_eq]
  simp only [carried]
  iintro ⟨⟨HS0, HS1⟩, Hg⟩
  isplitl [HS0 HS1]
  · isplitl [HS0]
    · iexists _; iexact HS0
    iexact HS1
  iexact Hg

set_option backward.isDefEq.respectTransparency.types false in
/-- The whole run, with every semaphore at zero at its end. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := into m) (hout := out m)

theorem run_post : θ_run defs (onTc (τ := τ) (main (F := F))) (s₀ m ρ) (Pipeline.FramePost cfgs (dats m) 0 (V m)) :=
  (θ_run defs _ _).mono (fun _ h => h.1) (run_quiet m ρ)

/-- The frame: the run ends, the arguments are as launched, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run_quiet m ρ))

/-- The run, with the results and the arguments after it named. -/
theorem run_named : θ_run defs (onTc (τ := τ) (main (F := F))) ⟨m, fun _ => 0, ρ⟩ fun r => ∀ c : Dev nD,
      r.2.mem ((c : Thread nD τ).loc main_v5_0) = (dats m 0 c).arrAt 4 cfg0.N
      ∧ r.2.mem ((c : Thread nD τ).loc main_v5_1) = (dats m 0 c).arrAt 5 cfg0.N :=
  (θ_run defs _ _).mono (fun r h c => ⟨(h c).1 4, (h c).1 5⟩) (run_post m ρ)

end Cert.KernelInIdeal.Own
end
-- ==== Proof.Val.InBits.lean ====
/- THE GATED INPUT PROJECTION WITHOUT ITS NAMED CONSTANT: the same run, each name standing for its own bits. -/
module
public import proofs.«01_k».proof.Proof.Gen.KernelIn.Frame
public import proofs.«01_k».proof.Proof.Val.InFrame
@[expose] public section
set_option maxRecDepth 16384
noncomputable section
namespace Cert.KernelIn.Own
open Idealize.ShloMosaic Idealize.ShloMosaic.TcCoe
open Cert.KernelIn

variable {F : FTy → Type} [FloatOps F]
variable (m : (ℓ : Loc nD τ sig) → Buf (Elt F) ℓ) (ρ : Dev nD → PrngReg)

/-- Over these numbers a named constant is what its bits say. -/
abbrev plainNames : Named F := ⟨fun _ _ {φ} b => FloatOps.ofBits φ b⟩

/-- So the bodies of the two programs are one table, -/
theorem bodies_eq : @KernelInIdeal.defs₀ F _ plainNames _ = @KernelIn.defs₀ F _ _ := by
  unfold KernelInIdeal.defs₀ KernelIn.defs₀
  refine congrArg (Defs.onTc (nD := nD) (τ := τ) (sig := sig) (Val := Elt F) (Λ := Λ₀)) (funext fun ℓ => funext fun a => ?_)
  match ℓ, a with
  | 0, (t, s) => rfl
/-- and so are their definitions. -/
theorem defs_eq : @KernelInIdeal.defs F _ plainNames _ = @KernelIn.defs F _ _ := congrArg (Pipeline.defs pcfgs) bodies_eq

/-- The frame, from the run of the program with the named constant. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  defs_eq (F := F) ▸ @Cert.KernelInIdeal.Own.frame F _ plainNames m ρ
end Cert.KernelIn.Own
end
-- ==== Proof.Val.Act.lean ====
/- THE TWO ACTIVATIONS OVER THE EXTENDED REALS: the kernel's forms are the reference's, at the infinities too. -/
module
public import Idealize.ShloMosaic.PureOps.Ideal.Laws
@[expose] public section
noncomputable section
namespace Cert.Act
open Idealize.ShloMosaic

/-- The literals of both programs. -/
abbrev half : EReal := Ideal.ofBits .f32 0x3F000000#32
abbrev one : EReal := Ideal.ofBits .f32 0x3F800000#32
abbrev slope : EReal := Ideal.ofBits .f32 0x3F4C422A#32
abbrev cubic : EReal := Ideal.ofBits .f32 0x3D372713#32
/-- The named constant of the kernel: the product of the last two. -/
abbrev slopeCubic : EReal := ((80338380498831 / 2251799813685248 : ℝ) : EReal)

theorem half_eq : half = ((1 / 2 : ℝ) : EReal) := by
  simp [Ideal.ofBits, Ideal.ieee, -EReal.coe_mul]; norm_num
theorem one_eq : one = ((1 : ℝ) : EReal) := by
  simp [Ideal.ofBits, Ideal.ieee, -EReal.coe_mul]; norm_num
theorem slope_eq : slope = ((6693141 / 8388608 : ℝ) : EReal) := by
  simp [Ideal.ofBits, Ideal.ieee, -EReal.coe_mul]; norm_num
theorem cubic_eq : cubic = ((12003091 / 268435456 : ℝ) : EReal) := by
  simp [Ideal.ofBits, Ideal.ieee, -EReal.coe_mul]; norm_num

/-- The first activation as the reference computes it, -/
def gelu (h : EReal) : EReal := h * (half * (one + Ideal.tanh (slope * (h + cubic * (h * h * h)))))
/-- and as the kernel does. -/
def geluKernel (h : EReal) : EReal := half * h * (one + Ideal.tanh (h * (slope + slopeCubic * (h * h))))
/-- The second as the reference computes it, -/
def silu (h : EReal) : EReal := h * Ideal.div one (one + Ideal.exp (-h))
/-- and as the kernel does. -/
def siluKernel (h : EReal) : EReal := half * h * (one + Ideal.tanh (half * h))

theorem one_less_one : ((1 : ℝ) : EReal) + -1 = 0 := by
  rw [show (-1 : EReal) = ((-1 : ℝ) : EReal) from by rw [EReal.coe_neg, EReal.coe_one], ← EReal.coe_add]
  norm_num

theorem gelu_eq (h : EReal) : geluKernel h = gelu h := by
  unfold geluKernel gelu
  rw [half_eq, one_eq, slope_eq, cubic_eq]
  induction h with
  | bot =>
    rw [EReal.bot_mul_bot, EReal.coe_mul_top_of_pos (by norm_num), EReal.coe_add_top, EReal.bot_mul_top, Ideal.tanh_bot,
      EReal.top_mul_bot, EReal.coe_mul_bot_of_pos (by norm_num), EReal.bot_add, EReal.coe_mul_bot_of_pos (by norm_num), Ideal.tanh_bot]
    rw [one_less_one]; simp
  | top =>
    rw [EReal.top_mul_top, EReal.coe_mul_top_of_pos (by norm_num),
      show slopeCubic * ⊤ = ⊤ from EReal.coe_mul_top_of_pos (by norm_num), EReal.coe_add_top, EReal.top_mul_top, Ideal.tanh_top,
      EReal.coe_mul_top_of_pos (by norm_num), EReal.top_add_top, EReal.coe_mul_top_of_pos (by norm_num), Ideal.tanh_top]
    have : ((1 : ℝ) : EReal) + 1 = ((2 : ℝ) : EReal) := by norm_cast
    rw [this, ← EReal.coe_mul, EReal.top_mul_coe_of_pos (by norm_num), EReal.top_mul_coe_of_pos (by norm_num)]
  | coe r =>
    simp only [← EReal.coe_mul, ← EReal.coe_add, Ideal.tanh_coe]
    congr 1
    have : r * (6693141 / 8388608 + 80338380498831 / 2251799813685248 * (r * r)) = 6693141 / 8388608 * (r + 12003091 / 268435456 * (r * r * r)) := by ring
    rw [this]; ring

/-- Half of one plus the tangent of half of it is the logistic function. -/
theorem logistic_tanh (r : ℝ) : 1 / 2 * (1 + Real.tanh (1 / 2 * r)) = 1 / (1 + Real.exp (-r)) := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, h1]
  generalize Real.exp (1 / 2 * r) = a at *
  generalize Real.exp (-(1 / 2 * r)) = b at *
  have hb : b = a⁻¹ := by field_simp; linarith
  subst hb
  field_simp
  ring

theorem silu_eq (h : EReal) : siluKernel h = silu h := by
  unfold siluKernel silu
  rw [half_eq, one_eq]
  induction h with
  | bot =>
    rw [EReal.coe_mul_bot_of_pos (by norm_num), Ideal.tanh_bot, EReal.neg_bot, Ideal.exp_top, EReal.coe_add_top]
    rw [one_less_one]; simp [Ideal.div]
  | top =>
    rw [EReal.coe_mul_top_of_pos (by norm_num), Ideal.tanh_top, EReal.neg_top, Ideal.exp_bot]
    have : ((1 : ℝ) : EReal) + 1 = ((2 : ℝ) : EReal) := by norm_cast
    rw [this, EReal.top_mul_coe_of_pos (by norm_num), add_zero, Ideal.div_coe one_ne_zero, ← EReal.coe_mul,
      EReal.top_mul_coe_of_pos (by norm_num)]
  | coe r =>
    rw [← EReal.coe_neg, Ideal.exp_coe, ← EReal.coe_mul, Ideal.tanh_coe, ← EReal.coe_add, ← EReal.coe_add,
      Ideal.div_coe (by have := Real.exp_pos (-r); positivity), ← EReal.coe_mul, ← EReal.coe_mul, ← EReal.coe_mul]
    congr 1
    rw [one_mul, ← logistic_tanh]; ring
end Cert.Act
-- ==== Proof.Val.InTile.lean ====
/- ONE BLOCK OF THE GATED INPUT PROJECTION OVER THE EXTENDED REALS, ENTRY BY ENTRY. -/
module
public import proofs.«01_k».proof.Proof.Val.InFrame
public import proofs.«01_k».proof.Proof.Val.Act
public import Idealize.ShloMosaic.Lib.Pointwise
@[expose] public section
set_option maxRecDepth 16384
noncomputable section
namespace Cert.KernelInIdeal.Own
open Idealize.ShloMosaic Idealize.ShloMosaic.TcCoe Idealize.ShloMosaic.Tactic
open Cert.KernelInIdeal Cert.KernelInIdeal.Gen Cert.Act

variable (xs : FVec Ideal S1024x2048 .bf16) (w : FVec Ideal S2048x1024 .f32) (b : FVec Ideal S1x1024 .f32)

/-- A projected entry, before its activation. -/
def proj (r j : Fin 1024) : EReal := (∑ k : Fin 2048, xs (ix2 r k) * w (ix2 k j)) + b (ix2 0 j)

/-- A product's entry. -/
theorem product_apply (w' : FVec Ideal S2048x256 .f32) (r : Fin 1024) (q : Fin 256) :
    k0_pay6 (F := Ideal) xs w' (ix3 0 r q) = ∑ k : Fin 2048, xs (ix2 r k) * w' (ix2 k q) := by
  pointwise [k0_pay6]

/-- The activations' entries. -/
theorem gelu_apply (p : FVec Ideal S1x1024x256 .f32) (b' : FVec Ideal S1x256 .f32) (r : Fin 1024) (q : Fin 256) :
    k0_pay16 (F := Ideal) p b' (ix2 r q) = geluKernel (p (ix3 0 r q) + b' (ix2 0 q)) := by
  unfold geluKernel
  pointwise [k0_pay16]
  rfl
theorem silu_apply (p : FVec Ideal S1x1024x256 .f32) (b' : FVec Ideal S1x256 .f32) (r : Fin 1024) (q : Fin 256) :
    k0_pay4 (F := Ideal) p b' (ix2 r q) = siluKernel (p (ix3 0 r q) + b' (ix2 0 q)) := by
  unfold siluKernel
  pointwise [k0_pay4]

/-- A piece's entry is the block's, at the piece's columns. -/
theorem proj_piece (o : ℕ) (hw : ∀ a, (![0, o] : Fin 2 → ℕ) a + S2048x256.size a ≤ S2048x1024.size a)
    (hb : ∀ a, (![0, o] : Fin 2 → ℕ) a + S1x256.size a ≤ S1x1024.size a) (r j : Fin 1024) (q : Fin 256) (hj : j.val = o + q.val) :
    k0_pay6 (F := Ideal) xs (wcols w o hw) (ix3 0 r q) + bcols (F := Ideal) b o hb (ix2 0 q) = proj xs w b r j := by
  rw [product_apply]
  unfold proj wcols bcols
  congr 1
  · refine Finset.sum_congr rfl fun k _ => congrArg (xs (ix2 r k) * ·) ?_
    refine View.ld_unit_apply_of _ _ _ _ _ _ fun a => ?_
    fin_cases a
    · show k.val = 0 + k.val; omega
    · exact hj
  · refine View.ld_unit_apply_of _ _ _ _ _ _ fun a => ?_
    fin_cases a
    · rfl
    · exact hj

/-- A block of the first activation, -/
theorem geluTile_apply (y : S1024x1024.Idx) : geluTile (F := Ideal) xs w b y = gelu (proj xs w b (y 0) (y 1)) := by
  rw [← gelu_eq]
  unfold geluTile
  canon_tiles x h
  all_goals
    refine (congrArg _ (show x = ix2 (x 0) (x 1) from funext fun d => by fin_cases d <;> rfl)).trans ((gelu_apply _ _ (x 0) (x 1)).trans (congrArg geluKernel ?_))
    rw [show y 0 = x 0 from Fin.ext h0]
    exact proj_piece xs w b _ _ _ (x 0) (y 1) (x 1) (by omega)

/-- and of the second. -/
theorem siluTile_apply (y : S1024x1024.Idx) : siluTile (F := Ideal) xs w b y = silu (proj xs w b (y 0) (y 1)) := by
  rw [← silu_eq]
  unfold siluTile
  canon_tiles x h
  all_goals
    refine (congrArg _ (show x = ix2 (x 0) (x 1) from funext fun d => by fin_cases d <;> rfl)).trans ((silu_apply _ _ (x 0) (x 1)).trans (congrArg siluKernel ?_))
    rw [show y 0 = x 0 from Fin.ext h0]
    exact proj_piece xs w b _ _ _ (x 0) (y 1) (x 1) (by omega)
end Cert.KernelInIdeal.Own
-- ==== Proof.Val.InBlocks.lean ====
/- THE GATED INPUT PROJECTION: the blocks each point reads, and the two arrays the points leave. -/
module
public import proofs.«01_k».proof.Proof.Val.InTile
public import Idealize.ShloMosaic.Lib.StableHlo.ReadAt
public import Idealize.ShloMosaic.Lib.Pipeline.ValueKit.Geometry
@[expose] public section
set_option maxRecDepth 16384
noncomputable section
namespace Cert.KernelInIdeal.Own
open Idealize.ShloMosaic Idealize.ShloMosaic.TcCoe Idealize.ShloMosaic.Tactic Idealize.ShloMosaic.Pipeline
open Cert.KernelInIdeal Cert.KernelInIdeal.Gen Cert.Act

variable (m : (ℓ : Loc nD τ sig) → Buf (Elt Ideal) ℓ) (c : Dev nD)

/-- The arguments: the rows, the projection's weights and bias, and the weights that the call rounds for later. -/
def rows : Vec Ideal S2x4096x2048 .f32 := m ((c : Thread nD τ).loc main_arg0)
def weights : Vec Ideal S1x2048x12288 .f32 := m ((c : Thread nD τ).loc main_arg1)
def bias : Vec Ideal S1x12288 .f32 := m ((c : Thread nD τ).loc main_arg2)
def later : Vec Ideal S1x4096x2048 .f32 := m ((c : Thread nD τ).loc main_arg3)

/-! ### What the region finds in its arrays -/

/-- A row of the whole is a batch and a position. -/
abbrev rowAt (b : Fin 2) (s : Fin 4096) : Fin 8192 := ⟨4096 * b.val + s.val, by omega⟩

/-- A row of the whole, taken apart again. -/
theorem split_row {n : ℕ} (b : Fin 2) (s : Fin 4096) (k : Fin n) (h₀ : (4096 * b.val + s.val) / 4096 < 2)
    (h₁ : (4096 * b.val + s.val) % 4096 < 4096) :
    (ix3 ⟨(4096 * b.val + s.val) / 4096, h₀⟩ ⟨(4096 * b.val + s.val) % 4096, h₁⟩ k : (⟨3, ![2, 4096, n]⟩ : Shape).Idx) = ix3 b s k := by
  congr 1
  · apply Fin.ext; show (4096 * b.val + s.val) / 4096 = b.val; omega
  · apply Fin.ext; show (4096 * b.val + s.val) % 4096 = s.val; omega

theorem host_rows (b : Fin 2) (s : Fin 4096) (k : Fin 2048) :
    (V m c main_v0 : Vec Ideal S8192x2048 .f32) (ix2 (rowAt b s) k) = rows m c (ix3 b s k) := by
  unfold rows V
  simp only [hostOps0]
  after_reads_at
  rw [split_row]

theorem host_weights (k : Fin 2048) (j : Fin 12288) :
    (V m c main_v1 : Vec Ideal S2048x12288 .f32) (ix2 k j) = weights m c (ix3 0 k j) := by
  unfold weights V
  simp only [hostOps0]
  after_reads_at

theorem host_bias (j : Fin 12288) : (V m c main_v3 : Vec Ideal S1x12288 .f32) (ix2 0 j) = bias m c (ix2 0 j) := by
  unfold bias V
  simp only [hostOps0]
  after_reads_at

theorem host_later (r : Fin 4096) (j : Fin 2048) :
    (V m c main_v4 : Vec Ideal S4096x2048 .f32) (ix2 r j) = later m c (ix3 0 r j) := by
  unfold later V
  simp only [hostOps0]
  after_reads_at

/-! ### The blocks of a point -/

theorem index0 : ∀ t : Fin cfg0.N, win0_0.index t = ![t.val / 12, 0] := (by decide +kernel : ∀ t : Fin grid0.N, _)
theorem index1 : ∀ t : Fin cfg0.N, win0_1.index t = ![0, t.val % 12] := (by decide +kernel : ∀ t : Fin grid0.N, _)
theorem index2 : ∀ t : Fin cfg0.N, win0_2.index t = ![0, t.val % 12] := (by decide +kernel : ∀ t : Fin grid0.N, _)
theorem index3 : ∀ t : Fin cfg0.N, win0_3.index t = ![min t.val 31, 0] := (by decide +kernel : ∀ t : Fin grid0.N, _)
theorem index4 : ∀ t : Fin cfg0.N, win0_4.index t = ![t.val / 12, t.val % 12] := (by decide +kernel : ∀ t : Fin grid0.N, _)
theorem index5 : ∀ t : Fin cfg0.N, win0_5.index t = ![min t.val 31, 0] := (by decide +kernel : ∀ t : Fin grid0.N, _)

theorem points (t : Fin cfg0.N) : t.val < 96 := t.isLt

/-- A point's batch, the position of its row `r`, its column `j`, and the row `r` of the later weights. -/
def batchOf (t : Fin cfg0.N) : Fin 2 := ⟨t.val / 48, by have := points t; omega⟩
def posOf (t : Fin cfg0.N) (r : Fin 1024) : Fin 4096 := ⟨1024 * (t.val / 12 % 4) + r.val, by omega⟩
def colOf (t : Fin cfg0.N) (j : Fin 1024) : Fin 12288 := ⟨1024 * (t.val % 12) + j.val, by omega⟩
def laterOf (t : Fin cfg0.N) (r : Fin 128) : Fin 4096 := ⟨128 * min t.val 31 + r.val, by omega⟩

theorem block_rows (t : Fin cfg0.N) (r : Fin 1024) (k : Fin 2048) :
    iblk m c 0 t (ix2 r k) = rows m c (ix3 (batchOf t) (posOf t r) k) := by
  rw [← host_rows]
  blk_simp [iblk]
  refine congrArg (V m c main_v0) (funext fun d => Fin.ext ?_)
  fin_cases d
  · blk_simp [index0]
    show t.val / 12 * 1024 + r.val = 4096 * (t.val / 48) + (1024 * (t.val / 12 % 4) + r.val)
    omega
  · blk_simp [index0]; rfl

theorem block_weights (t : Fin cfg0.N) (k : Fin 2048) (j : Fin 1024) :
    iblk m c 1 t (ix2 k j) = weights m c (ix3 0 k (colOf t j)) := by
  rw [← host_weights]
  blk_simp [iblk]
  refine congrArg (V m c main_v1) (funext fun d => Fin.ext ?_)
  fin_cases d
  · blk_simp [index1]; rfl
  · blk_simp [index1]
    show t.val % 12 * 1024 + j.val = 1024 * (t.val % 12) + j.val
    omega

theorem block_bias (t : Fin cfg0.N) (j : Fin 1024) : iblk m c 2 t (ix2 0 j) = bias m c (ix2 0 (colOf t j)) := by
  rw [← host_bias]
  blk_simp [iblk]
  refine congrArg (V m c main_v3) (funext fun d => Fin.ext ?_)
  fin_cases d
  · blk_simp [index2]
  · blk_simp [index2]
    show t.val % 12 * 1024 + j.val = 1024 * (t.val % 12) + j.val
    omega

theorem block_later (t : Fin cfg0.N) (r : Fin 128) (j : Fin 2048) :
    iblk m c 3 t (ix2 r j) = later m c (ix3 0 (laterOf t r) j) := by
  rw [← host_later]
  blk_simp [iblk]
  refine congrArg (V m c main_v4) (funext fun d => Fin.ext ?_)
  fin_cases d
  · blk_simp [index3]
    show min t.val 31 * 128 + r.val = 128 * min t.val 31 + r.val
    omega
  · blk_simp [index3]; rfl

/-! ### The arrays -/

/-- An entry before its activation. -/
def entry (x : Vec Ideal S2x4096x2048 .f32) (w : Vec Ideal S1x2048x12288 .f32) (b : Vec Ideal S1x12288 .f32) (i : Fin 2) (s : Fin 4096)
    (j : Fin 12288) : EReal :=
  (∑ k : Fin 2048, x (ix3 i s k) * w (ix3 0 k j)) + b (ix2 0 j)
/-- The activation of a column. -/
def actOf (j : Fin 12288) (h : EReal) : EReal := if j.val < 8192 then gelu h else silu h

/-- The activations. -/
def result : Vec Ideal S8192x12288 .bf16 := fun i =>
  actOf (i 1) (entry (rows m c) (weights m c) (bias m c) ⟨(i 0).val / 4096, by have : (i 0).val < 8192 := (i 0).isLt; omega⟩
    ⟨(i 0).val % 4096, Nat.mod_lt _ (by norm_num)⟩ (i 1))
/-- The later weights. -/
def resultLater : Vec Ideal S4096x2048 .bf16 := fun i => later m c (ix3 0 (i 0) (i 1))

/-- Over the extended reals a rounded block is the block. -/
theorem rounded_rows (v : Vec Ideal S1024x2048 .f32) (r : Fin 1024) (k : Fin 2048) :
    k0_pay2 (F := Ideal) v (ix2 r k) = v (ix2 r k) := by
  pointwise [k0_pay2]
theorem rounded_later (v : Vec Ideal S128x2048 .f32) (r : Fin 128) (j : Fin 2048) :
    k0_pay1 (F := Ideal) v (ix2 r j) = v (ix2 r j) := by
  pointwise [k0_pay1]

theorem proj_eq (t : Fin cfg0.N) (r j : Fin 1024) :
    proj (rowsAt m c t) (iblk m c 1 t) (iblk m c 2 t) r j
      = entry (rows m c) (weights m c) (bias m c) (batchOf t) (posOf t r) (colOf t j) :=
  congrArg₂ (· + ·) (Finset.sum_congr rfl fun k _ => congrArg₂ (· * ·) ((rounded_rows (iblk m c 0 t) r k).trans (block_rows m c t r k)) (block_weights m c t k j))
    (block_bias m c t j)

/-- What a point leaves in the activations' buffer. -/
theorem actAt_apply (t : Fin cfg0.N) (r j : Fin 1024) :
    actAt m c t (ix2 r j) = actOf (colOf t j) (entry (rows m c) (weights m c) (bias m c) (batchOf t) (posOf t r) (colOf t j)) := by
  have hj := j.isLt
  unfold actAt actOf
  by_cases h : t.val % 12 ≤ 7
  · rw [if_pos ((cond_gelu t).mpr h), if_pos (show (colOf t j).val < 8192 by show 1024 * (t.val % 12) + j.val < 8192; omega)]
    exact (geluTile_apply _ _ _ _).trans (congrArg gelu (proj_eq m c t r j))
  · rw [if_neg (fun e => h ((cond_gelu t).mp e)), if_neg (show ¬ (colOf t j).val < 8192 by show ¬ 1024 * (t.val % 12) + j.val < 8192; omega)]
    exact (siluTile_apply _ _ _ _).trans (congrArg silu (proj_eq m c t r j))

/-- The activations' array after the last point. -/
theorem array_act : (dats m 0 c).arrAt 4 cfg0.N = result m c := by
  refine (dats m 0 c).arrAt_eq_of_covers 4 _ (by decide +kernel) fun t hf y => ?_
  let r : Fin 1024 := y 0
  let j : Fin 1024 := y 1
  have hy : y = ix2 r j := by
    refine funext fun d => Fin.ext ?_
    fin_cases d <;> rfl
  rw [after_4]
  refine (congrArg (actAt m c t) hy).trans ((actAt_apply m c t r j).trans ?_)
  have e0 : (((cfg0.win 4).blk t).view.emb y 0 : ℕ) = t.val / 12 * 1024 + r.val := by
    blk_simp [index4]; rfl
  have e1 : (((cfg0.win 4).blk t).view.emb y 1 : ℕ) = t.val % 12 * 1024 + j.val := by
    blk_simp [index4]; rfl
  have ht := points t
  have hr := r.isLt
  have hb : batchOf t = ⟨(((cfg0.win 4).blk t).view.emb y 0 : ℕ) / 4096, by rw [e0]; omega⟩ :=
    Fin.ext (by show t.val / 48 = _ / 4096; rw [e0]; omega)
  have hs : posOf t r = ⟨(((cfg0.win 4).blk t).view.emb y 0 : ℕ) % 4096, Nat.mod_lt _ (by norm_num)⟩ :=
    Fin.ext (by show 1024 * (t.val / 12 % 4) + r.val = _ % 4096; rw [e0]; omega)
  have hj : colOf t j = ((cfg0.win 4).blk t).view.emb y 1 :=
    Fin.ext (by show 1024 * (t.val % 12) + j.val = _; rw [e1]; omega)
  rw [hb, hs, hj]
  rfl

/-- The later weights' array after the last point. -/
theorem array_later : (dats m 0 c).arrAt 5 cfg0.N = resultLater m c := by
  refine (dats m 0 c).arrAt_eq_of_covers 5 _ (by decide +kernel) fun t hf y => ?_
  let r : Fin 128 := y 0
  let j : Fin 2048 := y 1
  have hy : y = ix2 r j := by
    refine funext fun d => Fin.ext ?_
    fin_cases d <;> rfl
  rw [after_5]
  refine (congrArg (nextAt m c t) hy).trans (((rounded_later (iblk m c 3 t) r j).trans (block_later m c t r j)).trans ?_)
  have e0 : (((cfg0.win 5).blk t).view.emb y 0 : ℕ) = min t.val 31 * 128 + r.val := by
    blk_simp [index5]; rfl
  have e1 : (((cfg0.win 5).blk t).view.emb y 1 : ℕ) = j.val := by
    blk_simp [index5]; rfl
  have hr : laterOf t r = ((cfg0.win 5).blk t).view.emb y 0 :=
    Fin.ext (by show 128 * min t.val 31 + r.val = _; rw [e0]; omega)
  have hj : j = ((cfg0.win 5).blk t).view.emb y 1 := Fin.ext e1.symm
  rw [hr, hj]
  rfl
end Cert.KernelInIdeal.Own
-- ==== Proof.Val.InRef.lean ====
/- THE REFERENCE OF THE GATED INPUT PROJECTION AT AN INDEX: the same entries under the same activations. -/
module
public import proofs.«01_k».proof.Proof.Gen.ReferenceInIdeal.Read
public import proofs.«01_k».proof.Proof.Val.InBlocks
@[expose] public section
set_option maxRecDepth 16384
noncomputable section
namespace Cert.ReferenceInIdeal.Read
open Idealize.ShloMosaic Idealize.ShloMosaic.TcCoe Idealize.ShloMosaic.Tactic
open Cert.Act Cert.ReferenceInIdeal Cert.ReferenceInIdeal.Gen
open Cert.KernelInIdeal.Own (entry actOf)

variable (x : (⟨S2x4096x2048, .f32⟩ : BufTy).Contents (Elt Ideal)) (w : (⟨S1x2048x12288, .f32⟩ : BufTy).Contents (Elt Ideal))
  (b : (⟨S1x12288, .f32⟩ : BufTy).Contents (Elt Ideal))

theorem entry_apply (i : Fin 2) (s : Fin 4096) (j : Fin 12288) : val_main_v5 x w b (ix3 i s j) = entry x w b i s j := by
  rw [val_main_v5_apply, val_main_v1_apply, val_main_v4_apply, val_main_v3_apply, val_main_v2_apply]
  have hb : idx_main_v2 (idx_main_v3 (idx_main_v4 (ix3 i s j))) = ix2 0 j := by
    refine funext fun d => Fin.ext ?_
    match d with | ⟨0, _⟩ => rfl | ⟨1, _⟩ => exact Nat.mod_eq_of_lt j.isLt
  rw [hb]
  refine congrArg (· + b (ix2 0 j)) (Finset.sum_congr rfl fun k _ => ?_)
  rw [val_main_v0_apply]
  have e1 : lidx_main_v1 (ix3 i s j) k = ix3 i s k := by
    funext d; match d with | ⟨0, _⟩ => rfl | ⟨1, _⟩ => rfl | ⟨2, _⟩ => rfl
  have e2 : idx_main_v0 (ridx_main_v1 (ix3 i s j) k) = ix3 0 k j := by
    have := k.isLt
    have := j.isLt
    refine funext fun d => Fin.ext ?_
    match d with
    | ⟨0, _⟩ => rfl
    | ⟨1, _⟩ => show (k.val * 12288 + j.val) / 12288 % 2048 = k.val; omega
    | ⟨2, _⟩ => show (k.val * 12288 + j.val) % 12288 = j.val; omega
  rw [e1, e2]

/-! ### The three thirds of the columns -/

theorem first_apply (y : S2x4096x4096.Idx) : val_main_v21 x w b y = gelu (val_main_v6 x w b y) := by
  rw [val_main_v21_apply, val_main_v20_apply, val_main_v19_apply, val_main_cst_2_apply, val_main_v18_apply, val_main_v17_apply,
    val_main_cst_1_apply, val_main_v16_apply, val_main_v15_apply, val_main_v14_apply, val_main_cst_0_apply, val_main_v13_apply,
    val_main_v12_apply, val_main_v11_apply, val_main_cst_apply, val_main_v10_apply, val_main_v9_apply]
  rfl
theorem second_apply (y : S2x4096x4096.Idx) : val_main_v34 x w b y = gelu (val_main_v7 x w b y) := by
  rw [val_main_v34_apply, val_main_v33_apply, val_main_v32_apply, val_main_cst_6_apply, val_main_v31_apply, val_main_v30_apply,
    val_main_cst_5_apply, val_main_v29_apply, val_main_v28_apply, val_main_v27_apply, val_main_cst_4_apply, val_main_v26_apply,
    val_main_v25_apply, val_main_v24_apply, val_main_cst_3_apply, val_main_v23_apply, val_main_v22_apply]
  rfl
theorem third_apply (y : S2x4096x4096.Idx) : val_main_v35 x w b y = silu (val_main_v8 x w b y) := by
  rw [val_main_v35_apply, val_main_call0_v5_apply, val_main_call0_v4_apply, val_main_call0_cst_0_apply, val_main_call0_v3_apply,
    val_main_call0_v2_apply, val_main_call0_cst_apply, val_main_call0_v1_apply, val_main_call0_v0_apply]
  rfl

/-- A column is a third and a column of it. -/
theorem joined_apply (i : Fin 2) (s : Fin 4096) (j : Fin 12288) :
    val_main_v36 x w b (ix3 i s j)
      = (![val_main_v21 x w b, val_main_v34 x w b, val_main_v35 x w b] : Fin 3 → S2x4096x4096.Idx → EReal)
          ⟨j.val / 4096, by have := j.isLt; omega⟩ (ix3 i s ⟨j.val % 4096, Nat.mod_lt _ (by norm_num)⟩) := by
  unfold val_main_v36
  refine concatenate_ofFn_apply (t := S2x4096x12288) (s₁ := S2x4096x4096) 2
    (![val_main_v21 x w b, val_main_v34 x w b, val_main_v35 x w b] : Fin 3 → S2x4096x4096.Idx → EReal)
    concatenates_S2x4096x4096_S2x4096x4096_S2x4096x4096_S2x4096x12288_d2 rfl 4096 rfl (ix3 i s j)
    ⟨j.val / 4096, by have := j.isLt; omega⟩ rfl (ix3 i s ⟨j.val % 4096, Nat.mod_lt _ (by norm_num)⟩) rfl fun d hd => ?_
  match d with
  | ⟨0, _⟩ => rfl
  | ⟨1, _⟩ => rfl
  | ⟨2, _⟩ => exact absurd rfl hd

theorem act_apply (i : Fin 2) (s : Fin 4096) (j : Fin 12288) :
    val_main_v36 x w b (ix3 i s j) = actOf j (entry x w b i s j) := by
  have hj := j.isLt
  rw [joined_apply, ← entry_apply]
  unfold actOf
  by_cases h1 : j.val < 4096
  · rw [if_pos (by omega), show (⟨j.val / 4096, by omega⟩ : Fin 3) = 0 from Fin.ext (show j.val / 4096 = 0 by omega)]
    refine (first_apply x w b _).trans (congrArg gelu ?_)
    rw [val_main_v6_apply]
    refine congrArg (val_main_v5 x w b) (funext fun d => Fin.ext ?_)
    match d with
    | ⟨0, _⟩ => rfl
    | ⟨1, _⟩ => rfl
    | ⟨2, _⟩ => show j.val % 4096 = j.val; omega
  · by_cases h2 : j.val < 8192
    · rw [if_pos h2, show (⟨j.val / 4096, by omega⟩ : Fin 3) = 1 from Fin.ext (show j.val / 4096 = 1 by omega)]
      refine (second_apply x w b _).trans (congrArg gelu ?_)
      rw [val_main_v7_apply]
      refine congrArg (val_main_v5 x w b) (funext fun d => Fin.ext ?_)
      match d with
      | ⟨0, _⟩ => rfl
      | ⟨1, _⟩ => rfl
      | ⟨2, _⟩ => show 4096 + j.val % 4096 = j.val; omega
    · rw [if_neg h2, show (⟨j.val / 4096, by omega⟩ : Fin 3) = 2 from Fin.ext (show j.val / 4096 = 2 by omega)]
      refine (third_apply x w b _).trans (congrArg silu ?_)
      rw [val_main_v8_apply]
      refine congrArg (val_main_v5 x w b) (funext fun d => Fin.ext ?_)
      match d with
      | ⟨0, _⟩ => rfl
      | ⟨1, _⟩ => rfl
      | ⟨2, _⟩ => show 8192 + j.val % 4096 = j.val; omega

/-! ### The results are the arrays the kernel's points leave -/

variable (m : (ℓ : Loc Cert.KernelInIdeal.nD Cert.KernelInIdeal.τ Cert.KernelInIdeal.sig) → Buf (Elt Ideal) ℓ)
  (c : Dev Cert.KernelInIdeal.nD)

theorem result_eq :
    val_main_v38 (Cert.KernelInIdeal.Own.rows m c) (Cert.KernelInIdeal.Own.weights m c) (Cert.KernelInIdeal.Own.bias m c)
      = Cert.KernelInIdeal.Own.result m c := by
  funext i
  have h0 : (i 0).val < 8192 := (i 0).isLt
  have h1 : (i 1).val < 12288 := (i 1).isLt
  have e : idx_main_v37 i = ix3 ⟨(i 0).val / 4096, by omega⟩ ⟨(i 0).val % 4096, by omega⟩ ⟨(i 1).val, h1⟩ := by
    refine funext fun d => Fin.ext ?_
    match d with
    | ⟨0, _⟩ => show ((i 0).val * 12288 + (i 1).val) / 50331648 = (i 0).val / 4096; omega
    | ⟨1, _⟩ => show ((i 0).val * 12288 + (i 1).val) / 12288 % 4096 = (i 0).val % 4096; omega
    | ⟨2, _⟩ => show ((i 0).val * 12288 + (i 1).val) % 12288 = (i 1).val; omega
  rw [val_main_v38_apply, val_main_v37_apply, e, act_apply]
  rfl

theorem later_eq : val_main_v40 (Cert.KernelInIdeal.Own.later m c) = Cert.KernelInIdeal.Own.resultLater m c := by
  funext i
  have h0 : (i 0).val < 4096 := (i 0).isLt
  have h1 : (i 1).val < 2048 := (i 1).isLt
  rw [val_main_v40_apply, val_main_v39_apply]
  have e : idx_main_v39 i = ix3 0 (i 0) (i 1) := by
    refine funext fun d => Fin.ext ?_
    match d with
    | ⟨0, _⟩ => rfl
    | ⟨1, _⟩ => show ((i 0).val * 2048 + (i 1).val) / 2048 % 4096 = (i 0).val; omega
    | ⟨2, _⟩ => show ((i 0).val * 2048 + (i 1).val) % 2048 = (i 1).val; omega
  rw [e]
  rfl
end Cert.ReferenceInIdeal.Read
-- ==== Proof.Val.MixSteps.lean ====
/- WHAT A POINT OF THE gMLP'S SECOND CALL LEAVES IN ITS BLOCKS: 16 tiles of the mixed and gated activations, side by
   side in the scratch, then projected, added to the residual and normalized. -/
module
public import proofs.«01_k».proof.Proof.Gen.KernelMixIdeal.Value
public import Idealize.ShloMosaic.Lib.Pipeline.ValueKit
@[expose] public section
set_option maxRecDepth 16384
noncomputable section
namespace Cert.KernelMixIdeal.Value
open Idealize.ShloMosaic Idealize.ShloMosaic.TcCoe Idealize.ShloMosaic.Tactic Idealize.ShloMosaic.Pipeline
open Cert.KernelMixIdeal.Gen Cert.KernelMixIdeal

/-- Tile `k` is half `k % 2` of the rows and group `k / 2` of the columns. -/
abbrev tileOff (k : Fin 16) : Fin 2 → ℕ := ![128 * (k.val % 2), 512 * (k.val / 2)]
theorem tile_inb : ∀ (k : Fin 16) (a : Fin 2), tileOff k a + S128x512.size a ≤ S256x4096.size a := by decide
theorem tile_slices : ∀ k : Fin 16, S256x4096.Slices (tileOff k) S128x512 := by decide
theorem weight_inb : ∀ (k : Fin 16) (a : Fin 3), (![k.val / 2, 0, 0] : Fin 3 → ℕ) a + S1x128x128.size a ≤ S8x128x128.size a := by
  decide
theorem bias_inb : ∀ (k : Fin 16) (a : Fin 3), (![k.val / 2, 0, 0] : Fin 3 → ℕ) a + S1x128x1.size a ≤ S8x128x1.size a := by
  decide

/-- A group's mixing weights, zero above the diagonal. -/
def causal (w : FVec Ideal S1x128x128 .f32) : FVec Ideal S128x128 .bf16 :=
  truncf .bf16 (select k0_pay3 (shapeCast S128x128 w shapeCasts_S1x128x128_S128x128)
    (broadcast S128x128 (Scalar.ofBits .f32 0x00000000#32))) bitsLt_bf16_f32

/-- One tile: the normalized gates `v` mixed along the positions, plus the bias, times the activations `u` and `g`. -/
def tile (v : FVec Ideal S256x4096 .bf16) (w : FVec Ideal S1x128x128 .f32) (b : FVec Ideal S1x128x1 .f32)
    (u g : FVec Ideal S128x512 .bf16) (k : Fin 16) : FVec Ideal S128x512 .bf16 :=
  shapeCast S128x512 (truncf .bf16 (mulf
    (mulf (extf .f32 (shapeCast S128x512 u shapeCasts_S128x512_S128x512) bitsLt_bf16_f32)
      (extf .f32 (shapeCast S128x512 g shapeCasts_S128x512_S128x512) bitsLt_bf16_f32))
    (addf (matmul dot_S128x128_S128x512_S128x512_1_0_0_1_n_n none (causal w)
        (extractStridedSlice S128x512 (tileOff k) v (tile_slices k)) (constant S128x512 .f32 0x00000000#32))
      (broadcastTo S128x512 (shapeCast S128x1 b shapeCasts_S1x128x1_S128x1) broadcasts_S128x1_S128x512))) bitsLt_bf16_f32)
    shapeCasts_S128x512_S128x512

/-- Where tile `k` is. -/
abbrev tileRect (k : Fin 16) : Rect S256x4096 := Rect.unit (tileOff k) ![128, 512] (tile_inb k)

/-- Tile `k` as the point computes it from its blocks. -/
def tileAt (u v g : Vec Ideal S256x4096 .bf16) (vg vb : Vec Ideal S1x4096 .f32) (w : Vec Ideal S8x128x128 .f32)
    (b : Vec Ideal S8x128x1 .f32) (k : Fin 16) : FVec Ideal S128x512 .bf16 :=
  tile (k0_pay2 v vg vb) (View.ld (Val := Elt Ideal) (e' := .f32) w (Rect.unit ![k.val / 2, 0, 0] ![1, 128, 128] (weight_inb k)))
    (View.ld (Val := Elt Ideal) (e' := .f32) b (Rect.unit ![k.val / 2, 0, 0] ![1, 128, 1] (bias_inb k)))
    (View.ld (Val := Elt Ideal) (e' := .bf16) u (tileRect k)) (View.ld (Val := Elt Ideal) (e' := .bf16) g (tileRect k)) k

/-- The 16 tiles as they are stored, the last first. -/
def tiles (u v g : Vec Ideal S256x4096 .bf16) (vg vb : Vec Ideal S1x4096 .f32) (w : Vec Ideal S8x128x128 .f32)
    (b : Vec Ideal S8x128x1 .f32) : List (View.Piece (Elt Ideal) S256x4096 .bf16) :=
  List.ofFn fun k : Fin 16 => ⟨tileRect k.rev, tileAt u v g vg vb w b k.rev⟩

variable (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S256x2048 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S8x128x128 .f32) (harg7 : arg7.IsWhole) (arg8 : Memref sig .tc .vmem S8x128x1 .f32) (harg8 : arg8.IsWhole) (arg9 : Memref sig .tc .vmem S4096x2048 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S256x2048 .f32) (harg12 : arg12.IsWhole) (arg13 : Memref sig .tc .vmem S256x2048 .bf16) (harg13 : arg13.IsWhole) (arg14 : Memref sig .tc .vmem S256x4096 .bf16) (harg14 : arg14.IsWhole)
    (x0 : Vec Ideal S256x4096 .bf16) (x1 : Vec Ideal S256x4096 .bf16) (x2 : Vec Ideal S256x4096 .bf16) (x3 : Vec Ideal S256x2048 .f32) (x4 : Vec Ideal S1x4096 .f32) (x5 : Vec Ideal S1x4096 .f32) (x6 : Vec Ideal S8x128x128 .f32) (x7 : Vec Ideal S8x128x1 .f32) (x8 : Vec Ideal S4096x2048 .bf16) (x9 : Vec Ideal S1x2048 .f32) (x10 : Vec Ideal S1x2048 .f32)

/-- The tiles read back whole. -/
theorem read_tiles : arg14.view.readCov (tiles x0 x1 x2 x4 x5 x6 x7)
    (Rect.unit ![0, 0] S256x4096.size inb_S256x4096_S256x4096_0_0).toLoadRect = View.canon (tiles x0 x1 x2 x4 x5 x6 x7) := by
  unfold View.readCov
  rw [View.readAt_eq_ld, View.read_writes_junk_eq_canon]
  exact View.ld_unit_lit' _ _ (by decide)

theorem out_f32 : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10
    = k0_pay41 (F := Ideal) (View.canon (tiles x0 x1 x2 x4 x5 x6 x7)) x8 x3 x9 x10 := by
  frame_out
  rw [← read_tiles arg14 x0 x1 x2 x4 x5 x6 x7]
  rfl

theorem out_bf16 : out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10
    = k0_pay1 (F := Ideal) (k0_pay41 (F := Ideal) (View.canon (tiles x0 x1 x2 x4 x5 x6 x7)) x8 x3 x9 x10) := by
  frame_out
  rw [← read_tiles arg14 x0 x1 x2 x4 x5 x6 x7]
  rfl
end Cert.KernelMixIdeal.Value
-- ==== Proof.Val.Norm.lean ====
/- LAYER NORMALIZATION OF A ROW OVER THE EXTENDED REALS, in the order of operations both programs use. -/
module
public import Idealize.ShloMosaic.PureOps.Ideal.Laws
@[expose] public section
noncomputable section
namespace Cert.Norm
open Idealize.ShloMosaic

/-- The literals both programs hold: the width of a row, and what is added to its variance. -/
abbrev width2048 : EReal := Ideal.ofBits .f32 0x45000000#32
abbrev width4096 : EReal := Ideal.ofBits .f32 0x45800000#32
abbrev epsilon : EReal := Ideal.ofBits .f32 0x3727C5AC#32

/-- The entry `f j` less the row's mean. -/
def centred {n : ℕ} (N : EReal) (f : Fin n → EReal) (j : Fin n) : EReal := f j - Ideal.div (∑ k, f k) N

/-- The row normalized, times a gain, plus an offset. -/
def normed {n : ℕ} (N : EReal) (f : Fin n → EReal) (j : Fin n) (g b : EReal) : EReal :=
  centred N f j * Ideal.rsqrt (Ideal.div (∑ k, centred N f k * centred N f k) N + epsilon) * g + b

/-- The factor on the residual in both programs. -/
abbrev residual : EReal := Ideal.ofBits .f32 0x3FB504F3#32
end Cert.Norm
-- ==== Proof.Val.MixTile.lean ====
/- THE BLOCKS OF THE gMLP'S SECOND CALL OVER THE EXTENDED REALS, ENTRY BY ENTRY. -/
module
public import proofs.«01_k».proof.Proof.Val.MixSteps
public import proofs.«01_k».proof.Proof.Val.Norm
public import Idealize.ShloMosaic.Lib.Pointwise
@[expose] public section
set_option maxRecDepth 16384
noncomputable section
namespace Cert.KernelMixIdeal.Value
open Idealize.ShloMosaic Idealize.ShloMosaic.TcCoe Idealize.ShloMosaic.Tactic
open Idealize.ShloMosaic hiding ix3 ix4
open Cert.KernelMixIdeal.Gen Cert.Norm

/-! ### The normalized gates -/

/-- Rows of gates less their means. -/
def gateLess (y : FVec Ideal S256x4096 .f32) : FVec Ideal S256x4096 .f32 :=
  subf y (broadcastTo S256x4096 (divf (shapeCast S256x1 (multiReduction .add [1] S256 y 0x00000000#32 reduces_S256x4096_S256
    (.inl rfl) rfl) shapeCasts_S256_S256x1) (broadcast S256x1 (Scalar.ofBits .f32 0x45800000#32))) broadcasts_S256x1_S256x4096)

/-- Centred rows of gates divided by their deviation, times the gain, plus the offset. -/
def gateScaled (z : FVec Ideal S256x4096 .f32) (g b : FVec Ideal S1x4096 .f32) : FVec Ideal S256x4096 .f32 :=
  addf (mulf (mulf z (broadcastTo S256x4096 (rsqrt (addf (divf (shapeCast S256x1 (multiReduction .add [1] S256 (mulf z z)
    0x00000000#32 reduces_S256x4096_S256 (.inl rfl) rfl) shapeCasts_S256_S256x1) (broadcast S256x1 (Scalar.ofBits .f32 0x45800000#32)))
    (broadcast S256x1 (Scalar.ofBits .f32 0x3727C5AC#32)))) broadcasts_S256x1_S256x4096))
    (broadcastTo S256x4096 (shapeCast S1x4096 g shapeCasts_S1x4096_S1x4096) broadcasts_S1x4096_S256x4096))
    (broadcastTo S256x4096 (shapeCast S1x4096 b shapeCasts_S1x4096_S1x4096) broadcasts_S1x4096_S256x4096)

theorem gates_eq (v : FVec Ideal S256x4096 .bf16) (g b : FVec Ideal S1x4096 .f32) :
    k0_pay2 v g b = truncf .bf16 (gateScaled (gateLess (extf .f32 (shapeCast S256x4096 v shapeCasts_S256x4096_S256x4096)
      bitsLt_bf16_f32)) g b) bitsLt_bf16_f32 := rfl

theorem gateLess_apply (y : FVec Ideal S256x4096 .f32) (r : Fin 256) (j : Fin 4096) :
    gateLess y (ix2 r j) = centred width4096 (fun k => y (ix2 r k)) j := by
  unfold centred
  pointwise [gateLess]

theorem gateScaled_apply (z : FVec Ideal S256x4096 .f32) (g b : FVec Ideal S1x4096 .f32) (r : Fin 256) (j : Fin 4096)
    (f : Fin 4096 → EReal) (hz : ∀ k, z (ix2 r k) = centred width4096 f k) :
    gateScaled z g b (ix2 r j) = normed width4096 f j (g (ix2 0 j)) (b (ix2 0 j)) := by
  unfold normed
  simp only [← hz]
  pointwise [gateScaled]

theorem gates_apply (v : FVec Ideal S256x4096 .bf16) (g b : FVec Ideal S1x4096 .f32) (r : Fin 256) (j : Fin 4096) :
    k0_pay2 (F := Ideal) v g b (ix2 r j) = normed width4096 (fun k => v (ix2 r k)) j (g (ix2 0 j)) (b (ix2 0 j)) := by
  rw [gates_eq]
  refine gateScaled_apply _ g b r j _ fun k => (gateLess_apply _ r k).trans ?_
  refine congrArg (fun f => centred width4096 f k) (funext fun l => ?_)
  pointwise

/-! ### The tiles -/

theorem causal_apply (w : FVec Ideal S1x128x128 .f32) (t s : Fin 128) :
    causal w (ix2 t s) = if s.val ≤ t.val then w (ix3 0 t s) else 0 := by
  pointwise [causal, k0_pay3]
  have ht := t.isLt
  have hs := s.isLt
  rw [WordCmp.cmpi_sle_ofNat (by omega) (by omega)]
  by_cases h : s.val ≤ t.val
  · rw [if_pos h, decide_eq_true h]; rfl
  · rw [if_neg h, decide_eq_false h]; rfl

theorem tile_apply (v : FVec Ideal S256x4096 .bf16) (w : FVec Ideal S1x128x128 .f32) (b : FVec Ideal S1x128x1 .f32)
    (u g : FVec Ideal S128x512 .bf16) (k : Fin 16) (t : Fin 128) (e : Fin 512) :
    tile v w b u g k (ix2 t e) = u (ix2 t e) * g (ix2 t e) * (∑ s : Fin 128, causal w (ix2 t s)
      * v (ix2 ⟨128 * (k.val % 2) + s.val, by omega⟩ ⟨512 * (k.val / 2) + e.val, by omega⟩) + b (ix3 0 t 0)) := by
  pointwise [tile]

/-! ### The last normalization -/

/-- The rows before they are normalized: the residual plus the mixed activations projected. -/
def summed (s : FVec Ideal S256x4096 .bf16) (w : FVec Ideal S4096x2048 .bf16) (x : FVec Ideal S256x2048 .f32) :
    FVec Ideal S256x2048 .f32 :=
  addf (mulf (broadcast S256x2048 (Scalar.ofBits .f32 0x3FB504F3#32)) (shapeCast S256x2048 x shapeCasts_S256x2048_S256x2048))
    (matmul dot_S256x4096_S4096x2048_S256x2048_1_0_0_1_n_n none s
      (shapeCast S4096x2048 w shapeCasts_S4096x2048_S4096x2048) (constant S256x2048 .f32 0x00000000#32))

/-- Rows less their means. -/
def less (y : FVec Ideal S256x2048 .f32) : FVec Ideal S256x2048 .f32 :=
  subf y (broadcastTo S256x2048 (divf (shapeCast S256x1 (multiReduction .add [1] S256 y 0x00000000#32 reduces_S256x2048_S256
    (.inl rfl) rfl) shapeCasts_S256_S256x1) (broadcast S256x1 (Scalar.ofBits .f32 0x45000000#32))) broadcasts_S256x1_S256x2048)

/-- Centred rows divided by their deviation, times the gain, plus the offset. -/
def scaled (z : FVec Ideal S256x2048 .f32) (g b : FVec Ideal S1x2048 .f32) : FVec Ideal S256x2048 .f32 :=
  addf (mulf (mulf z (broadcastTo S256x2048 (rsqrt (addf (divf (shapeCast S256x1 (multiReduction .add [1] S256 (mulf z z)
    0x00000000#32 reduces_S256x2048_S256 (.inl rfl) rfl) shapeCasts_S256_S256x1) (broadcast S256x1 (Scalar.ofBits .f32 0x45000000#32)))
    (broadcast S256x1 (Scalar.ofBits .f32 0x3727C5AC#32)))) broadcasts_S256x1_S256x2048))
    (broadcastTo S256x2048 (shapeCast S1x2048 g shapeCasts_S1x2048_S1x2048) broadcasts_S1x2048_S256x2048))
    (broadcastTo S256x2048 (shapeCast S1x2048 b shapeCasts_S1x2048_S1x2048) broadcasts_S1x2048_S256x2048)

theorem pay_eq (s : FVec Ideal S256x4096 .bf16) (w : FVec Ideal S4096x2048 .bf16) (x : FVec Ideal S256x2048 .f32)
    (g b : FVec Ideal S1x2048 .f32) : k0_pay41 s w x g b = scaled (less (summed s w x)) g b := rfl

theorem summed_apply (s : FVec Ideal S256x4096 .bf16) (w : FVec Ideal S4096x2048 .bf16) (x : FVec Ideal S256x2048 .f32)
    (r : Fin 256) (j : Fin 2048) :
    summed s w x (ix2 r j) = Norm.residual * x (ix2 r j) + ∑ k : Fin 4096, s (ix2 r k) * w (ix2 k j) := by
  pointwise [summed]

theorem less_apply (y : FVec Ideal S256x2048 .f32) (r : Fin 256) (j : Fin 2048) :
    less y (ix2 r j) = centred width2048 (fun k => y (ix2 r k)) j := by
  unfold centred
  pointwise [less]

theorem scaled_apply (z : FVec Ideal S256x2048 .f32) (g b : FVec Ideal S1x2048 .f32) (r : Fin 256) (j : Fin 2048) (f : Fin 2048 → EReal)
    (hz : ∀ k, z (ix2 r k) = centred width2048 f k) :
    scaled z g b (ix2 r j) = normed width2048 f j (g (ix2 0 j)) (b (ix2 0 j)) := by
  unfold normed
  simp only [← hz]
  pointwise [scaled]

/-- A block's payload: its rows normalized. -/
theorem pay_apply (s : FVec Ideal S256x4096 .bf16) (w : FVec Ideal S4096x2048 .bf16) (x : FVec Ideal S256x2048 .f32)
    (g b : FVec Ideal S1x2048 .f32) (r : Fin 256) (j : Fin 2048) (f : Fin 2048 → EReal) (g' b' : EReal)
    (hf : ∀ k, Norm.residual * x (ix2 r k) + ∑ l : Fin 4096, s (ix2 r l) * w (ix2 l k) = f k)
    (hg : g (ix2 0 j) = g') (hb : b (ix2 0 j) = b') :
    k0_pay41 (F := Ideal) s w x g b (ix2 r j) = normed width2048 f j g' b' := by
  subst hg hb
  obtain rfl : (fun k => summed s w x (ix2 r k)) = f := funext fun k => (summed_apply s w x r k).trans (hf k)
  rw [pay_eq]
  exact scaled_apply _ g b r j _ fun k => less_apply _ r k

theorem cast_apply (z : FVec Ideal S256x2048 .f32) (r : Fin 256) (j : Fin 2048) :
    k0_pay1 (F := Ideal) z (ix2 r j) = z (ix2 r j) := by
  pointwise [k0_pay1]
end Cert.KernelMixIdeal.Value
-- ==== Proof.Val.MixTiles.lean ====
/- THE 16 TILES SIDE BY SIDE: AN ENTRY OF THE SCRATCH. -/
module
public import proofs.«01_k».proof.Proof.Val.MixTile
@[expose] public section
set_option maxRecDepth 16384
noncomputable section
namespace Cert.KernelMixIdeal.Value
open Idealize.ShloMosaic Idealize.ShloMosaic.TcCoe Idealize.ShloMosaic.Tactic
open Idealize.ShloMosaic hiding ix3 ix4
open Cert.KernelMixIdeal.Gen Cert.Norm

/-- Tiles that differ in their rows or in their columns share no entry. -/
theorem tiles_disjoint (k k' : Fin 16) (h : k ≠ k') : Disjoint (tileRect k).set (tileRect k').set := by
  have hk : k.val ≠ k'.val := fun e => h (Fin.ext e)
  by_cases hr : k.val % 2 = k'.val % 2
  · refine Rect.unit_disjoint 1 ?_
    show 512 * (k.val / 2) + 512 ≤ 512 * (k'.val / 2) ∨ 512 * (k'.val / 2) + 512 ≤ 512 * (k.val / 2)
    omega
  · refine Rect.unit_disjoint 0 ?_
    show 128 * (k.val % 2) + 128 ≤ 128 * (k'.val % 2) ∨ 128 * (k'.val % 2) + 128 ≤ 128 * (k.val % 2)
    omega

/-- The group of a column, and the place of a row among its 128. -/
def groupOf (l : Fin 4096) : Fin 8 := ⟨l.val / 512, by omega⟩
def placeOf (r : Fin 256) : Fin 128 := ⟨r.val % 128, Nat.mod_lt _ (by norm_num)⟩
/-- Row `s` of the 128 that `r` is among. -/
def rowOf (r : Fin 256) (s : Fin 128) : Fin 256 := ⟨128 * (r.val / 128) + s.val, by omega⟩

variable (u v g : Vec Ideal S256x4096 .bf16) (vg vb : Vec Ideal S1x4096 .f32) (w : Vec Ideal S8x128x128 .f32)
  (b : Vec Ideal S8x128x1 .f32)

theorem tileAt_apply (k : Fin 16) (t : Fin 128) (e : Fin 512) (r : Fin 256) (l : Fin 4096)
    (hr : r.val = 128 * (k.val % 2) + t.val) (hl : l.val = 512 * (k.val / 2) + e.val) :
    tileAt u v g vg vb w b k (ix2 t e) = u (ix2 r l) * g (ix2 r l) * (∑ s : Fin 128,
      (if s.val ≤ r.val % 128 then w (ix3 (groupOf l) (placeOf r) s) else 0)
        * normed width4096 (fun q => v (ix2 (rowOf r s) q)) l (vg (ix2 0 l)) (vb (ix2 0 l)) + b (ix3 (groupOf l) (placeOf r) 0)) := by
  have ht := t.isLt
  have he := e.isLt
  have hk := k.isLt
  have ep : placeOf r = t := Fin.ext (by show r.val % 128 = t.val; omega)
  have eg : (groupOf l).val = k.val / 2 := by show l.val / 512 = _; omega
  have eu : ∀ z : Vec Ideal S256x4096 .bf16, View.ld (Val := Elt Ideal) (e' := .bf16) z (tileRect k) (ix2 t e) = z (ix2 r l) := fun z => by
    refine congrArg z (funext fun a => Fin.ext ?_)
    fin_cases a
    · show 128 * (k.val % 2) + 1 * t.val = r.val; omega
    · show 512 * (k.val / 2) + 1 * e.val = l.val; omega
  unfold tileAt
  rw [tile_apply, eu, eu, show r.val % 128 = t.val by omega, ep]
  refine congrArg (u (ix2 r l) * g (ix2 r l) * ·) (congrArg₂ (· + ·) (Finset.sum_congr rfl fun s _ => ?_) ?_)
  · rw [causal_apply, gates_apply]
    have ew : View.ld (Val := Elt Ideal) (e' := .f32) w (Rect.unit ![k.val / 2, 0, 0] ![1, 128, 128] (weight_inb k)) (ix3 0 t s)
        = w (ix3 (groupOf l) t s) := by
      refine congrArg w (funext fun a => Fin.ext ?_)
      fin_cases a
      · show k.val / 2 + 1 * 0 = (groupOf l).val; omega
      · show 0 + 1 * t.val = t.val; omega
      · show 0 + 1 * s.val = s.val; omega
    have er : (⟨128 * (k.val % 2) + s.val, by omega⟩ : Fin 256) = rowOf r s :=
      Fin.ext (by show 128 * (k.val % 2) + s.val = 128 * (r.val / 128) + s.val; omega)
    have el : (⟨512 * (k.val / 2) + e.val, by omega⟩ : Fin 4096) = l := Fin.ext (by show 512 * (k.val / 2) + e.val = l.val; omega)
    rw [ew, er, el]
  · refine congrArg b (funext fun a => Fin.ext ?_)
    fin_cases a
    · show k.val / 2 + 1 * 0 = (groupOf l).val; omega
    · show 0 + 1 * t.val = t.val; omega
    · rfl

/-- An entry of the scratch. -/
theorem tiles_apply (r : Fin 256) (l : Fin 4096) :
    View.canon (tiles u v g vg vb w b) (ix2 r l) = u (ix2 r l) * g (ix2 r l) * (∑ s : Fin 128,
      (if s.val ≤ r.val % 128 then w (ix3 (groupOf l) (placeOf r) s) else 0)
        * normed width4096 (fun q => v (ix2 (rowOf r s) q)) l (vg (ix2 0 l)) (vb (ix2 0 l)) + b (ix3 (groupOf l) (placeOf r) 0)) := by
  have hr := r.isLt
  have hl := l.isLt
  obtain ⟨n, hn⟩ := Fin.rev_surjective (⟨2 * (l.val / 512) + r.val / 128, by omega⟩ : Fin 16)
  have hv : n.rev.val = 2 * (l.val / 512) + r.val / 128 := congrArg Fin.val hn
  let t : Fin 128 := ⟨r.val % 128, Nat.mod_lt _ (by norm_num)⟩
  let e : Fin 512 := ⟨l.val % 512, Nat.mod_lt _ (by norm_num)⟩
  have h₁ : r.val = 128 * (n.rev.val % 2) + t.val := by show r.val = _ + r.val % 128; omega
  have h₂ : l.val = 512 * (n.rev.val / 2) + e.val := by show l.val = _ + l.val % 512; omega
  have hp : ix2 r l = (tileRect n.rev).emb (ix2 t e) := by
    refine funext fun a => Fin.ext ?_
    fin_cases a
    · show r.val = 128 * (n.rev.val % 2) + 1 * t.val; omega
    · show l.val = 512 * (n.rev.val / 2) + 1 * e.val; omega
  have key := View.canon_ofFn_emb_of_disjoint (Val := Elt Ideal) (e := .bf16) (fun k : Fin 16 => tileRect k.rev)
    (fun k => tileAt u v g vg vb w b k.rev)
    (fun k k' hk => tiles_disjoint _ _ fun h => hk (Fin.rev_injective h)) n (ix2 t e)
  rw [hp]
  refine Eq.trans key ((tileAt_apply u v g vg vb w b n.rev t e r l h₁ h₂).trans ?_)
  rw [← hp]
end Cert.KernelMixIdeal.Value
-- ==== Proof.Val.MixBlocks.lean ====
/- THE gMLP'S SECOND CALL: the blocks each point reads, and the arrays the points leave. -/
module
public import proofs.«01_k».proof.Proof.Val.MixTiles
public import Idealize.ShloMosaic.Lib.StableHlo.ReadAt
public import Idealize.ShloMosaic.Lib.Pipeline.ValueKit.Geometry
@[expose] public section
set_option maxRecDepth 16384
noncomputable section
namespace Cert.KernelMixIdeal.Value
open Idealize.ShloMosaic Idealize.ShloMosaic.TcCoe Idealize.ShloMosaic.Tactic Idealize.ShloMosaic.Pipeline
open Idealize.ShloMosaic hiding ix3 ix4
open Cert.KernelMixIdeal.Gen Cert.KernelMixIdeal Cert.Norm

variable (m : (ℓ : Loc nD τ sig) → Buf (Elt Ideal) ℓ) (c : Dev nD)

/-- The arguments: the activations in three parts, the residual, the gates' gain and offset, the mixing weights and
    biases, the projection, the gains and the offsets. -/
def acts : Vec Ideal S2x4096x12288 .f32 := m ((c : Thread nD τ).loc main_arg0)
def resid : Vec Ideal S2x4096x2048 .f32 := m ((c : Thread nD τ).loc main_arg1)
def gateGain : Vec Ideal S1x4096 .f32 := m ((c : Thread nD τ).loc main_arg2)
def gateOffset : Vec Ideal S1x4096 .f32 := m ((c : Thread nD τ).loc main_arg3)
def mixing : Vec Ideal S1x8x128x128 .f32 := m ((c : Thread nD τ).loc main_arg4)
def biases : Vec Ideal S1x8x128 .f32 := m ((c : Thread nD τ).loc main_arg5)
def weights : Vec Ideal S1x4096x2048 .f32 := m ((c : Thread nD τ).loc main_arg6)
def gain : Vec Ideal S2x2048 .f32 := m ((c : Thread nD τ).loc main_arg7)
def offset : Vec Ideal S2x2048 .f32 := m ((c : Thread nD τ).loc main_arg8)

/-! ### What the region finds in its arrays -/

/-- A row of the whole is a batch and a position. -/
abbrev rowAt (b : Fin 2) (s : Fin 4096) : Fin 8192 := ⟨4096 * b.val + s.val, by omega⟩
/-- The columns of the three parts of the activations. -/
abbrev part (p : Fin 3) (k : Fin 4096) : Fin 12288 := ⟨4096 * p.val + k.val, by omega⟩

/-- A row of the whole, taken apart again. -/
theorem split_row {n : ℕ} (b : Fin 2) (s : Fin 4096) (k : Fin n) (h₀ : (4096 * b.val + s.val) / 4096 < 2)
    (h₁ : (4096 * b.val + s.val) % 4096 < 4096) :
    (ix3 ⟨(4096 * b.val + s.val) / 4096, h₀⟩ ⟨(4096 * b.val + s.val) % 4096, h₁⟩ k : (⟨3, ![2, 4096, n]⟩ : Shape).Idx) = ix3 b s k := by
  congr 1
  · apply Fin.ext; show (4096 * b.val + s.val) / 4096 = b.val; omega
  · apply Fin.ext; show (4096 * b.val + s.val) % 4096 = s.val; omega

theorem host_acts (b : Fin 2) (s : Fin 4096) (k : Fin 12288) :
    (V m c main_v1 : Vec Ideal S8192x12288 .bf16) (ix2 (rowAt b s) k) = acts m c (ix3 b s k) := by
  unfold acts V
  simp only [hostOps0]
  after_reads_at
  rw [split_row]

theorem host_resid (b : Fin 2) (s : Fin 4096) (k : Fin 2048) :
    (V m c main_v2 : Vec Ideal S8192x2048 .f32) (ix2 (rowAt b s) k) = resid m c (ix3 b s k) := by
  unfold resid V
  simp only [hostOps0]
  after_reads_at
  rw [split_row]

theorem host_gateGain (k : Fin 4096) : (V m c main_v4 : Vec Ideal S1x4096 .f32) (ix2 0 k) = gateGain m c (ix2 0 k) := by
  unfold gateGain V
  simp only [hostOps0]
  after_reads_at

theorem host_gateOffset (k : Fin 4096) : (V m c main_v6 : Vec Ideal S1x4096 .f32) (ix2 0 k) = gateOffset m c (ix2 0 k) := by
  unfold gateOffset V
  simp only [hostOps0]
  after_reads_at

theorem host_mixing (g : Fin 8) (t s : Fin 128) :
    (V m c main_v7 : Vec Ideal S8x128x128 .f32) (ix3 g t s) = mixing m c (ValueIdx.ix4 0 g t s) := by
  unfold mixing V
  simp only [hostOps0]
  after_reads_at
  rfl

theorem host_biases (g : Fin 8) (t : Fin 128) :
    (V m c main_v9 : Vec Ideal S8x128x1 .f32) (ix3 g t 0) = biases m c (ix3 0 g t) := by
  unfold biases V
  simp only [hostOps0]
  after_reads_at

theorem host_weights (k : Fin 4096) (j : Fin 2048) :
    (V m c main_v11 : Vec Ideal S4096x2048 .bf16) (ix2 k j) = weights m c (ix3 0 k j) := by
  unfold weights V
  simp only [hostOps0]
  after_reads_at

theorem host_gain (j : Fin 2048) : (V m c main_v14 : Vec Ideal S1x2048 .f32) (ix2 0 j) = gain m c (ix2 0 j) := by
  unfold gain V
  simp only [hostOps0]
  after_reads_at

theorem host_offset (j : Fin 2048) : (V m c main_v17 : Vec Ideal S1x2048 .f32) (ix2 0 j) = offset m c (ix2 0 j) := by
  unfold offset V
  simp only [hostOps0]
  after_reads_at

/-! ### The blocks of a point -/

theorem index0 : ∀ t : Fin cfg0.N, win0_0.index t = ![t.val, 0] := (by decide +kernel : ∀ t : Fin grid0.N, _)
theorem index1 : ∀ t : Fin cfg0.N, win0_1.index t = ![t.val, 1] := (by decide +kernel : ∀ t : Fin grid0.N, _)
theorem index2 : ∀ t : Fin cfg0.N, win0_2.index t = ![t.val, 2] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)

/-- A point's batch, and the position of its row `r`. -/
def batchOf (t : Fin cfg0.N) : Fin 2 := ⟨t.val / 16, by have : t.val < 32 := t.isLt; omega⟩
def posOf (t : Fin cfg0.N) (r : Fin 256) : Fin 4096 := ⟨256 * (t.val % 16) + r.val, by omega⟩

theorem block_u (t : Fin cfg0.N) (r : Fin 256) (k : Fin 4096) :
    iblk m c 0 t (ix2 r k) = acts m c (ix3 (batchOf t) (posOf t r) (part 0 k)) := by
  rw [← host_acts]
  blk_simp [iblk]
  refine congrArg (V m c main_v1) (funext fun d => Fin.ext ?_)
  fin_cases d
  · blk_simp [index0]
    show t.val * 256 + r.val = 4096 * (t.val / 16) + (256 * (t.val % 16) + r.val)
    omega
  · blk_simp [index0]
    show k.val = 4096 * 0 + k.val
    omega

theorem block_v (t : Fin cfg0.N) (r : Fin 256) (k : Fin 4096) :
    iblk m c 1 t (ix2 r k) = acts m c (ix3 (batchOf t) (posOf t r) (part 1 k)) := by
  rw [← host_acts]
  blk_simp [iblk]
  refine congrArg (V m c main_v1) (funext fun d => Fin.ext ?_)
  fin_cases d
  · blk_simp [index1]
    show t.val * 256 + r.val = 4096 * (t.val / 16) + (256 * (t.val % 16) + r.val)
    omega
  · blk_simp [index1]
    show 1 * 4096 + k.val = 4096 * 1 + k.val
    omega

theorem block_g (t : Fin cfg0.N) (r : Fin 256) (k : Fin 4096) :
    iblk m c 2 t (ix2 r k) = acts m c (ix3 (batchOf t) (posOf t r) (part 2 k)) := by
  rw [← host_acts]
  blk_simp [iblk]
  refine congrArg (V m c main_v1) (funext fun d => Fin.ext ?_)
  fin_cases d
  · blk_simp [index2]
    show t.val * 256 + r.val = 4096 * (t.val / 16) + (256 * (t.val % 16) + r.val)
    omega
  · blk_simp [index2]
    show 2 * 4096 + k.val = 4096 * 2 + k.val
    omega

theorem block_resid (t : Fin cfg0.N) (r : Fin 256) (k : Fin 2048) :
    iblk m c 3 t (ix2 r k) = resid m c (ix3 (batchOf t) (posOf t r) k) := by
  rw [← host_resid]
  blk_simp [iblk]
  refine congrArg (V m c main_v2) (funext fun d => Fin.ext ?_)
  fin_cases d
  · blk_simp [index3]
    show t.val * 256 + r.val = 4096 * (t.val / 16) + (256 * (t.val % 16) + r.val)
    omega
  · blk_simp [index3]; rfl

theorem block_gateGain (t : Fin cfg0.N) (k : Fin 4096) : iblk m c 4 t (ix2 0 k) = gateGain m c (ix2 0 k) := by
  rw [← host_gateGain]
  blk_simp [iblk]
  refine congrArg (V m c main_v4) (funext fun d => Fin.ext ?_)
  fin_cases d <;> blk_simp [index4]

theorem block_gateOffset (t : Fin cfg0.N) (k : Fin 4096) : iblk m c 5 t (ix2 0 k) = gateOffset m c (ix2 0 k) := by
  rw [← host_gateOffset]
  blk_simp [iblk]
  refine congrArg (V m c main_v6) (funext fun d => Fin.ext ?_)
  fin_cases d <;> blk_simp [index5]

theorem block_mixing (t : Fin cfg0.N) (g : Fin 8) (p s : Fin 128) :
    iblk m c 6 t (ix3 g p s) = mixing m c (ValueIdx.ix4 0 g p s) := by
  rw [← host_mixing]
  blk_simp [iblk]
  refine congrArg (V m c main_v7) (funext fun d => Fin.ext ?_)
  fin_cases d <;> blk_simp [index6]

theorem block_biases (t : Fin cfg0.N) (g : Fin 8) (p : Fin 128) :
    iblk m c 7 t (ix3 g p 0) = biases m c (ix3 0 g p) := by
  rw [← host_biases]
  blk_simp [iblk]
  refine congrArg (V m c main_v9) (funext fun d => Fin.ext ?_)
  fin_cases d <;> blk_simp [index7]

theorem block_weights (t : Fin cfg0.N) (k : Fin 4096) (j : Fin 2048) : iblk m c 8 t (ix2 k j) = weights m c (ix3 0 k j) := by
  rw [← host_weights]
  blk_simp [iblk]
  refine congrArg (V m c main_v11) (funext fun d => Fin.ext ?_)
  fin_cases d <;> blk_simp [index8]

theorem block_gain (t : Fin cfg0.N) (j : Fin 2048) : iblk m c 9 t (ix2 0 j) = gain m c (ix2 0 j) := by
  rw [← host_gain]
  blk_simp [iblk]
  refine congrArg (V m c main_v14) (funext fun d => Fin.ext ?_)
  fin_cases d <;> blk_simp [index9]

theorem block_offset (t : Fin cfg0.N) (j : Fin 2048) : iblk m c 10 t (ix2 0 j) = offset m c (ix2 0 j) := by
  rw [← host_offset]
  blk_simp [iblk]
  refine congrArg (V m c main_v17) (funext fun d => Fin.ext ?_)
  fin_cases d <;> blk_simp [index10]
end Cert.KernelMixIdeal.Value
-- ==== Proof.Val.MixOut.lean ====
/- THE gMLP'S SECOND CALL: the two arrays the points leave, the result and its copy in fewer bits. -/
module
public import proofs.«01_k».proof.Proof.Val.MixBlocks
@[expose] public section
set_option maxRecDepth 16384
noncomputable section
namespace Cert.KernelMixIdeal.Value
open Idealize.ShloMosaic Idealize.ShloMosaic.TcCoe Idealize.ShloMosaic.Tactic Idealize.ShloMosaic.Pipeline
open Idealize.ShloMosaic hiding ix3 ix4
open Cert.KernelMixIdeal.Gen Cert.KernelMixIdeal Cert.Norm

section
variable (a : Vec Ideal S2x4096x12288 .f32) (x : Vec Ideal S2x4096x2048 .f32) (vg vb : Vec Ideal S1x4096 .f32)
  (w : Vec Ideal S1x8x128x128 .f32) (b : Vec Ideal S1x8x128 .f32) (p : Vec Ideal S1x4096x2048 .f32)

/-- Position `q` of the 128 that `s` is among, and the place of `s` among them. -/
abbrev chunkPos (s : Fin 4096) (q : Fin 128) : Fin 4096 := ⟨128 * (s.val / 128) + q.val, by omega⟩
abbrev place (s : Fin 4096) : Fin 128 := ⟨s.val % 128, Nat.mod_lt _ (by norm_num)⟩

/-- A gate: column `k` of the normalized second part. -/
def gate (n : Fin 2) (s : Fin 4096) (k : Fin 4096) : EReal :=
  normed width4096 (fun l => a (ix3 n s (part 1 l))) k (vg (ix2 0 k)) (vb (ix2 0 k))

/-- The gates mixed over the positions up to `s` of its chunk. -/
def mixedGate (n : Fin 2) (s : Fin 4096) (k : Fin 4096) : EReal :=
  ∑ q : Fin 128, (if q.val ≤ s.val % 128 then w (ValueIdx.ix4 0 (groupOf k) (place s) q) else 0) * gate a vg vb n (chunkPos s q) k
    + b (ix3 0 (groupOf k) (place s))

/-- The sum that is normalized at the end. -/
def rowSum (n : Fin 2) (s : Fin 4096) (j : Fin 2048) : EReal :=
  Norm.residual * x (ix3 n s j)
    + ∑ k : Fin 4096, a (ix3 n s (part 0 k)) * a (ix3 n s (part 2 k)) * mixedGate a vg vb w b n s k * p (ix3 0 k j)
end

variable (m : (ℓ : Loc nD τ sig) → Buf (Elt Ideal) ℓ) (c : Dev nD)

/-- The rows of the result before the last normalization. -/
abbrev rows (n : Fin 2) (s : Fin 4096) : Fin 2048 → EReal :=
  rowSum (acts m c) (resid m c) (gateGain m c) (gateOffset m c) (mixing m c) (biases m c) (weights m c) n s

/-- An entry of the result. -/
def entry (i : S8192x2048.Idx) : EReal :=
  normed width2048 (rows m c
    ⟨(i 0).val / 4096, by have : (i 0).val < 8192 := (i 0).isLt; omega⟩ ⟨(i 0).val % 4096, Nat.mod_lt _ (by norm_num)⟩)
    ⟨(i 1).val, (i 1).isLt⟩ (gain m c (ix2 0 ⟨(i 1).val, (i 1).isLt⟩)) (offset m c (ix2 0 ⟨(i 1).val, (i 1).isLt⟩))

/-- The two results. -/
def result : Vec Ideal S8192x2048 .f32 := entry m c
def copy : Vec Ideal S8192x2048 .bf16 := entry m c

/-- An entry of a point's scratch, in the arguments. -/
theorem scratch_apply (t : Fin cfg0.N) (r : Fin 256) (l : Fin 4096) :
    View.canon (tiles (iblk m c 0 t) (iblk m c 1 t) (iblk m c 2 t) (iblk m c 4 t) (iblk m c 5 t) (iblk m c 6 t) (iblk m c 7 t)) (ix2 r l)
      = acts m c (ix3 (batchOf t) (posOf t r) (part 0 l)) * acts m c (ix3 (batchOf t) (posOf t r) (part 2 l))
        * mixedGate (acts m c) (gateGain m c) (gateOffset m c) (mixing m c) (biases m c) (batchOf t) (posOf t r) l := by
  have hr := r.isLt
  have hm : (posOf t r).val % 128 = r.val % 128 := by show (256 * (t.val % 16) + r.val) % 128 = _; omega
  have hp : placeOf r = place (posOf t r) := Fin.ext hm.symm
  have hc : ∀ q : Fin 128, posOf t (rowOf r q) = chunkPos (posOf t r) q := fun q => Fin.ext (by
    show 256 * (t.val % 16) + (128 * (r.val / 128) + q.val) = 128 * ((256 * (t.val % 16) + r.val) / 128) + q.val
    omega)
  refine (tiles_apply _ _ _ _ _ _ _ r l).trans ?_
  unfold mixedGate
  refine congrArg₂ (· * ·) (congrArg₂ (· * ·) (block_u m c t r l) (block_g m c t r l))
    (congrArg₂ (· + ·) (Finset.sum_congr rfl fun q _ => congrArg₂ (· * ·) ?_ ?_) ?_)
  · rw [hm, hp]
    split
    · exact block_mixing m c t _ _ _
    · rfl
  · unfold gate
    rw [← hc]
    rw [show (fun k => iblk m c 1 t (ix2 (rowOf r q) k)) = fun k => acts m c (ix3 (batchOf t) (posOf t (rowOf r q)) (part 1 k))
      from funext fun k => block_v m c t (rowOf r q) k]
    exact congrArg₂ (normed width4096 _ l) (block_gateGain m c t l) (block_gateOffset m c t l)
  · rw [hp]
    exact block_biases m c t _ _

/-- What a point computes for its rows. -/
theorem computed (t : Fin cfg0.N) (r : Fin 256) (j : Fin 2048) :
    k0_pay41 (F := Ideal) (View.canon (tiles (iblk m c 0 t) (iblk m c 1 t) (iblk m c 2 t) (iblk m c 4 t) (iblk m c 5 t) (iblk m c 6 t)
      (iblk m c 7 t))) (iblk m c 8 t) (iblk m c 3 t) (iblk m c 9 t) (iblk m c 10 t) (ix2 r j)
      = normed width2048 (rows m c (batchOf t) (posOf t r)) j (gain m c (ix2 0 j)) (offset m c (ix2 0 j)) := by
  refine pay_apply _ _ _ _ _ r j _ _ _ (fun k => ?_) (block_gain m c t j) (block_offset m c t j)
  exact congrArg₂ (fun p q => Norm.residual * p + q) (block_resid m c t r k)
    (Finset.sum_congr rfl fun l _ => congrArg₂ (· * ·) (scratch_apply m c t r l) (block_weights m c t l k))

/-- What a point writes back to the result. -/
theorem written (t : Fin cfg0.N) (r : Fin 256) (j : Fin 2048) :
    (dats m 0 c).flushed 11 t (ix2 r j)
      = normed width2048 (rows m c (batchOf t) (posOf t r)) j (gain m c (ix2 0 j)) (offset m c (ix2 0 j)) := by
  rw [flushed11_A, out_f32]
  exact computed m c t r j

/-- What a point writes back to the copy. -/
theorem written_copy (t : Fin cfg0.N) (r : Fin 256) (j : Fin 2048) :
    (dats m 0 c).flushed 12 t (ix2 r j)
      = normed width2048 (rows m c (batchOf t) (posOf t r)) j (gain m c (ix2 0 j)) (offset m c (ix2 0 j)) := by
  rw [flushed12_A, out_bf16]
  exact (cast_apply _ r j).trans (computed m c t r j)

/-- An entry of a point's row is an entry of the result, where the row lies. -/
theorem entry_eq (t : Fin cfg0.N) (r : Fin 256) (j : Fin 2048) (i : S8192x2048.Idx)
    (e0 : (i 0).val = t.val * 256 + r.val) (e1 : (i 1).val = j.val) :
    normed width2048 (rows m c (batchOf t) (posOf t r)) j (gain m c (ix2 0 j)) (offset m c (ix2 0 j)) = entry m c i := by
  have ht : t.val < 32 := t.isLt
  have hr := r.isLt
  have hb : batchOf t = ⟨(i 0).val / 4096, by rw [e0]; omega⟩ := Fin.ext (by show t.val / 16 = _ / 4096; rw [e0]; omega)
  have hs : posOf t r = ⟨(i 0).val % 4096, by omega⟩ :=
    Fin.ext (by show 256 * (t.val % 16) + r.val = _ % 4096; rw [e0]; omega)
  have hj : j = ⟨(i 1).val, by rw [e1]; exact j.isLt⟩ := Fin.ext e1.symm
  rw [hb, hs, hj]
  rfl

/-- The result after the last point. -/
theorem array_eq : (dats m 0 c).arrAt 11 cfg0.N = result m c := by
  refine (dats m 0 c).arrAt_eq_of_covers 11 _ (by decide +kernel) fun t hf y => ?_
  have hy : y = ix2 (y 0) (y 1) := by
    refine funext fun d => Fin.ext ?_
    fin_cases d <;> rfl
  refine Eq.trans ((congrArg ((dats m 0 c).flushed 11 t) hy).trans (written m c t (y 0) (y 1))) ?_
  exact entry_eq m c t (y 0) (y 1) (((cfg0.win 11).blk t).view.emb y) (by blk_simp [index11]) (by blk_simp [index11])

/-- The copy after the last point. -/
theorem copy_eq : (dats m 0 c).arrAt 12 cfg0.N = copy m c := by
  refine (dats m 0 c).arrAt_eq_of_covers 12 _ (by decide +kernel) fun t hf y => ?_
  have hy : y = ix2 (y 0) (y 1) := by
    refine funext fun d => Fin.ext ?_
    fin_cases d <;> rfl
  refine Eq.trans ((congrArg ((dats m 0 c).flushed 12 t) hy).trans (written_copy m c t (y 0) (y 1))) ?_
  exact entry_eq m c t (y 0) (y 1) (((cfg0.win 12).blk t).view.emb y) (by blk_simp [index12]) (by blk_simp [index12])
end Cert.KernelMixIdeal.Value
-- ==== Proof.Val.MixRef.lean ====
/- THE REFERENCE OF THE gMLP'S SECOND CALL AT AN INDEX, up to the sum that is normalized at the end. -/
module
public import proofs.«01_k».proof.Proof.Gen.ReferenceMixIdeal.Read
public import proofs.«01_k».proof.Proof.Val.MixOut
@[expose] public section
set_option maxRecDepth 16384
noncomputable section
namespace Cert.ReferenceMixIdeal.Read
open Idealize.ShloMosaic Idealize.ShloMosaic.TcCoe Idealize.ShloMosaic.Tactic
open Idealize.ShloMosaic hiding ix3 ix4
open Cert.Norm Cert.ReferenceMixIdeal Cert.ReferenceMixIdeal.Gen
open Cert.KernelMixIdeal.Value (part groupOf chunkPos place gate mixedGate rowSum)

variable (a : (⟨S2x4096x12288, .f32⟩ : BufTy).Contents (Elt Ideal)) (x : (⟨S2x4096x2048, .f32⟩ : BufTy).Contents (Elt Ideal))
  (vg vb : (⟨S1x4096, .f32⟩ : BufTy).Contents (Elt Ideal)) (w : (⟨S1x8x128x128, .f32⟩ : BufTy).Contents (Elt Ideal))
  (b : (⟨S1x8x128, .f32⟩ : BufTy).Contents (Elt Ideal)) (p : (⟨S1x4096x2048, .f32⟩ : BufTy).Contents (Elt Ideal))

/-! ### The gates -/

theorem second_apply (n : Fin 2) (s : Fin 4096) (k : Fin 4096) : val_main_v1 a (ix3 n s k) = a (ix3 n s (part 1 k)) := by
  rw [val_main_v1_apply]
  refine congrArg a (funext fun d => ?_)
  match d with | ⟨0, _⟩ => rfl | ⟨1, _⟩ => rfl | ⟨2, _⟩ => rfl

theorem gate_centred (n : Fin 2) (s : Fin 4096) (k : Fin 4096) :
    val_main_v10 a (ix3 n s k) = centred width4096 (fun l => a (ix3 n s (part 1 l))) k := by
  rw [val_main_v10_apply, val_main_v9_apply, val_main_v8_apply, val_main_v7_apply, val_main_cst_0_apply, val_main_v6_apply,
    val_main_v5_apply, val_main_cst_apply, second_apply]
  refine congrArg (fun z => a (ix3 n s (part 1 k)) - Ideal.div z width4096) ?_
  refine (congrArg (· + _) Ideal.ofBits_zero_f32).trans ((zero_add _).trans (Finset.sum_congr rfl fun l _ => ?_))
  exact (congrArg (val_main_v1 a) (funext fun d => by
    match d with | ⟨0, _⟩ => rfl | ⟨1, _⟩ => rfl | ⟨2, _⟩ => rfl)).trans (second_apply a n s l)

theorem gate_apply (n : Fin 2) (s : Fin 4096) (k : Fin 4096) : val_main_v26 a vg vb (ix3 n s k) = gate a vg vb n s k := by
  rw [val_main_v26_apply, val_main_v23_apply, val_main_v20_apply, val_main_v19_apply, val_main_v18_apply, val_main_v17_apply,
    val_main_v16_apply, val_main_cst_3_apply, val_main_v15_apply, val_main_v14_apply, val_main_cst_2_apply, val_main_v13_apply,
    val_main_v12_apply, val_main_cst_1_apply, gate_centred,
    val_main_v22_apply, val_main_v21_apply, val_main_v3_apply, val_main_v25_apply, val_main_v24_apply, val_main_v4_apply]
  have hv : (∑ l : Fin 4096, val_main_v11 a (idx_main_v12 (idx_main_v13 (idx_main_v19 (ix3 n s k))) l))
      = ∑ l, centred width4096 (fun q => a (ix3 n s (part 1 q))) l * centred width4096 (fun q => a (ix3 n s (part 1 q))) l := by
    refine Finset.sum_congr rfl fun l _ => ?_
    rw [val_main_v11_apply]
    have e : idx_main_v12 (idx_main_v13 (idx_main_v19 (ix3 n s k))) l = ix3 n s l := by
      funext d; match d with | ⟨0, _⟩ => rfl | ⟨1, _⟩ => rfl | ⟨2, _⟩ => rfl
    rw [e, gate_centred]
    rfl
  have hs : ∀ z : EReal, (∑ l : Fin 4096, val_main_v11 a (idx_main_v12 (idx_main_v13 (idx_main_v19 (ix3 n s k))) l)) = z →
      (FloatOps.ofBits (F := Ideal) .f32 0x00000000#32 : EReal)
        + (∑ l : Fin 4096, val_main_v11 a (idx_main_v12 (idx_main_v13 (idx_main_v19 (ix3 n s k))) l)) = z :=
    fun z hz => (congrArg (· + _) Ideal.ofBits_zero_f32).trans ((zero_add _).trans hz)
  have hi : idx_main_v3 (idx_main_v21 (idx_main_v22 (ix3 n s k))) = ix2 0 k := by
    refine funext fun d => Fin.ext ?_
    match d with | ⟨0, _⟩ => rfl | ⟨1, _⟩ => exact Nat.mod_eq_of_lt k.isLt
  have hi' : idx_main_v4 (idx_main_v24 (idx_main_v25 (ix3 n s k))) = ix2 0 k := by
    refine funext fun d => Fin.ext ?_
    match d with | ⟨0, _⟩ => rfl | ⟨1, _⟩ => exact Nat.mod_eq_of_lt k.isLt
  rw [hi, hi', hs _ hv]
  rfl

/-! ### The mixing over the positions of a chunk -/

/-- A weight is kept at and below the diagonal. -/
theorem kept_apply (g : Fin 8) (t q : Fin 128) :
    val_main_v34 (F := Ideal) w (ix3 g t q) = if q.val ≤ t.val then w (ValueIdx.ix4 0 g t q) else 0 := by
  have ht := t.isLt
  have hq := q.isLt
  have hg := g.isLt
  have ew : idx_main_v31 (ix3 g t q) = ValueIdx.ix4 0 g t q := by
    refine funext fun d => Fin.ext ?_
    match d with
    | ⟨0, _⟩ => rfl
    | ⟨1, _⟩ => show ((g.val * 128 + t.val) * 128 + q.val) / 16384 % 8 = g.val; omega
    | ⟨2, _⟩ => show ((g.val * 128 + t.val) * 128 + q.val) / 128 % 128 = t.val; omega
    | ⟨3, _⟩ => show ((g.val * 128 + t.val) * 128 + q.val) % 128 = q.val; omega
  rw [val_main_v34_apply, val_main_call1_v0_apply, val_main_v30_apply, val_main_v29_apply, val_main_call0_v4_apply,
    val_main_call0_v2_apply, val_main_call0_v0_apply, val_main_call0_v1_apply, val_main_call0_c_apply, val_main_call0_v3_apply,
    val_main_v28_apply, val_main_c_apply, val_main_call0_v5_apply, val_main_call0_c_0_apply, val_main_v31_apply, val_main_v33_apply,
    val_main_cst_4_apply, ew]
  show Scalar.select (Scalar.select (IntOp.cmpi .sge (IntOp.addi (BitVec.ofNat 32 t.val) 0#32) (BitVec.ofNat 32 q.val)) 1#1 0#1) _ _ = _
  rw [show IntOp.addi (BitVec.ofNat 32 t.val) 0#32 = BitVec.ofNat 32 t.val from BitVec.add_zero _,
    WordCmp.cmpi_sge_ofNat (by omega) (by omega)]
  by_cases h : q.val ≤ t.val
  · rw [if_pos h, decide_eq_true h]; rfl
  · rw [if_neg h, decide_eq_false h]; exact Ideal.ofBits_zero_f32

/-- Where position `s` and column `k` lie once the positions are cut in chunks and the columns in groups. -/
def spot (n : Fin 2) (s : Fin 4096) (k : Fin 4096) : S2x32x128x8x512.Idx := fun d => match d with
  | ⟨0, _⟩ => n
  | ⟨1, _⟩ => ⟨s.val / 128, by have := s.isLt; show s.val / 128 < 32; omega⟩
  | ⟨2, _⟩ => ⟨s.val % 128, Nat.mod_lt _ (by norm_num)⟩
  | ⟨3, _⟩ => ⟨k.val / 512, by have := k.isLt; show k.val / 512 < 8; omega⟩
  | ⟨4, _⟩ => ⟨k.val % 512, Nat.mod_lt _ (by norm_num)⟩

theorem spot_eq (n : Fin 2) (s : Fin 4096) (k : Fin 4096) : idx_main_v42 (ix3 n s k) = spot n s k := by
  have := n.isLt
  have := s.isLt
  have := k.isLt
  refine funext fun d => Fin.ext ?_
  match d with
  | ⟨0, _⟩ => show ((n.val * 4096 + s.val) * 4096 + k.val) / 16777216 = n.val; omega
  | ⟨1, _⟩ => show ((n.val * 4096 + s.val) * 4096 + k.val) / 524288 % 32 = s.val / 128; omega
  | ⟨2, _⟩ => show ((n.val * 4096 + s.val) * 4096 + k.val) / 4096 % 128 = s.val % 128; omega
  | ⟨3, _⟩ => show ((n.val * 4096 + s.val) * 4096 + k.val) / 512 % 8 = k.val / 512; omega
  | ⟨4, _⟩ => show ((n.val * 4096 + s.val) * 4096 + k.val) % 512 = k.val % 512; omega

theorem mixed_apply (n : Fin 2) (s : Fin 4096) (k : Fin 4096) :
    val_main_v42 a vg vb w b (ix3 n s k) = mixedGate a vg vb w b n s k := by
  have hn := n.isLt
  have hs := s.isLt
  have hk := k.isLt
  rw [val_main_v42_apply, spot_eq, val_main_v41_apply, val_main_v36_apply, val_main_v35_apply, val_main_v40_apply,
    val_main_v39_apply, val_main_v38_apply, val_main_v37_apply]
  unfold mixedGate
  refine congrArg₂ (· + ·) (Finset.sum_congr rfl fun q _ => ?_) (congrArg b (funext fun d => Fin.ext ?_))
  · have hq := q.isLt
    have e1 : idx_main_v27 (lidx_main_v35 (idx_main_v36 (spot n s k)) q) = ix3 n (chunkPos s q) k := by
      refine funext fun d => Fin.ext ?_
      match d with
      | ⟨0, _⟩ =>
        show ((((n.val * 32 + s.val / 128) * 128 + q.val) * 8 + k.val / 512) * 512 + k.val % 512) / 16777216 = n.val
        omega
      | ⟨1, _⟩ =>
        show ((((n.val * 32 + s.val / 128) * 128 + q.val) * 8 + k.val / 512) * 512 + k.val % 512) / 4096 % 4096
          = 128 * (s.val / 128) + q.val
        omega
      | ⟨2, _⟩ =>
        show ((((n.val * 32 + s.val / 128) * 128 + q.val) * 8 + k.val / 512) * 512 + k.val % 512) % 4096 = k.val
        omega
    have e2 : ridx_main_v35 (idx_main_v36 (spot n s k)) q = ix3 (groupOf k) (place s) q := by
      funext d; match d with | ⟨0, _⟩ => rfl | ⟨1, _⟩ => rfl | ⟨2, _⟩ => rfl
    rw [val_main_v27_apply, e1, e2, gate_apply, kept_apply]
    exact mul_comm _ _
  · match d with
    | ⟨0, _⟩ => rfl
    | ⟨1, _⟩ => show (k.val / 512 * 128 + s.val % 128) / 128 % 8 = k.val / 512; omega
    | ⟨2, _⟩ => show (k.val / 512 * 128 + s.val % 128) % 128 = s.val % 128; omega

/-! ### The projection and the residual -/

theorem sum_apply (n : Fin 2) (s : Fin 4096) (j : Fin 2048) :
    val_main_v49 a x vg vb w b p (ix3 n s j) = rowSum a x vg vb w b p n s j := by
  rw [val_main_v49_apply, val_main_v48_apply, val_main_v47_apply, val_main_cst_5_apply, val_main_v46_apply]
  unfold rowSum
  refine congrArg (Norm.residual * x (ix3 n s j) + ·) (Finset.sum_congr rfl fun k _ => ?_)
  have e1 : lidx_main_v46 (ix3 n s j) k = ix3 n s k := by
    funext d; match d with | ⟨0, _⟩ => rfl | ⟨1, _⟩ => rfl | ⟨2, _⟩ => rfl
  have e2 : idx_main_v0 (ix3 n s k) = ix3 n s (part 0 k) := by
    refine funext fun d => Fin.ext ?_
    match d with | ⟨0, _⟩ => rfl | ⟨1, _⟩ => rfl | ⟨2, _⟩ => exact (Nat.zero_add _).symm
  have e3 : idx_main_v2 (ix3 n s k) = ix3 n s (part 2 k) := by
    funext d; match d with | ⟨0, _⟩ => rfl | ⟨1, _⟩ => rfl | ⟨2, _⟩ => rfl
  have e4 : idx_main_v45 (ridx_main_v46 (ix3 n s j) k) = ix3 0 k j := by
    have := k.isLt
    have := j.isLt
    refine funext fun d => Fin.ext ?_
    match d with
    | ⟨0, _⟩ => rfl
    | ⟨1, _⟩ => show (k.val * 2048 + j.val) / 2048 % 4096 = k.val; omega
    | ⟨2, _⟩ => show (k.val * 2048 + j.val) % 2048 = j.val; omega
  rw [e1, val_main_v44_apply, val_main_v43_apply, val_main_v0_apply, val_main_v2_apply, val_main_v45_apply, mixed_apply, e2, e3, e4]
  exact congrArg (· * p (ix3 0 k j)) (mul_right_comm (G := EReal) _ _ _)
end Cert.ReferenceMixIdeal.Read
-- ==== Proof.Val.MixRefValue.lean ====
/- THE REFERENCE OF THE gMLP'S SECOND CALL: its last normalization, and its two results. -/
module
public import proofs.«01_k».proof.Proof.Val.MixRef
@[expose] public section
set_option maxRecDepth 16384
noncomputable section
namespace Cert.ReferenceMixIdeal.Read
open Idealize.ShloMosaic Idealize.ShloMosaic.TcCoe Idealize.ShloMosaic.Tactic
open Idealize.ShloMosaic hiding ix3 ix4
open Cert.Norm Cert.ReferenceMixIdeal Cert.ReferenceMixIdeal.Gen
open Cert.KernelMixIdeal.Value (rowSum)

variable (a : (⟨S2x4096x12288, .f32⟩ : BufTy).Contents (Elt Ideal)) (x : (⟨S2x4096x2048, .f32⟩ : BufTy).Contents (Elt Ideal))
  (vg vb : (⟨S1x4096, .f32⟩ : BufTy).Contents (Elt Ideal)) (w : (⟨S1x8x128x128, .f32⟩ : BufTy).Contents (Elt Ideal))
  (b : (⟨S1x8x128, .f32⟩ : BufTy).Contents (Elt Ideal)) (p : (⟨S1x4096x2048, .f32⟩ : BufTy).Contents (Elt Ideal))
  (g o : (⟨S2x2048, .f32⟩ : BufTy).Contents (Elt Ideal))

theorem centred_apply (n : Fin 2) (s : Fin 4096) (j : Fin 2048) :
    val_main_v59 a x vg vb w b p (ix3 n s j) = centred width2048 (rowSum a x vg vb w b p n s) j := by
  rw [val_main_v59_apply, val_main_v58_apply, val_main_v57_apply, val_main_v56_apply, val_main_cst_7_apply, val_main_v55_apply,
    val_main_v54_apply, val_main_cst_6_apply, sum_apply]
  refine congrArg (fun z => rowSum a x vg vb w b p n s j - Ideal.div z width2048) ?_
  refine (congrArg (· + _) Ideal.ofBits_zero_f32).trans ((zero_add _).trans (Finset.sum_congr rfl fun k _ => ?_))
  exact (congrArg (val_main_v49 a x vg vb w b p) (funext fun d => by
    match d with | ⟨0, _⟩ => rfl | ⟨1, _⟩ => rfl | ⟨2, _⟩ => rfl)).trans (sum_apply a x vg vb w b p n s k)

theorem normed_apply (n : Fin 2) (s : Fin 4096) (j : Fin 2048) :
    val_main_v75 a x vg vb w b p g o (ix3 n s j)
      = normed width2048 (rowSum a x vg vb w b p n s) j (g (ix2 0 j)) (o (ix2 0 j)) := by
  rw [val_main_v75_apply, val_main_v72_apply, val_main_v69_apply, val_main_v68_apply, val_main_v67_apply, val_main_v66_apply,
    val_main_v65_apply, val_main_cst_10_apply, val_main_v64_apply, val_main_v63_apply, val_main_cst_9_apply, val_main_v62_apply,
    val_main_v61_apply, val_main_cst_8_apply, centred_apply,
    val_main_v71_apply, val_main_v70_apply, val_main_v51_apply, val_main_v50_apply,
    val_main_v74_apply, val_main_v73_apply, val_main_v53_apply, val_main_v52_apply]
  have hv : (∑ k : Fin 2048, val_main_v60 a x vg vb w b p (idx_main_v61 (idx_main_v62 (idx_main_v68 (ix3 n s j))) k))
      = ∑ k, centred width2048 (rowSum a x vg vb w b p n s) k * centred width2048 (rowSum a x vg vb w b p n s) k := by
    refine Finset.sum_congr rfl fun k _ => ?_
    rw [val_main_v60_apply]
    have e : idx_main_v61 (idx_main_v62 (idx_main_v68 (ix3 n s j))) k = ix3 n s k := by
      funext d; match d with | ⟨0, _⟩ => rfl | ⟨1, _⟩ => rfl | ⟨2, _⟩ => rfl
    rw [e, centred_apply]
    rfl
  have hs : ∀ z : EReal,
      (∑ k : Fin 2048, val_main_v60 a x vg vb w b p (idx_main_v61 (idx_main_v62 (idx_main_v68 (ix3 n s j))) k)) = z →
      (FloatOps.ofBits (F := Ideal) .f32 0x00000000#32 : EReal)
        + (∑ k : Fin 2048, val_main_v60 a x vg vb w b p (idx_main_v61 (idx_main_v62 (idx_main_v68 (ix3 n s j))) k)) = z :=
    fun z hz => (congrArg (· + _) Ideal.ofBits_zero_f32).trans ((zero_add _).trans hz)
  have hi : idx_main_v50 (idx_main_v51 (idx_main_v70 (idx_main_v71 (ix3 n s j)))) = ix2 0 j := by
    refine funext fun d => Fin.ext ?_
    match d with | ⟨0, _⟩ => rfl | ⟨1, _⟩ => exact Nat.mod_eq_of_lt j.isLt
  have hi' : idx_main_v52 (idx_main_v53 (idx_main_v73 (idx_main_v74 (ix3 n s j)))) = ix2 0 j := by
    refine funext fun d => Fin.ext ?_
    match d with | ⟨0, _⟩ => rfl | ⟨1, _⟩ => exact Nat.mod_eq_of_lt j.isLt
  rw [hi, hi', hs _ hv]
  rfl

variable (m : (ℓ : Loc Cert.KernelMixIdeal.nD Cert.KernelMixIdeal.τ Cert.KernelMixIdeal.sig) → Buf (Elt Ideal) ℓ)
  (c : Dev Cert.KernelMixIdeal.nD)

/-- The reference's result is the array the kernel's points leave. -/
theorem result_eq :
    val_main_v76 (Cert.KernelMixIdeal.Value.acts m c) (Cert.KernelMixIdeal.Value.resid m c) (Cert.KernelMixIdeal.Value.gateGain m c)
      (Cert.KernelMixIdeal.Value.gateOffset m c) (Cert.KernelMixIdeal.Value.mixing m c) (Cert.KernelMixIdeal.Value.biases m c)
      (Cert.KernelMixIdeal.Value.weights m c) (Cert.KernelMixIdeal.Value.gain m c) (Cert.KernelMixIdeal.Value.offset m c)
      = Cert.KernelMixIdeal.Value.result m c := by
  funext i
  have h0 : (i 0).val < 8192 := (i 0).isLt
  have h1 : (i 1).val < 2048 := (i 1).isLt
  have e : idx_main_v76 i = ix3 ⟨(i 0).val / 4096, by omega⟩ ⟨(i 0).val % 4096, by omega⟩ ⟨(i 1).val, h1⟩ := by
    refine funext fun d => Fin.ext ?_
    match d with
    | ⟨0, _⟩ => show ((i 0).val * 2048 + (i 1).val) / 8388608 = (i 0).val / 4096; omega
    | ⟨1, _⟩ => show ((i 0).val * 2048 + (i 1).val) / 2048 % 4096 = (i 0).val % 4096; omega
    | ⟨2, _⟩ => show ((i 0).val * 2048 + (i 1).val) % 2048 = (i 1).val; omega
  rw [val_main_v76_apply, e, normed_apply]
  rfl

/-- So is its copy: over the reals the cast changes nothing. -/
theorem copy_eq :
    val_main_v77 (Cert.KernelMixIdeal.Value.acts m c) (Cert.KernelMixIdeal.Value.resid m c) (Cert.KernelMixIdeal.Value.gateGain m c)
      (Cert.KernelMixIdeal.Value.gateOffset m c) (Cert.KernelMixIdeal.Value.mixing m c) (Cert.KernelMixIdeal.Value.biases m c)
      (Cert.KernelMixIdeal.Value.weights m c) (Cert.KernelMixIdeal.Value.gain m c) (Cert.KernelMixIdeal.Value.offset m c)
      = Cert.KernelMixIdeal.Value.copy m c := by
  funext i
  rw [val_main_v77_apply]
  exact congrFun (result_eq m c) i
end Cert.ReferenceMixIdeal.Read
-- ==== Proof.Val.OutTile.lean ====
/- ONE BLOCK OF THE ATTENTION'S OUTPUT PROJECTION OVER THE EXTENDED REALS, ENTRY BY ENTRY. -/
module
public import proofs.«01_k».proof.Proof.Gen.KernelOutIdeal.Value
public import proofs.«01_k».proof.Proof.Val.Norm
public import Idealize.ShloMosaic.Lib.Pipeline.ValueKit
public import Idealize.ShloMosaic.Lib.Pointwise
@[expose] public section
set_option maxRecDepth 16384
noncomputable section
namespace Cert.KernelOutIdeal.Value
open Idealize.ShloMosaic Idealize.ShloMosaic.TcCoe Idealize.ShloMosaic.Tactic
open Cert.KernelOutIdeal.Gen Cert.Norm

/-- The rows before they are normalized: the residual plus the gated attention projected. -/
def summed (o a : FVec Ideal S512x2048 .bf16) (w : FVec Ideal S2048x2048 .bf16) (x : FVec Ideal S512x2048 .f32) :
    FVec Ideal S512x2048 .f32 :=
  addf (mulf (broadcast S512x2048 (Scalar.ofBits .f32 0x3FB504F3#32)) (shapeCast S512x2048 x shapeCasts_S512x2048_S512x2048))
    (matmul dot_S512x2048_S2048x2048_S512x2048_1_0_0_1_n_n none
      (truncf .bf16 (mulf (extf .f32 (shapeCast S512x2048 o shapeCasts_S512x2048_S512x2048) bitsLt_bf16_f32)
        (extf .f32 (shapeCast S512x2048 a shapeCasts_S512x2048_S512x2048) bitsLt_bf16_f32)) bitsLt_bf16_f32)
      (shapeCast S2048x2048 w shapeCasts_S2048x2048_S2048x2048) (constant S512x2048 .f32 0x00000000#32))

/-- Rows less their means. -/
def less (y : FVec Ideal S512x2048 .f32) : FVec Ideal S512x2048 .f32 :=
  subf y (broadcastTo S512x2048 (divf (shapeCast S512x1 (multiReduction .add [1] S512 y 0x00000000#32 reduces_S512x2048_S512
    (.inl rfl) rfl) shapeCasts_S512_S512x1) (broadcast S512x1 (Scalar.ofBits .f32 0x45000000#32))) broadcasts_S512x1_S512x2048)

/-- Centred rows divided by their deviation, times the gain, plus the offset. -/
def scaled (z : FVec Ideal S512x2048 .f32) (g b : FVec Ideal S1x2048 .f32) : FVec Ideal S512x2048 .f32 :=
  addf (mulf (mulf z (broadcastTo S512x2048 (rsqrt (addf (divf (shapeCast S512x1 (multiReduction .add [1] S512 (mulf z z)
    0x00000000#32 reduces_S512x2048_S512 (.inl rfl) rfl) shapeCasts_S512_S512x1) (broadcast S512x1 (Scalar.ofBits .f32 0x45000000#32)))
    (broadcast S512x1 (Scalar.ofBits .f32 0x3727C5AC#32)))) broadcasts_S512x1_S512x2048))
    (broadcastTo S512x2048 (shapeCast S1x2048 g shapeCasts_S1x2048_S1x2048) broadcasts_S1x2048_S512x2048))
    (broadcastTo S512x2048 (shapeCast S1x2048 b shapeCasts_S1x2048_S1x2048) broadcasts_S1x2048_S512x2048)

theorem pay_eq (o a : FVec Ideal S512x2048 .bf16) (w : FVec Ideal S2048x2048 .bf16) (x : FVec Ideal S512x2048 .f32)
    (g b : FVec Ideal S1x2048 .f32) : k0_pay1 o a w x g b = scaled (less (summed o a w x)) g b := rfl

theorem summed_apply (o a : FVec Ideal S512x2048 .bf16) (w : FVec Ideal S2048x2048 .bf16) (x : FVec Ideal S512x2048 .f32)
    (r : Fin 512) (j : Fin 2048) : summed o a w x (ix2 r j)
      = Norm.residual * x (ix2 r j) + ∑ k : Fin 2048, o (ix2 r k) * a (ix2 r k) * w (ix2 k j) := by
  pointwise [summed]

theorem less_apply (y : FVec Ideal S512x2048 .f32) (r : Fin 512) (j : Fin 2048) :
    less y (ix2 r j) = centred width2048 (fun k => y (ix2 r k)) j := by
  unfold centred
  pointwise [less]

theorem scaled_apply (z : FVec Ideal S512x2048 .f32) (g b : FVec Ideal S1x2048 .f32) (r : Fin 512) (j : Fin 2048) (f : Fin 2048 → EReal)
    (hz : ∀ k, z (ix2 r k) = centred width2048 f k) :
    scaled z g b (ix2 r j) = normed width2048 f j (g (ix2 0 j)) (b (ix2 0 j)) := by
  unfold normed
  simp only [← hz]
  pointwise [scaled]

/-- A block's payload: its rows normalized. -/
theorem pay_apply (o a : FVec Ideal S512x2048 .bf16) (w : FVec Ideal S2048x2048 .bf16) (x : FVec Ideal S512x2048 .f32)
    (g b : FVec Ideal S1x2048 .f32) (r : Fin 512) (j : Fin 2048) (f : Fin 2048 → EReal) (g' b' : EReal)
    (hf : ∀ k, Norm.residual * x (ix2 r k) + ∑ l : Fin 2048, o (ix2 r l) * a (ix2 r l) * w (ix2 l k) = f k)
    (hg : g (ix2 0 j) = g') (hb : b (ix2 0 j) = b') :
    k0_pay1 (F := Ideal) o a w x g b (ix2 r j) = normed width2048 f j g' b' := by
  subst hg hb
  obtain rfl : (fun k => summed o a w x (ix2 r k)) = f := funext fun k => (summed_apply o a w x r k).trans (hf k)
  rw [pay_eq]
  exact scaled_apply _ g b r j _ fun k => less_apply _ r k

end Cert.KernelOutIdeal.Value
-- ==== Proof.Val.OutBlocks.lean ====
/- THE ATTENTION'S OUTPUT PROJECTION: the blocks each point reads, and the array the points leave. -/
module
public import proofs.«01_k».proof.Proof.Val.OutTile
public import Idealize.ShloMosaic.Lib.StableHlo.ReadAt
public import Idealize.ShloMosaic.Lib.Pipeline.ValueKit.Geometry
@[expose] public section
set_option maxRecDepth 16384
noncomputable section
namespace Cert.KernelOutIdeal.Value
open Idealize.ShloMosaic Idealize.ShloMosaic.TcCoe Idealize.ShloMosaic.Tactic Idealize.ShloMosaic.Pipeline
open Cert.KernelOutIdeal.Gen Cert.KernelOutIdeal Cert.Norm

variable (m : (ℓ : Loc nD τ sig) → Buf (Elt Ideal) ℓ) (c : Dev nD)

/-- The arguments: the attention's output, the projections that end in the gates, the residual, the weights, the
    gains and the offsets. -/
def attn : Vec Ideal S2x4096x2048 .f32 := m ((c : Thread nD τ).loc main_arg0)
def gates : Vec Ideal S2x4096x8192 .f32 := m ((c : Thread nD τ).loc main_arg1)
def resid : Vec Ideal S2x4096x2048 .f32 := m ((c : Thread nD τ).loc main_arg2)
def weights : Vec Ideal S1x2048x2048 .f32 := m ((c : Thread nD τ).loc main_arg3)
def gain : Vec Ideal S2x2048 .f32 := m ((c : Thread nD τ).loc main_arg4)
def offset : Vec Ideal S2x2048 .f32 := m ((c : Thread nD τ).loc main_arg5)

/-! ### What the region finds in its arrays -/

/-- A row of the whole is a batch and a position. -/
abbrev rowAt (b : Fin 2) (s : Fin 4096) : Fin 8192 := ⟨4096 * b.val + s.val, by omega⟩
/-- The column of a gate among the projections. -/
abbrev gateCol (k : Fin 2048) : Fin 8192 := ⟨6144 + k.val, by omega⟩

/-- A row of the whole, taken apart again. -/
theorem split_row {n : ℕ} (b : Fin 2) (s : Fin 4096) (k : Fin n) (h₀ : (4096 * b.val + s.val) / 4096 < 2)
    (h₁ : (4096 * b.val + s.val) % 4096 < 4096) :
    (ix3 ⟨(4096 * b.val + s.val) / 4096, h₀⟩ ⟨(4096 * b.val + s.val) % 4096, h₁⟩ k : (⟨3, ![2, 4096, n]⟩ : Shape).Idx) = ix3 b s k := by
  congr 1
  · apply Fin.ext; show (4096 * b.val + s.val) / 4096 = b.val; omega
  · apply Fin.ext; show (4096 * b.val + s.val) % 4096 = s.val; omega

theorem host_attn (b : Fin 2) (s : Fin 4096) (k : Fin 2048) :
    (V m c main_v1 : Vec Ideal S8192x2048 .bf16) (ix2 (rowAt b s) k) = attn m c (ix3 b s k) := by
  unfold attn V
  simp only [hostOps0]
  after_reads_at
  rw [split_row]

theorem host_gates (b : Fin 2) (s : Fin 4096) (k : Fin 2048) :
    (V m c main_v3 : Vec Ideal S8192x8192 .bf16) (ix2 (rowAt b s) (gateCol k)) = gates m c (ix3 b s (gateCol k)) := by
  unfold gates V
  simp only [hostOps0]
  after_reads_at
  rw [split_row]

theorem host_resid (b : Fin 2) (s : Fin 4096) (k : Fin 2048) :
    (V m c main_v4 : Vec Ideal S8192x2048 .f32) (ix2 (rowAt b s) k) = resid m c (ix3 b s k) := by
  unfold resid V
  simp only [hostOps0]
  after_reads_at
  rw [split_row]

theorem host_weights (k j : Fin 2048) :
    (V m c main_v6 : Vec Ideal S2048x2048 .bf16) (ix2 k j) = weights m c (ix3 0 k j) := by
  unfold weights V
  simp only [hostOps0]
  after_reads_at

theorem host_gain (j : Fin 2048) : (V m c main_v9 : Vec Ideal S1x2048 .f32) (ix2 0 j) = gain m c (ix2 1 j) := by
  unfold gain V
  simp only [hostOps0]
  after_reads_at

theorem host_offset (j : Fin 2048) : (V m c main_v12 : Vec Ideal S1x2048 .f32) (ix2 0 j) = offset m c (ix2 1 j) := by
  unfold offset V
  simp only [hostOps0]
  after_reads_at

/-! ### The blocks of a point -/

theorem index0 : ∀ t : Fin cfg0.N, win0_0.index t = ![t.val, 0] := (by decide +kernel : ∀ t : Fin grid0.N, _)
theorem index1 : ∀ t : Fin cfg0.N, win0_1.index t = ![t.val, 3] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)

/-- A point's batch, and the position of its row `r`. -/
def batchOf (t : Fin cfg0.N) : Fin 2 := ⟨t.val / 8, by have : t.val < 16 := t.isLt; omega⟩
def posOf (t : Fin cfg0.N) (r : Fin 512) : Fin 4096 := ⟨512 * (t.val % 8) + r.val, by omega⟩

theorem block_attn (t : Fin cfg0.N) (r : Fin 512) (k : Fin 2048) :
    iblk m c 0 t (ix2 r k) = attn m c (ix3 (batchOf t) (posOf t r) k) := by
  rw [← host_attn]
  blk_simp [iblk]
  refine congrArg (V m c main_v1) (funext fun d => Fin.ext ?_)
  fin_cases d
  · blk_simp [index0]
    show t.val * 512 + r.val = 4096 * (t.val / 8) + (512 * (t.val % 8) + r.val)
    omega
  · blk_simp [index0]; rfl

theorem block_gates (t : Fin cfg0.N) (r : Fin 512) (k : Fin 2048) :
    iblk m c 1 t (ix2 r k) = gates m c (ix3 (batchOf t) (posOf t r) (gateCol k)) := by
  rw [← host_gates]
  blk_simp [iblk]
  refine congrArg (V m c main_v3) (funext fun d => Fin.ext ?_)
  fin_cases d
  · blk_simp [index1]
    show t.val * 512 + r.val = 4096 * (t.val / 8) + (512 * (t.val % 8) + r.val)
    omega
  · blk_simp [index1]
    show 3 * 2048 + k.val = 6144 + k.val
    omega

theorem block_resid (t : Fin cfg0.N) (r : Fin 512) (k : Fin 2048) :
    iblk m c 2 t (ix2 r k) = resid m c (ix3 (batchOf t) (posOf t r) k) := by
  rw [← host_resid]
  blk_simp [iblk]
  refine congrArg (V m c main_v4) (funext fun d => Fin.ext ?_)
  fin_cases d
  · blk_simp [index2]
    show t.val * 512 + r.val = 4096 * (t.val / 8) + (512 * (t.val % 8) + r.val)
    omega
  · blk_simp [index2]; rfl

theorem block_weights (t : Fin cfg0.N) (k j : Fin 2048) : iblk m c 3 t (ix2 k j) = weights m c (ix3 0 k j) := by
  rw [← host_weights]
  blk_simp [iblk]
  refine congrArg (V m c main_v6) (funext fun d => Fin.ext ?_)
  fin_cases d <;> blk_simp [index3]

theorem block_gain (t : Fin cfg0.N) (j : Fin 2048) : iblk m c 4 t (ix2 0 j) = gain m c (ix2 1 j) := by
  rw [← host_gain]
  blk_simp [iblk]
  refine congrArg (V m c main_v9) (funext fun d => Fin.ext ?_)
  fin_cases d <;> blk_simp [index4]

theorem block_offset (t : Fin cfg0.N) (j : Fin 2048) : iblk m c 5 t (ix2 0 j) = offset m c (ix2 1 j) := by
  rw [← host_offset]
  blk_simp [iblk]
  refine congrArg (V m c main_v12) (funext fun d => Fin.ext ?_)
  fin_cases d <;> blk_simp [index5]

/-! ### The array -/

/-- A row before it is normalized. -/
def rowSum (a : Vec Ideal S2x4096x2048 .f32) (p : Vec Ideal S2x4096x8192 .f32) (x : Vec Ideal S2x4096x2048 .f32)
    (w : Vec Ideal S1x2048x2048 .f32) (b : Fin 2) (s : Fin 4096) (j : Fin 2048) : EReal :=
  Norm.residual * x (ix3 b s j) + ∑ k : Fin 2048, a (ix3 b s k) * p (ix3 b s (gateCol k)) * w (ix3 0 k j)

/-- The whole result. -/
def result : Vec Ideal S8192x2048 .f32 := fun i =>
  normed width2048 (rowSum (attn m c) (gates m c) (resid m c) (weights m c)
    ⟨(i 0).val / 4096, by have : (i 0).val < 8192 := (i 0).isLt; omega⟩ ⟨(i 0).val % 4096, Nat.mod_lt _ (by norm_num)⟩)
    ⟨(i 1).val, (i 1).isLt⟩ (gain m c (ix2 1 ⟨(i 1).val, (i 1).isLt⟩)) (offset m c (ix2 1 ⟨(i 1).val, (i 1).isLt⟩))

/-- What a point writes back. -/
theorem written (t : Fin cfg0.N) (r : Fin 512) (j : Fin 2048) :
    (dats m 0 c).flushed 6 t (ix2 r j)
      = normed width2048 (rowSum (attn m c) (gates m c) (resid m c) (weights m c) (batchOf t) (posOf t r)) j
          (gain m c (ix2 1 j)) (offset m c (ix2 1 j)) := by
  rw [flushed6]
  show out0_6 (iblk m c 0 t) (iblk m c 1 t) (iblk m c 2 t) (iblk m c 3 t) (iblk m c 4 t) (iblk m c 5 t) (ix2 r j) = _
  frame_out
  refine pay_apply _ _ _ _ _ _ r j _ _ _ (fun k => ?_) (block_gain m c t j) (block_offset m c t j)
  exact congrArg₂ (fun p q => Norm.residual * p + q) (block_resid m c t r k)
    (Finset.sum_congr rfl fun l _ => congrArg₂ (· * ·) (congrArg₂ (· * ·) (block_attn m c t r l) (block_gates m c t r l))
      (block_weights m c t l k))

/-- The result array after the last point. -/
theorem array_eq : (dats m 0 c).arrAt 6 cfg0.N = result m c := by
  refine (dats m 0 c).arrAt_eq_of_covers 6 _ (by decide +kernel) fun t hf y => ?_
  let r : Fin 512 := y 0
  let j : Fin 2048 := y 1
  have hy : y = ix2 r j := by
    refine funext fun d => Fin.ext ?_
    fin_cases d <;> rfl
  refine Eq.trans ((congrArg ((dats m 0 c).flushed 6 t) hy).trans (written m c t r j)) ?_
  have e0 : (((cfg0.win 6).blk t).view.emb y 0 : ℕ) = t.val * 512 + r.val := by
    blk_simp [index6]; rfl
  have e1 : (((cfg0.win 6).blk t).view.emb y 1 : ℕ) = j.val := by
    blk_simp [index6]; rfl
  have ht : t.val < 16 := t.isLt
  have hr := r.isLt
  have hb : batchOf t = ⟨(((cfg0.win 6).blk t).view.emb y 0 : ℕ) / 4096, by rw [e0]; omega⟩ :=
    Fin.ext (by show t.val / 8 = _ / 4096; rw [e0]; omega)
  have hs : posOf t r = ⟨(((cfg0.win 6).blk t).view.emb y 0 : ℕ) % 4096, by omega⟩ :=
    Fin.ext (by show 512 * (t.val % 8) + r.val = _ % 4096; rw [e0]; omega)
  have hj : j = ⟨(((cfg0.win 6).blk t).view.emb y 1 : ℕ), by rw [e1]; exact j.isLt⟩ := Fin.ext e1.symm
  rw [hb, hs, hj]
  rfl
end Cert.KernelOutIdeal.Value
-- ==== Proof.Val.OutRef.lean ====
/- THE REFERENCE OF THE ATTENTION'S OUTPUT PROJECTION AT AN INDEX: the same rows, normalized the same way. -/
module
public import proofs.«01_k».proof.Proof.Gen.ReferenceOutIdeal.Read
public import proofs.«01_k».proof.Proof.Val.OutBlocks
@[expose] public section
set_option maxRecDepth 16384
noncomputable section
namespace Cert.ReferenceOutIdeal.Read
open Idealize.ShloMosaic Idealize.ShloMosaic.TcCoe Idealize.ShloMosaic.Tactic
open Cert.Norm Cert.ReferenceOutIdeal Cert.ReferenceOutIdeal.Gen
open Cert.KernelOutIdeal.Value (rowSum)

variable (a : (⟨S2x4096x2048, .f32⟩ : BufTy).Contents (Elt Ideal)) (p : (⟨S2x4096x8192, .f32⟩ : BufTy).Contents (Elt Ideal))
  (x : (⟨S2x4096x2048, .f32⟩ : BufTy).Contents (Elt Ideal)) (w : (⟨S1x2048x2048, .f32⟩ : BufTy).Contents (Elt Ideal))
  (g o : (⟨S2x2048, .f32⟩ : BufTy).Contents (Elt Ideal))

theorem sum_apply (b : Fin 2) (s : Fin 4096) (j : Fin 2048) :
    val_main_v6 a p x w (ix3 b s j) = rowSum a p x w b s j := by
  rw [val_main_v6_apply, val_main_v5_apply, val_main_v4_apply, val_main_cst_apply, val_main_v3_apply]
  unfold rowSum
  refine congrArg (Norm.residual * x (ix3 b s j) + ·) (Finset.sum_congr rfl fun k _ => ?_)
  rw [val_main_v1_apply, val_main_v0_apply, val_main_v2_apply]
  have e1 : lidx_main_v3 (ix3 b s j) k = ix3 b s k := by
    funext d; match d with | ⟨0, _⟩ => rfl | ⟨1, _⟩ => rfl | ⟨2, _⟩ => rfl
  have e2 : idx_main_v0 (ix3 b s k) = ix3 b s (Cert.KernelOutIdeal.Value.gateCol k) := by
    funext d; match d with | ⟨0, _⟩ => rfl | ⟨1, _⟩ => rfl | ⟨2, _⟩ => rfl
  have e3 : idx_main_v2 (ridx_main_v3 (ix3 b s j) k) = ix3 0 k j := by
    have := k.isLt
    have := j.isLt
    refine funext fun d => Fin.ext ?_
    match d with
    | ⟨0, _⟩ => rfl
    | ⟨1, _⟩ => show (k.val * 2048 + j.val) / 2048 % 2048 = k.val; omega
    | ⟨2, _⟩ => show (k.val * 2048 + j.val) % 2048 = j.val; omega
  rw [e1, e2, e3]
  rfl

theorem centred_apply (b : Fin 2) (s : Fin 4096) (j : Fin 2048) :
    val_main_v16 a p x w (ix3 b s j) = centred width2048 (rowSum a p x w b s) j := by
  rw [val_main_v16_apply, val_main_v15_apply, val_main_v14_apply, val_main_v13_apply, val_main_cst_1_apply, val_main_v12_apply,
    val_main_v11_apply, val_main_cst_0_apply, sum_apply]
  refine congrArg (fun z => rowSum a p x w b s j - Ideal.div z width2048) ?_
  refine (congrArg (· + _) Ideal.ofBits_zero_f32).trans ((zero_add _).trans (Finset.sum_congr rfl fun k _ => ?_))
  exact (congrArg (val_main_v6 a p x w) (funext fun d => by
    match d with | ⟨0, _⟩ => rfl | ⟨1, _⟩ => rfl | ⟨2, _⟩ => rfl)).trans (sum_apply a p x w b s k)

theorem normed_apply (b : Fin 2) (s : Fin 4096) (j : Fin 2048) :
    val_main_v32 a p x w g o (ix3 b s j) = normed width2048 (rowSum a p x w b s) j (g (ix2 1 j)) (o (ix2 1 j)) := by
  rw [val_main_v32_apply, val_main_v29_apply, val_main_v26_apply, val_main_v25_apply, val_main_v24_apply, val_main_v23_apply,
    val_main_v22_apply, val_main_cst_4_apply, val_main_v21_apply, val_main_v20_apply, val_main_cst_3_apply, val_main_v19_apply,
    val_main_v18_apply, val_main_cst_2_apply, centred_apply,
    val_main_v28_apply, val_main_v27_apply, val_main_v8_apply, val_main_v7_apply,
    val_main_v31_apply, val_main_v30_apply, val_main_v10_apply, val_main_v9_apply]
  have hs : ∀ z : EReal, (∑ k : Fin 2048, val_main_v17 a p x w (idx_main_v18 (idx_main_v19 (idx_main_v25 (ix3 b s j))) k)) = z →
      (FloatOps.ofBits (F := Ideal) .f32 0x00000000#32 : EReal) + (∑ k : Fin 2048, val_main_v17 a p x w (idx_main_v18 (idx_main_v19 (idx_main_v25 (ix3 b s j))) k)) = z :=
    fun z hz => (congrArg (· + _) Ideal.ofBits_zero_f32).trans ((zero_add _).trans hz)
  have hv : (∑ k : Fin 2048, val_main_v17 a p x w (idx_main_v18 (idx_main_v19 (idx_main_v25 (ix3 b s j))) k))
      = ∑ k, centred width2048 (rowSum a p x w b s) k * centred width2048 (rowSum a p x w b s) k := by
    refine Finset.sum_congr rfl fun k _ => ?_
    rw [val_main_v17_apply]
    have e : idx_main_v18 (idx_main_v19 (idx_main_v25 (ix3 b s j))) k = ix3 b s k := by
      funext d; match d with | ⟨0, _⟩ => rfl | ⟨1, _⟩ => rfl | ⟨2, _⟩ => rfl
    rw [e, centred_apply]
    rfl
  have hi : idx_main_v7 (idx_main_v8 (idx_main_v27 (idx_main_v28 (ix3 b s j)))) = ix2 1 j := by
    refine funext fun d => Fin.ext ?_
    match d with | ⟨0, _⟩ => rfl | ⟨1, _⟩ => exact Nat.mod_eq_of_lt j.isLt
  have hi' : idx_main_v9 (idx_main_v10 (idx_main_v30 (idx_main_v31 (ix3 b s j)))) = ix2 1 j := by
    refine funext fun d => Fin.ext ?_
    match d with | ⟨0, _⟩ => rfl | ⟨1, _⟩ => exact Nat.mod_eq_of_lt j.isLt
  rw [hi, hi', hs _ hv]
  rfl

/-- The reference's result is the array the kernel's points leave. -/
theorem result_eq (m : (ℓ : Loc Cert.KernelOutIdeal.nD Cert.KernelOutIdeal.τ Cert.KernelOutIdeal.sig) → Buf (Elt Ideal) ℓ)
    (c : Dev Cert.KernelOutIdeal.nD) :
    val_main_v33 (Cert.KernelOutIdeal.Value.attn m c) (Cert.KernelOutIdeal.Value.gates m c) (Cert.KernelOutIdeal.Value.resid m c)
      (Cert.KernelOutIdeal.Value.weights m c) (Cert.KernelOutIdeal.Value.gain m c) (Cert.KernelOutIdeal.Value.offset m c)
      = Cert.KernelOutIdeal.Value.result m c := by
  funext i
  have h0 : (i 0).val < 8192 := (i 0).isLt
  have h1 : (i 1).val < 2048 := (i 1).isLt
  have e : idx_main_v33 i = ix3 ⟨(i 0).val / 4096, by omega⟩ ⟨(i 0).val % 4096, by omega⟩ ⟨(i 1).val, h1⟩ := by
    refine funext fun d => Fin.ext ?_
    match d with
    | ⟨0, _⟩ => show ((i 0).val * 2048 + (i 1).val) / 8388608 = (i 0).val / 4096; omega
    | ⟨1, _⟩ => show ((i 0).val * 2048 + (i 1).val) / 2048 % 4096 = (i 0).val % 4096; omega
    | ⟨2, _⟩ => show ((i 0).val * 2048 + (i 1).val) % 2048 = (i 1).val; omega
  rw [val_main_v33_apply, e, normed_apply]
  rfl
end Cert.ReferenceOutIdeal.Read
-- ==== Proof.Val.Pre.lean ====
/- THE PRECONDITION, READ: every key before its query scores at most 500. -/
module
public import proofs.«01_k».proof.Pre_scores_bounded
public import proofs.«01_k».proof.Proof.Val.Layer
public import Idealize.ShloMosaic.Lib.IdealHost
public import Idealize.ShloMosaic.Lib.WordCmp
public import Idealize.ShloMosaic.Lib.Pointwise
@[expose] public section
set_option maxRecDepth 16384
noncomputable section
namespace Cert.Pre_scores_bounded
open Idealize.ShloMosaic hiding ix3 ix4
open Idealize.ShloMosaic.ValueIdx Cert.Stick

theorem facts : Facts where
  slices_S2x4096x4096_S2x4096x2048_0_0_0 := by decide
  shapeCasts_S2x4096x2048_S2x4096x16x128 := by decide
  bcast_S_S2x16x4096x4096 := by decide
  dot_S2x4096x16x128_S2x4096x16x128_S2x16x4096x4096_3_3_1_1_02_02_wf := by decide

variable [Facts]
open Facts

abbrev dims := dot_S2x4096x16x128_S2x4096x16x128_S2x16x4096x4096_3_3_1_1_02_02

/-- An argument's first half, cut into heads. -/
def heads (x : FVec Ideal S2x4096x4096 .f32) : FVec Ideal S2x4096x16x128 .f32 :=
  shapeCast S2x4096x16x128 (extractStridedSlice S2x4096x2048 ![0, 0, 0] x slices_S2x4096x4096_S2x4096x2048_0_0_0)
    shapeCasts_S2x4096x2048_S2x4096x16x128

theorem heads_apply (x : FVec Ideal S2x4096x4096 .f32) (b : Fin 2) (s : Fin 4096) (g : Fin 16) (a : Fin 128) :
    heads x (ix4 b s g a) = x (ix3 b s (lowCol g a)) := by
  have hg : 128 * g.val + a.val < 2048 := by omega
  unfold heads
  rw [shapeCast_apply _ _ (ix4 b s g a) (ix3 b s (⟨128 * g.val + a.val, hg⟩ : Fin 2048) : S2x4096x2048.Idx)
    (by
      rw [Shape.rowMajor_val_three, Shape.rowMajor_val_four]
      show (b.val * 4096 + s.val) * 2048 + (128 * g.val + a.val) = ((b.val * 4096 + s.val) * 16 + g.val) * 128 + a.val
      omega)]
  exact extractStridedSlice_apply ![0, 0, 0] x _ _ (ix3 b s (lowCol g a)) (fun d => match d with
    | ⟨0, _⟩ => by show b.val = 0 + b.val; omega
    | ⟨1, _⟩ => by show s.val = 0 + s.val; omega
    | ⟨2, _⟩ => by show 128 * g.val + a.val = 0 + (128 * g.val + a.val); omega)

/-- The raw scores, as the precondition forms them. -/
def scores (kv h : FVec Ideal S2x4096x4096 .f32) : FVec Ideal S2x16x4096x4096 .f32 :=
  Host.dotGeneral dims none (heads h) (heads kv)

theorem scores_apply (kv h : FVec Ideal S2x4096x4096 .f32) (b : Fin 2) (g : Fin 16) (t s : Fin 4096) :
    scores kv h (ix4 b g t s) = rawScore kv h b g t s.val := by
  unfold scores rawScore
  rw [dif_pos s.isLt]
  simp only [Host.dotGeneral]
  rw [Ideal.dotGeneral_apply, ← Equiv.sum_comp (contrEquiv1 dims 128 rfl rfl).symm]
  refine Finset.sum_congr rfl fun k _ => ?_
  have hk := contrEquiv1_symm_val dims 128 rfl rfl k
  have el : dims.lhsIdx (ix4 b g t s) ((contrEquiv1 dims 128 rfl rfl).symm k) = ix4 b t g k := funext fun d => Fin.ext (by
    match d with
    | ⟨0, _⟩ => rfl
    | ⟨1, _⟩ => rfl
    | ⟨2, _⟩ => rfl
    | ⟨3, _⟩ => exact (dims.lhsIdx_val_of_single rfl _ _).trans hk)
  have er : dims.rhsIdx (ix4 b g t s) ((contrEquiv1 dims 128 rfl rfl).symm k) = ix4 b s g k := funext fun d => Fin.ext (by
    match d with
    | ⟨0, _⟩ => rfl
    | ⟨1, _⟩ => rfl
    | ⟨2, _⟩ => rfl
    | ⟨3, _⟩ => exact (dims.rhsIdx_val_of_single rfl _ _).trans hk)
  rw [el, er, heads_apply, heads_apply]

theorem limit_bits : Ideal.ofBits .f32 0x43FA0000#32 = ((500 : ℝ) : EReal) := by
  simp [Ideal.ofBits, Ideal.ieee, -EReal.coe_mul]; norm_num

/-- Where the precondition holds everywhere, the scores are bounded. -/
theorem bounded (kv h : FVec Ideal S2x4096x4096 .f32) (H : fn (F := Ideal) kv h = fun _ => 1#1) : Bounded kv h := by
  intro b g t s hs
  have hs' : s < 4096 := hs.trans t.isLt
  have e : FloatOps.cmpf (F := Ideal) .ole
      (Scalar.select (IntOp.cmpi .slt (BitVec.ofNat 32 s) (BitVec.ofNat 32 t.val)) (scores kv h (ix4 b g t ⟨s, hs'⟩))
        (Ideal.ofBits .f32 0x00000000#32)) (Ideal.ofBits .f32 0x43FA0000#32) = 1#1 := congrFun H (ix4 b g t ⟨s, hs'⟩)
  rw [WordCmp.cmpi_slt_ofNat (w := 32) (by norm_num; omega) (by norm_num; omega), decide_eq_true hs, limit_bits,
    show BitVec.ofBool true = 1#1 from rfl] at e
  rw [← scores_apply kv h b g t ⟨s, hs'⟩]
  have e' : FloatOps.cmpf (F := Ideal) .ole (scores kv h (ix4 b g t ⟨s, hs'⟩)) ((500 : ℝ) : EReal) = 1#1 := e
  rw [Ideal.cmpf_def] at e'
  by_contra hn
  rw [show Ideal.cmp .ole (scores kv h (ix4 b g t ⟨s, hs'⟩)) ((500 : ℝ) : EReal)
    = BitVec.ofBool (decide (scores kv h (ix4 b g t ⟨s, hs'⟩) ≤ ((500 : ℝ) : EReal))) from rfl, decide_eq_false hn] at e'
  exact absurd e' (by decide)
end Cert.Pre_scores_bounded
-- ==== Proof.Val.ProjRun.lean ====
/- THE PROJECTION TO KEYS, VALUES, QUERIES AND GATES: its body in the steps it is made of, each run on its own. -/
module
public import proofs.«01_k».proof.Proof.Gen.KernelProjIdeal.Skeleton
public import proofs.«01_k».proof.Proof.Gen.KernelProjIdeal.Frame
public import Idealize.ShloMosaic.Lib.Pipeline.ValueKit
@[expose] public section
set_option maxRecDepth 16384
noncomputable section
namespace Cert.KernelProjIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelProjIdeal Cert.KernelProjIdeal.Gen

variable {F : FTy → Type} [FloatOps F] [Named F]
local notation "𝕄" => MT nD τ sig Unit (Elt F) ℕ (UR sig nD τ) ℕ

/-- The conditions the weights are rounded under: the first block of a column of blocks, in the columns of either weights. -/
abbrev kvCond (i : grid0.Coords) : Prop := Scalar.cmpi .ne (Scalar.extui (Scalar.andi (Scalar.cmpi .eq (BitVec.ofNat 32 (i 1).val) 0#32) (Scalar.cmpi .slt (BitVec.ofNat 32 (i 0).val) 4#32)) : BitVec 32) 0#32 = 1#1
abbrev qgCond (i : grid0.Coords) : Prop := Scalar.cmpi .ne (Scalar.extui (Scalar.andi (Scalar.cmpi .eq (BitVec.ofNat 32 (i 1).val) 0#32) (Scalar.cmpi .sge (BitVec.ofNat 32 (i 0).val) 4#32)) : BitVec 32) 0#32 = 1#1

section steps
variable (i : grid0.Coords)
  (arg2 : Memref sig .tc .vmem S1024x2048 .bf16) (harg2 : arg2.IsWhole) (arg3 : Memref sig .tc .vmem S2048x1024 .f32) (harg3 : arg3.IsWhole)
  (arg4 : Memref sig .tc .vmem S2048x1024 .f32) (harg4 : arg4.IsWhole) (arg5 : Memref sig .tc .vmem S64x2048 .f32) (harg5 : arg5.IsWhole)
  (arg6 : Memref sig .tc .vmem S1024x1024 .bf16) (harg6 : arg6.IsWhole) (arg7 : Memref sig .tc .vmem S64x2048 .bf16) (harg7 : arg7.IsWhole)
  (arg8 : Memref sig .tc .vmem S2048x1024 .bf16) (harg8 : arg8.IsWhole) (arg9 : Memref sig .tc .vmem S3x1024x256 .f32) (harg9 : arg9.IsWhole)

/-- The step that rounds the rows of the next weights. -/
def roundNext : Prog (TpuEff nD τ sig (Elt F) Λ₀ .tc) PUnit := do
  let v25 : Vec F S64x2048 .f32 ← Prog.lift (.load arg5 (Rect.unit (s := S64x2048) ![0, 0] S64x2048.size inb_S64x2048_S64x2048_0_0).toLoadRect (View.loadsAt_vmem h_S64x2048))
  let v28 : Vec F S64x2048 .bf16 ← Prog.lift (.load arg7 (Rect.unit (s := S64x2048) ![0, 0] S64x2048.size inb_S64x2048_S64x2048_0_0).toLoadRect (View.loadsAt_vmem h_S64x2048))
  Prog.lift (.store arg7 (Rect.unit (s := S64x2048) ![0, 0] S64x2048.size inb_S64x2048_S64x2048_0_0) (k0_pay1 v25) Finset.univ (View.stores_vmem h_S64x2048 (harg7.storeExact_slice rfl _ packedbf16_S64x2048_S64x2048_0_0) (fun _ => rfl)) (.inl rfl))
  pure ⟨⟩

/-- The step that rounds columns of weights, those of keys and values or those of queries and gates: `arg3` is either's buffer, `f`
its rounding. -/
def roundCols (f : Vec F S2048x1024 .f32 → FVec F S2048x1024 .bf16) : Prog (TpuEff nD τ sig (Elt F) Λ₀ .tc) PUnit := do
  let v25 : Vec F S2048x1024 .f32 ← Prog.lift (.load arg3 (Rect.unit (s := S2048x1024) ![0, 0] S2048x1024.size inb_S2048x1024_S2048x1024_0_0).toLoadRect (View.loadsAt_vmem h_S2048x1024))
  let v27 : Vec F S2048x1024 .bf16 ← Prog.lift (.load arg8 (Rect.unit (s := S2048x1024) ![0, 0] S2048x1024.size inb_S2048x1024_S2048x1024_0_0).toLoadRect (View.loadsAt_vmem h_S2048x1024))
  Prog.lift (.store arg8 (Rect.unit (s := S2048x1024) ![0, 0] S2048x1024.size inb_S2048x1024_S2048x1024_0_0) (f v25) Finset.univ (View.stores_vmem h_S2048x1024 (harg8.storeExact_slice rfl _ packedbf16_S2048x1024_S2048x1024_0_0) (fun _ => rfl)) (.inl rfl))
  pure ⟨⟩

/-- What is stored of a product: `f0` to `f3` of it, one for each column piece of the block. -/
abbrev Finish (F : FTy → Type) := Vec F S1x1024x256 .f32 → FVec F S1024x256 .bf16

/-- The four column pieces of a block, each a product kept beside, finished and stored. -/
def pieces (f0 f1 f2 f3 : Finish F) : Prog (TpuEff nD τ sig (Elt F) Λ₀ .tc) PUnit := do
  let v25 : Vec F S1024x2048 .bf16 ← Prog.lift (.load arg2 (Rect.unit (s := S1024x2048) ![0, 0] S1024x2048.size inb_S1024x2048_S1024x2048_0_0).toLoadRect (View.loadsAt_vmem h_S1024x2048))
  let v27 : Vec F S2048x256 .bf16 ← Prog.lift (.load arg8 (Rect.unit (s := S2048x1024) ![0, 0] S2048x256.size inb_S2048x1024_S2048x256_0_0).toLoadRect (View.loadsAt_vmem h_S2048x256))
  let v29 : Vec F S1x1024x256 .f32 ← Prog.lift (.load arg9 (Rect.unit (s := S3x1024x256) ![0, 0, 0] S1x1024x256.size inb_S3x1024x256_S1x1024x256_0_0_0).toLoadRect (View.loadsAt_vmem h_S1x1024x256))
  Prog.lift (.store arg9 (Rect.unit (s := S3x1024x256) ![0, 0, 0] S1x1024x256.size inb_S3x1024x256_S1x1024x256_0_0_0) (k0_pay13 v25 v27) Finset.univ (View.stores_vmem_bits_univ h_S1x1024x256 rfl) (.inl rfl))
  let v32 : Vec F S1024x2048 .bf16 ← Prog.lift (.load arg2 (Rect.unit (s := S1024x2048) ![0, 0] S1024x2048.size inb_S1024x2048_S1024x2048_0_0).toLoadRect (View.loadsAt_vmem h_S1024x2048))
  let v34 : Vec F S2048x256 .bf16 ← Prog.lift (.load arg8 (Rect.unit (s := S2048x1024) ![0, 256] S2048x256.size inb_S2048x1024_S2048x256_0_256).toLoadRect (View.loadsAt_vmem h_S2048x256))
  let v36 : Vec F S1x1024x256 .f32 ← Prog.lift (.load arg9 (Rect.unit (s := S3x1024x256) ![1, 0, 0] S1x1024x256.size inb_S3x1024x256_S1x1024x256_1_0_0).toLoadRect (View.loadsAt_vmem h_S1x1024x256))
  Prog.lift (.store arg9 (Rect.unit (s := S3x1024x256) ![1, 0, 0] S1x1024x256.size inb_S3x1024x256_S1x1024x256_1_0_0) (k0_pay13 v32 v34) Finset.univ (View.stores_vmem_bits_univ h_S1x1024x256 rfl) (.inl rfl))
  let v39 : Vec F S1024x2048 .bf16 ← Prog.lift (.load arg2 (Rect.unit (s := S1024x2048) ![0, 0] S1024x2048.size inb_S1024x2048_S1024x2048_0_0).toLoadRect (View.loadsAt_vmem h_S1024x2048))
  let v41 : Vec F S2048x256 .bf16 ← Prog.lift (.load arg8 (Rect.unit (s := S2048x1024) ![0, 512] S2048x256.size inb_S2048x1024_S2048x256_0_512).toLoadRect (View.loadsAt_vmem h_S2048x256))
  let v43 : Vec F S1x1024x256 .f32 ← Prog.lift (.load arg9 (Rect.unit (s := S3x1024x256) ![2, 0, 0] S1x1024x256.size inb_S3x1024x256_S1x1024x256_2_0_0).toLoadRect (View.loadsAt_vmem h_S1x1024x256))
  Prog.lift (.store arg9 (Rect.unit (s := S3x1024x256) ![2, 0, 0] S1x1024x256.size inb_S3x1024x256_S1x1024x256_2_0_0) (k0_pay13 v39 v41) Finset.univ (View.stores_vmem_bits_univ h_S1x1024x256 rfl) (.inl rfl))
  let v46 : Vec F S1x1024x256 .f32 ← Prog.lift (.load arg9 (Rect.unit (s := S3x1024x256) ![0, 0, 0] S1x1024x256.size inb_S3x1024x256_S1x1024x256_0_0_0).toLoadRect (View.loadsAt_vmem h_S1x1024x256))
  let v49 : Vec F S1024x256 .bf16 ← Prog.lift (.load arg6 (Rect.unit (s := S1024x1024) ![0, 0] S1024x256.size inb_S1024x1024_S1024x256_0_0).toLoadRect (View.loadsAt_vmem h_S1024x256))
  Prog.lift (.store arg6 (Rect.unit (s := S1024x1024) ![0, 0] S1024x256.size inb_S1024x1024_S1024x256_0_0) (f0 v46) Finset.univ (View.stores_vmem h_S1024x256 (harg6.storeExact_slice rfl _ packedbf16_S1024x1024_S1024x256_0_0) (fun _ => rfl)) (.inl rfl))
  let v50 : Vec F S1024x2048 .bf16 ← Prog.lift (.load arg2 (Rect.unit (s := S1024x2048) ![0, 0] S1024x2048.size inb_S1024x2048_S1024x2048_0_0).toLoadRect (View.loadsAt_vmem h_S1024x2048))
  let v52 : Vec F S2048x256 .bf16 ← Prog.lift (.load arg8 (Rect.unit (s := S2048x1024) ![0, 768] S2048x256.size inb_S2048x1024_S2048x256_0_768).toLoadRect (View.loadsAt_vmem h_S2048x256))
  let v54 : Vec F S1x1024x256 .f32 ← Prog.lift (.load arg9 (Rect.unit (s := S3x1024x256) ![0, 0, 0] S1x1024x256.size inb_S3x1024x256_S1x1024x256_0_0_0).toLoadRect (View.loadsAt_vmem h_S1x1024x256))
  Prog.lift (.store arg9 (Rect.unit (s := S3x1024x256) ![0, 0, 0] S1x1024x256.size inb_S3x1024x256_S1x1024x256_0_0_0) (k0_pay13 v50 v52) Finset.univ (View.stores_vmem_bits_univ h_S1x1024x256 rfl) (.inl rfl))
  let v57 : Vec F S1x1024x256 .f32 ← Prog.lift (.load arg9 (Rect.unit (s := S3x1024x256) ![1, 0, 0] S1x1024x256.size inb_S3x1024x256_S1x1024x256_1_0_0).toLoadRect (View.loadsAt_vmem h_S1x1024x256))
  let v60 : Vec F S1024x256 .bf16 ← Prog.lift (.load arg6 (Rect.unit (s := S1024x1024) ![0, 256] S1024x256.size inb_S1024x1024_S1024x256_0_256).toLoadRect (View.loadsAt_vmem h_S1024x256))
  Prog.lift (.store arg6 (Rect.unit (s := S1024x1024) ![0, 256] S1024x256.size inb_S1024x1024_S1024x256_0_256) (f1 v57) Finset.univ (View.stores_vmem h_S1024x256 (harg6.storeExact_slice rfl _ packedbf16_S1024x1024_S1024x256_0_256) (fun _ => rfl)) (.inl rfl))
  let v61 : Vec F S1x1024x256 .f32 ← Prog.lift (.load arg9 (Rect.unit (s := S3x1024x256) ![2, 0, 0] S1x1024x256.size inb_S3x1024x256_S1x1024x256_2_0_0).toLoadRect (View.loadsAt_vmem h_S1x1024x256))
  let v64 : Vec F S1024x256 .bf16 ← Prog.lift (.load arg6 (Rect.unit (s := S1024x1024) ![0, 512] S1024x256.size inb_S1024x1024_S1024x256_0_512).toLoadRect (View.loadsAt_vmem h_S1024x256))
  Prog.lift (.store arg6 (Rect.unit (s := S1024x1024) ![0, 512] S1024x256.size inb_S1024x1024_S1024x256_0_512) (f2 v61) Finset.univ (View.stores_vmem h_S1024x256 (harg6.storeExact_slice rfl _ packedbf16_S1024x1024_S1024x256_0_512) (fun _ => rfl)) (.inl rfl))
  let v65 : Vec F S1x1024x256 .f32 ← Prog.lift (.load arg9 (Rect.unit (s := S3x1024x256) ![0, 0, 0] S1x1024x256.size inb_S3x1024x256_S1x1024x256_0_0_0).toLoadRect (View.loadsAt_vmem h_S1x1024x256))
  let v68 : Vec F S1024x256 .bf16 ← Prog.lift (.load arg6 (Rect.unit (s := S1024x1024) ![0, 768] S1024x256.size inb_S1024x1024_S1024x256_0_768).toLoadRect (View.loadsAt_vmem h_S1024x256))
  Prog.lift (.store arg6 (Rect.unit (s := S1024x1024) ![0, 768] S1024x256.size inb_S1024x1024_S1024x256_0_768) (f3 v65) Finset.univ (View.stores_vmem h_S1024x256 (harg6.storeExact_slice rfl _ packedbf16_S1024x1024_S1024x256_0_768) (fun _ => rfl)) (.inl rfl))
  pure ⟨⟩

/-- The body is the steps, each under its condition. -/
theorem body_eq : cc0_attn_in (F := F) i arg2 harg2 arg3 harg3 arg4 harg4 arg5 harg5 arg6 harg6 arg7 harg7 arg8 harg8 arg9 harg9 =
    ((if k0_cond1 i = 1#1 then roundNext arg5 arg7 harg7 else pure ⟨⟩) >>= fun _ =>
      (if kvCond i then roundCols arg3 arg8 harg8 k0_pay2 else pure ⟨⟩) >>= fun _ =>
      (if qgCond i then roundCols arg4 arg8 harg8 k0_pay3 else pure ⟨⟩) >>= fun _ =>
      (if k0_cond4 i = 1#1 then pieces arg2 arg6 harg6 arg8 arg9 k0_pay16 k0_pay5 k0_pay6 k0_pay7 else pure ⟨⟩) >>= fun _ =>
      (if k0_cond5 i = 1#1 then pieces arg2 arg6 harg6 arg8 arg9 k0_pay20 k0_pay9 k0_pay10 k0_pay11 else pure ⟨⟩) >>= fun _ =>
      (if k0_cond6 i = 1#1 then pieces arg2 arg6 harg6 arg8 arg9 (fun v => k0_pay26 (k0_pay24 v) (k0_pay25 v)) k0_pay28 k0_pay29 k0_pay12 else pure ⟨⟩) >>= fun _ =>
      pure ⟨⟩) := by
  rw [cc0_attn_in_eq_skeleton]
  refine Eq.trans (b := (do
    if k0_cond1 i = 1#1 then roundNext arg5 arg7 harg7 else pure ⟨⟩
    if kvCond i then roundCols arg3 arg8 harg8 k0_pay2 else pure ⟨⟩
    if qgCond i then roundCols arg4 arg8 harg8 k0_pay3 else pure ⟨⟩
    if k0_cond4 i = 1#1 then pieces arg2 arg6 harg6 arg8 arg9 k0_pay16 k0_pay5 k0_pay6 k0_pay7 else pure ⟨⟩
    if k0_cond5 i = 1#1 then pieces arg2 arg6 harg6 arg8 arg9 k0_pay20 k0_pay9 k0_pay10 k0_pay11 else pure ⟨⟩
    if k0_cond6 i = 1#1 then pieces arg2 arg6 harg6 arg8 arg9 (fun v => k0_pay26 (k0_pay24 v) (k0_pay25 v)) k0_pay28 k0_pay29 k0_pay12 else pure ⟨⟩
    pure ⟨⟩)) rfl ?_
  split_ifs <;> rfl

/-! ### What a block is -/

/-- A store into another slot leaves a slot alone. -/
theorem slot_miss (v : View sig .tc .vmem S3x1024x256 .f32) {k k' : ℕ} (hk : k ≠ k')
    (h : ∀ a, (![k, 0, 0] : Fin 3 → ℕ) a + (![1, 1024, 256] : Fin 3 → ℕ) a ≤ S3x1024x256.size a)
    (h' : ∀ a, (![k', 0, 0] : Fin 3 → ℕ) a + (![1, 1024, 256] : Fin 3 → ℕ) a ≤ S3x1024x256.size a)
    (p : (⟨3, ![1, 1024, 256]⟩ : Shape).Idx → Elt F .f32) (L : List (View.Piece (Elt F) S3x1024x256 .f32)) :
    v.readCov (⟨Rect.unit (s := S3x1024x256) ![k, 0, 0] ![1, 1024, 256] h, p⟩ :: L) (Rect.unit (s := S3x1024x256) ![k', 0, 0] ![1, 1024, 256] h').toLoadRect
      = v.readCov L (Rect.unit (s := S3x1024x256) ![k', 0, 0] ![1, 1024, 256] h').toLoadRect := by
  rw [View.readCov_eq_canon', View.readCov_eq_canon']
  refine funext fun j => View.canon_cons_of_not_mem _ _ ?_
  have hd : Disjoint (Rect.unit (s := S3x1024x256) ![k', 0, 0] ![1, 1024, 256] h').set (Rect.unit (s := S3x1024x256) ![k, 0, 0] ![1, 1024, 256] h).set :=
    Rect.unit_disjoint (0 : Fin 3) (by show k' + 1 ≤ k ∨ k + 1 ≤ k'; omega)
  exact Finset.disjoint_left.mp hd ((Rect.unit (s := S3x1024x256) ![k', 0, 0] ![1, 1024, 256] h').idx_mem j)

/-- Columns of the weights. -/
def wcols (w : Vec F S2048x1024 .bf16) (o : ℕ) (h : ∀ a, (![0, o] : Fin 2 → ℕ) a + S2048x256.size a ≤ S2048x1024.size a) : Vec F S2048x256 .bf16 :=
  View.ld w (Rect.unit (s := S2048x1024) ![0, o] S2048x256.size h)

/-- A block, in its four column pieces: each the rows by those columns of the weights, finished. -/
def tile (f0 f1 f2 f3 : Finish F) (xs : Vec F S1024x2048 .bf16) (w : Vec F S2048x1024 .bf16) : Vec F S1024x1024 .bf16 :=
  View.canon (Val := Elt F) [⟨Rect.unit ![0, 768] S1024x256.size inb_S1024x1024_S1024x256_0_768, f3 (k0_pay13 xs (wcols w 768 inb_S2048x1024_S2048x256_0_768))⟩,
    ⟨Rect.unit ![0, 512] S1024x256.size inb_S1024x1024_S1024x256_0_512, f2 (k0_pay13 xs (wcols w 512 inb_S2048x1024_S2048x256_0_512))⟩,
    ⟨Rect.unit ![0, 256] S1024x256.size inb_S1024x1024_S1024x256_0_256, f1 (k0_pay13 xs (wcols w 256 inb_S2048x1024_S2048x256_0_256))⟩,
    ⟨Rect.unit ![0, 0] S1024x256.size inb_S1024x1024_S1024x256_0_0, f0 (k0_pay13 xs (wcols w 0 inb_S2048x1024_S2048x256_0_0))⟩]

/-- The block at a point with these coordinates: keys and values as they are, queries scaled, gates through their activation. -/
def blockOf (i : grid0.Coords) (xs : Vec F S1024x2048 .bf16) (w : Vec F S2048x1024 .bf16) : Vec F S1024x1024 .bf16 :=
  if k0_cond4 i = 1#1 then tile k0_pay16 k0_pay5 k0_pay6 k0_pay7 xs w
  else if k0_cond5 i = 1#1 then tile k0_pay20 k0_pay9 k0_pay10 k0_pay11 xs w
  else tile (fun v => k0_pay26 (k0_pay24 v) (k0_pay25 v)) k0_pay28 k0_pay29 k0_pay12 xs w

/-! ### The steps run -/

include harg2 harg8 in
set_option maxHeartbeats 1000000 in
/-- The step that makes a block: it ends as its four pieces, the rest as it was but for the products kept beside. -/
theorem pieces_run (c : Dev nD) (f0 f1 f2 f3 : Finish F) (xs : Vec F S1024x2048 .bf16) (w : Vec F S2048x1024 .bf16)
    (E : Set ℕ) (K : PUnit → sProp 𝕄) :
    iprop(owns (c : Thread nD τ) arg2 fullShare xs
        ∗ (∃ d, owns (c : Thread nD τ) arg6 fullShare d) ∗ owns (c : Thread nD τ) arg8 fullShare w ∗ (∃ d, owns (c : Thread nD τ) arg9 fullShare d)
        ∗ (iprop(owns (c : Thread nD τ) arg2 fullShare xs
          ∗ owns (c : Thread nD τ) arg6 fullShare (tile f0 f1 f2 f3 xs w) ∗ owns (c : Thread nD τ) arg8 fullShare w
          ∗ (∃ d, owns (c : Thread nD τ) arg9 fullShare d)) -∗ K ⟨⟩)) ⊢
      wp frame (wpE (defs₀ (F := F)) Variants.none c none) E (pieces arg2 arg6 harg6 arg8 arg9 f0 f1 f2 f3) K := by
  unfold pieces
  unfold owns
  iintro ⟨⟨%f2', %hf2, H2⟩, ⟨%d4, %f4, -, H4⟩, ⟨%fs0, %hfs0, HS0⟩, ⟨%ds1, %fs1, -, HS1⟩, Hk⟩
  obtain rfl := harg2.eq_unread hf2; obtain rfl := harg8.eq_unread hfs0
  sl_exec
  sl_step
  iapply Hk
  isplitl [H2]
  · iexists _; isplitr; · ipureintro; exact harg2.read_unread _
    iexact H2
  isplitl [H4]
  · iexists _; isplitr
    swap; · iexact H4
    ipureintro
    rw [View.read_writes_eq_canon]
    swap
    · exact View.cover_of_tiledL _ S1024x256.size (by sl_kernel_rfl)
    unfold pieces_run.sl.v65 pieces_run.sl.v61 pieces_run.sl.v57 pieces_run.sl.v46 pieces_run.sl.HS1_4 pieces_run.sl.HS1_3
    simp (disch := decide) only [View.readCov_cons_toLoadRect, slot_miss, View.readAt_eq_ld, Memref.IsWhole.read_unread, View.ld_unit_lit']
    rfl
  isplitl [HS0]
  · iexists _; isplitr; · ipureintro; exact harg8.read_unread _
    iexact HS0
  iexists _; iexists _; isplitr
  swap; · iexact HS1
  ipureintro; rfl

include harg5 in
/-- The step that rounds the rows of the next weights. -/
theorem next_run (c : Dev nD) (x3 : Vec F S64x2048 .f32) (x5 : Vec F S64x2048 .bf16) (E : Set ℕ) (K : PUnit → sProp 𝕄) :
    iprop(owns (c : Thread nD τ) arg5 fullShare x3 ∗ owns (c : Thread nD τ) arg7 fullShare x5
        ∗ (iprop(owns (c : Thread nD τ) arg5 fullShare x3 ∗ owns (c : Thread nD τ) arg7 fullShare (k0_pay1 x3)) -∗ K ⟨⟩)) ⊢
      wp frame (wpE (defs₀ (F := F)) Variants.none c none) E (roundNext arg5 arg7 harg7) K := by
  unfold roundNext owns
  iintro ⟨⟨%f3, %hf3, H3⟩, ⟨%f5, -, H5⟩, Hk⟩
  obtain rfl := harg5.eq_unread hf3
  sl_exec
  sl_step
  iapply Hk
  isplitl [H3]
  · iexists _; isplitr; · ipureintro; exact harg5.read_unread _
    iexact H3
  iexists _; isplitr
  swap; · iexact H5
  ipureintro
  rw [View.read_writes_eq_canon]
  swap
  · exact View.cover_of_tiledL _ S64x2048.size (by sl_kernel_rfl)
  simp (disch := decide) only [View.readAt_eq_ld, Memref.IsWhole.read_unread, View.ld_unit_lit', View.canon_cons_unit_lit']

include harg3 in
/-- The step that rounds columns of weights. -/
theorem cols_run (f : Vec F S2048x1024 .f32 → FVec F S2048x1024 .bf16) (c : Dev nD) (x1 : Vec F S2048x1024 .f32) (xs : Vec F S2048x1024 .bf16) (E : Set ℕ) (K : PUnit → sProp 𝕄) :
    iprop(owns (c : Thread nD τ) arg3 fullShare x1 ∗ owns (c : Thread nD τ) arg8 fullShare xs
        ∗ (iprop(owns (c : Thread nD τ) arg3 fullShare x1 ∗ owns (c : Thread nD τ) arg8 fullShare (f x1)) -∗ K ⟨⟩)) ⊢
      wp frame (wpE (defs₀ (F := F)) Variants.none c none) E (roundCols arg3 arg8 harg8 f) K := by
  unfold roundCols owns
  iintro ⟨⟨%f0, %hf0, H0⟩, ⟨%f8, -, H8⟩, Hk⟩
  obtain rfl := harg3.eq_unread hf0
  sl_exec
  sl_step
  iapply Hk
  isplitl [H0]
  · iexists _; isplitr; · ipureintro; exact harg3.read_unread _
    iexact H0
  iexists _; isplitr
  swap; · iexact H8
  ipureintro
  rw [View.read_writes_eq_canon]
  swap
  · exact View.cover_of_tiledL _ S2048x1024.size (by sl_kernel_rfl)
  simp (disch := decide) only [View.readAt_eq_ld, Memref.IsWhole.read_unread, View.ld_unit_lit', View.canon_cons_unit_lit']

include harg5 in
/-- The same step under a condition. -/
theorem next_step (c : Dev nD) (q : Prop) [Decidable q] (x3 : Vec F S64x2048 .f32) (x5 : Vec F S64x2048 .bf16) (E : Set ℕ) (K : PUnit → sProp 𝕄) :
    iprop(owns (c : Thread nD τ) arg5 fullShare x3 ∗ owns (c : Thread nD τ) arg7 fullShare x5
        ∗ (iprop(owns (c : Thread nD τ) arg5 fullShare x3 ∗ owns (c : Thread nD τ) arg7 fullShare (if q then k0_pay1 x3 else x5)) -∗ K ⟨⟩)) ⊢
      wp frame (wpE (defs₀ (F := F)) Variants.none c none) E (if q then roundNext arg5 arg7 harg7 else pure ⟨⟩) K := by
  by_cases h : q
  · simp only [if_pos h]; exact next_run arg5 harg5 arg7 harg7 c x3 x5 E K
  · simp only [if_neg h]
    iintro ⟨H3, H5, Hk⟩
    sl_step
    iapply Hk
    isplitl [H3]; · iexact H3
    iexact H5

include harg3 in
/-- The same step under a condition. -/
theorem cols_step (f : Vec F S2048x1024 .f32 → FVec F S2048x1024 .bf16) (c : Dev nD) (q : Prop) [Decidable q] (x1 : Vec F S2048x1024 .f32) (xs : Vec F S2048x1024 .bf16) (E : Set ℕ) (K : PUnit → sProp 𝕄) :
    iprop(owns (c : Thread nD τ) arg3 fullShare x1 ∗ owns (c : Thread nD τ) arg8 fullShare xs
        ∗ (iprop(owns (c : Thread nD τ) arg3 fullShare x1 ∗ owns (c : Thread nD τ) arg8 fullShare (if q then f x1 else xs)) -∗ K ⟨⟩)) ⊢
      wp frame (wpE (defs₀ (F := F)) Variants.none c none) E (if q then roundCols arg3 arg8 harg8 f else pure ⟨⟩) K := by
  by_cases h : q
  · simp only [if_pos h]; exact cols_run arg3 harg3 arg8 harg8 f c x1 xs E K
  · simp only [if_neg h]
    iintro ⟨H0, H8, Hk⟩
    sl_step
    iapply Hk
    isplitl [H0]; · iexact H0
    iexact H8

include harg2 harg8 in
/-- The step that makes the block, whatever its kind, if exactly one kind is asked for. -/
theorem block_run (c : Dev nD) (h5 : k0_cond5 i = 1#1 → ¬ k0_cond4 i = 1#1) (h6 : k0_cond6 i = 1#1 ↔ ¬ k0_cond4 i = 1#1 ∧ ¬ k0_cond5 i = 1#1)
    (xs : Vec F S1024x2048 .bf16) (w : Vec F S2048x1024 .bf16) (E : Set ℕ) (K : PUnit → sProp 𝕄) :
    iprop(owns (c : Thread nD τ) arg2 fullShare xs
        ∗ (∃ d, owns (c : Thread nD τ) arg6 fullShare d) ∗ owns (c : Thread nD τ) arg8 fullShare w ∗ (∃ d, owns (c : Thread nD τ) arg9 fullShare d)
        ∗ (iprop(owns (c : Thread nD τ) arg2 fullShare xs
          ∗ owns (c : Thread nD τ) arg6 fullShare (blockOf i xs w) ∗ owns (c : Thread nD τ) arg8 fullShare w
          ∗ (∃ d, owns (c : Thread nD τ) arg9 fullShare d)) -∗ K ⟨⟩)) ⊢
      wp frame (wpE (defs₀ (F := F)) Variants.none c none) E
        ((if k0_cond4 i = 1#1 then pieces arg2 arg6 harg6 arg8 arg9 k0_pay16 k0_pay5 k0_pay6 k0_pay7 else pure ⟨⟩) >>= fun _ =>
          (if k0_cond5 i = 1#1 then pieces arg2 arg6 harg6 arg8 arg9 k0_pay20 k0_pay9 k0_pay10 k0_pay11 else pure ⟨⟩) >>= fun _ =>
          (if k0_cond6 i = 1#1 then pieces arg2 arg6 harg6 arg8 arg9 (fun v => k0_pay26 (k0_pay24 v) (k0_pay25 v)) k0_pay28 k0_pay29 k0_pay12 else pure ⟨⟩) >>= fun _ =>
          pure ⟨⟩) K := by
  unfold blockOf
  simp only [wp_bind]
  iintro ⟨H0, H4, H8, H9, Hk⟩
  by_cases c4 : k0_cond4 i = 1#1
  · have c5 : ¬ k0_cond5 i = 1#1 := fun h => h5 h c4
    have c6 : ¬ k0_cond6 i = 1#1 := fun h => (h6.mp h).1 c4
    simp only [if_pos c4, if_neg c5, if_neg c6]
    iapply (pieces_run arg2 harg2 arg6 harg6 arg8 harg8 arg9 c _ _ _ _ xs _ E _)
    isplitl [H0]; · iexact H0
    isplitl [H4]; · iexact H4
    isplitl [H8]; · iexact H8
    isplitl [H9]; · iexact H9
    iintro ⟨H0, H4, H8, H9⟩
    sl_step
    sl_step
    sl_step
    iapply Hk
    isplitl [H0]; · iexact H0
    isplitl [H4]; · iexact H4
    isplitl [H8]; · iexact H8
    iexact H9
  · by_cases c5 : k0_cond5 i = 1#1
    · have c6 : ¬ k0_cond6 i = 1#1 := fun h => (h6.mp h).2 c5
      simp only [if_neg c4, if_pos c5, if_neg c6]
      sl_step
      iapply (pieces_run arg2 harg2 arg6 harg6 arg8 harg8 arg9 c _ _ _ _ xs _ E _)
      isplitl [H0]; · iexact H0
      isplitl [H4]; · iexact H4
      isplitl [H8]; · iexact H8
      isplitl [H9]; · iexact H9
      iintro ⟨H0, H4, H8, H9⟩
      sl_step
      sl_step
      iapply Hk
      isplitl [H0]; · iexact H0
      isplitl [H4]; · iexact H4
      isplitl [H8]; · iexact H8
      iexact H9
    · have c6 : k0_cond6 i = 1#1 := h6.mpr ⟨c4, c5⟩
      simp only [if_neg c4, if_neg c5, if_pos c6]
      sl_step
      sl_step
      iapply (pieces_run arg2 harg2 arg6 harg6 arg8 harg8 arg9 c _ _ _ _ xs _ E _)
      isplitl [H0]; · iexact H0
      isplitl [H4]; · iexact H4
      isplitl [H8]; · iexact H8
      isplitl [H9]; · iexact H9
      iintro ⟨H0, H4, H8, H9⟩
      sl_step
      iapply Hk
      isplitl [H0]; · iexact H0
      isplitl [H4]; · iexact H4
      isplitl [H8]; · iexact H8
      iexact H9

/-- THE BODY RUNS, whatever its conditions, if exactly one kind of block is asked for. -/
theorem body_run (c : Dev nD) (h5 : k0_cond5 i = 1#1 → ¬ k0_cond4 i = 1#1) (h6 : k0_cond6 i = 1#1 ↔ ¬ k0_cond4 i = 1#1 ∧ ¬ k0_cond5 i = 1#1)
    (x0 : Vec F S1024x2048 .bf16) (x1 x2 : Vec F S2048x1024 .f32) (x3 : Vec F S64x2048 .f32) (x5 : Vec F S64x2048 .bf16) (w w' : Vec F S2048x1024 .bf16)
    (hs : w' = if qgCond i then k0_pay3 x2 else if kvCond i then k0_pay2 x1 else w) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare x5
        ∗ owns (c : Thread nD τ) arg8 fullShare w ∗ (∃ d, owns (c : Thread nD τ) arg9 fullShare d)
        ∗ (iprop(owns (c : Thread nD τ) arg2 fullShare x0 ∗ owns (c : Thread nD τ) arg3 fullShare x1 ∗ owns (c : Thread nD τ) arg4 fullShare x2
          ∗ owns (c : Thread nD τ) arg5 fullShare x3
          ∗ owns (c : Thread nD τ) arg6 fullShare (blockOf i x0 w')
          ∗ owns (c : Thread nD τ) arg7 fullShare (if k0_cond1 i = 1#1 then k0_pay1 x3 else x5)
          ∗ owns (c : Thread nD τ) arg8 fullShare w' ∗ (∃ d, owns (c : Thread nD τ) arg9 fullShare d)) -∗ K ⟨⟩)) ⊢
      wp frame (wpE (defs₀ (F := F)) Variants.none c none) E (cc0_attn_in i arg2 harg2 arg3 harg3 arg4 harg4 arg5 harg5 arg6 harg6 arg7 harg7 arg8 harg8 arg9 harg9) K := by
  rw [body_eq, wp_bind]
  subst hs
  iintro ⟨H0, H1, H2, H3, H4, H5, H8, H9, Hk⟩
  iapply (next_step arg5 harg5 arg7 harg7 c (k0_cond1 i = 1#1) x3 x5 E _)
  isplitl [H3]; · iexact H3
  isplitl [H5]; · iexact H5
  iintro ⟨H3, H5⟩
  rw [wp_bind]
  iapply (cols_step arg3 harg3 arg8 harg8 k0_pay2 c (kvCond i) x1 w E _)
  isplitl [H1]; · iexact H1
  isplitl [H8]; · iexact H8
  iintro ⟨H1, H8⟩
  rw [wp_bind]
  iapply (cols_step arg4 harg4 arg8 harg8 k0_pay3 c (qgCond i) x2 _ E _)
  isplitl [H2]; · iexact H2
  isplitl [H8]; · iexact H8
  iintro ⟨H2, H8⟩
  iapply (block_run i arg2 harg2 arg6 harg6 arg8 harg8 arg9 c h5 h6 x0 _ E _)
  isplitl [H0]; · iexact H0
  isplitl [H4]; · iexact H4
  isplitl [H8]; · iexact H8
  isplitl [H9]; · iexact H9
  iintro ⟨H0, H4, H8, H9⟩
  iapply Hk
  isplitl [H0]; · iexact H0
  isplitl [H1]; · iexact H1
  isplitl [H2]; · iexact H2
  isplitl [H3]; · iexact H3
  isplitl [H4]; · iexact H4
  isplitl [H5]; · iexact H5
  isplitl [H8]; · iexact H8
  iexact H9
end steps
end Cert.KernelProjIdeal.Own
end
-- ==== Proof.Val.ProjFrame.lean ====
/- THE PROJECTION TO KEYS, VALUES, QUERIES AND GATES: what every buffer holds after each grid point, the body's triple at a point, and the run. -/
module
public import proofs.«01_k».proof.Proof.Val.ProjRun
public import Idealize.ShloMosaic.Lib.Pipeline.TableIdle
@[expose] public section
set_option maxRecDepth 16384
noncomputable section
namespace Cert.KernelProjIdeal.Own
open Idealize.ShloMosaic Idealize.ShloMosaic.TcCoe Idealize.ShloMosaic.Tactic
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Cert.KernelProjIdeal Cert.KernelProjIdeal.Gen

variable {F : FTy → Type} [FloatOps F] [Named F]
local notation "𝕄" => MT nD τ sig Unit (Elt F) ℕ (UR sig nD τ) ℕ

/-! ### The schedule: which points meet which condition -/

/-- The next weights are rounded at the first 32 points, -/
theorem cond_next : ∀ t : Fin cfg0.N, k0_cond1 (grid0.coords t) = 1#1 ↔ t.val < 32 :=
  (by decide +kernel : ∀ t : Fin grid0.N, k0_cond1 (grid0.coords t) = 1#1 ↔ t.val < 32)
/-- either weights at the first point of a column of blocks, by the columns; -/
theorem cond_kv : ∀ t : Fin cfg0.N, kvCond (grid0.coords t) ↔ t.val % 8 = 0 ∧ t.val < 32 :=
  (by decide +kernel : ∀ t : Fin grid0.N, kvCond (grid0.coords t) ↔ t.val % 8 = 0 ∧ t.val < 32)
theorem cond_qg : ∀ t : Fin cfg0.N, qgCond (grid0.coords t) ↔ t.val % 8 = 0 ∧ ¬ t.val < 32 :=
  (by decide +kernel : ∀ t : Fin grid0.N, qgCond (grid0.coords t) ↔ t.val % 8 = 0 ∧ ¬ t.val < 32)
/-- the first four columns of blocks are keys and values, -/
theorem cond_plain : ∀ t : Fin cfg0.N, k0_cond4 (grid0.coords t) = 1#1 ↔ t.val < 32 :=
  (by decide +kernel : ∀ t : Fin grid0.N, k0_cond4 (grid0.coords t) = 1#1 ↔ t.val < 32)
/-- the next two queries, -/
theorem cond_scaled : ∀ t : Fin cfg0.N, k0_cond5 (grid0.coords t) = 1#1 ↔ ¬ t.val < 32 ∧ t.val < 48 :=
  (by decide +kernel : ∀ t : Fin grid0.N, k0_cond5 (grid0.coords t) = 1#1 ↔ ¬ t.val < 32 ∧ t.val < 48)
/-- the last two gates. -/
theorem cond_gates : ∀ t : Fin cfg0.N, k0_cond6 (grid0.coords t) = 1#1 ↔ ¬ t.val < 48 :=
  (by decide +kernel : ∀ t : Fin grid0.N, k0_cond6 (grid0.coords t) = 1#1 ↔ ¬ t.val < 48)
/-- So exactly one kind is asked for. -/
theorem cond_one (t : Fin cfg0.N) : k0_cond5 (grid0.coords t) = 1#1 → ¬ k0_cond4 (grid0.coords t) = 1#1 := by
  rw [cond_scaled, cond_plain]; exact And.left
theorem cond_rest (t : Fin cfg0.N) : k0_cond6 (grid0.coords t) = 1#1 ↔ ¬ k0_cond4 (grid0.coords t) = 1#1 ∧ ¬ k0_cond5 (grid0.coords t) = 1#1 := by
  rw [cond_gates, cond_scaled, cond_plain]; omega

/-- The projections' window is stored at every point, -/
theorem live_act : ∀ t : Fin cfg0.N, cfg0.idle 4 (grid0.coords t) = false :=
  (by decide +kernel : ∀ t : Fin grid0.N, cfg0.idle 4 (grid0.coords t) = false)
/-- the weights' window at the first 32, -/
theorem idle_next : ∀ t : Fin cfg0.N, cfg0.idle 5 (grid0.coords t) = decide (32 ≤ t.val) :=
  (by decide +kernel : ∀ t : Fin grid0.N, cfg0.idle 5 (grid0.coords t) = decide (32 ≤ t.val))
/-- and it is written back at the first 31 and at the last. -/
theorem flush_next : ∀ t : Fin cfg0.N, (cfg0.win 5).flush t = decide (t.val < 31 ∨ t.val = 63) := fun t => by
  rw [Pipeline.Window.flush_eq_flushF]
  exact (by decide +kernel : ∀ t : Fin grid0.N, (cfg0.win 5).flushF t = decide (t.val < 31 ∨ t.val = 63)) t
/-- What was stored at point 31 is still there at the last point. -/
theorem fresh_last : cfg0.fresh 5 63 = false := by
  rw [Pipeline.Cfg.fresh_tab cfg0 5 (fun n => decide (n ≤ 31 ∨ n = 64)) rfl
    (fun t => by
      rw [flush_next, idle_next]
      have : t.val < 64 := lt_of_lt_of_eq t.isLt (show cfg0.N = 64 from N_0)
      by_cases h : t.val < 31 <;> by_cases h' : t.val = 63 <;> simp [h, h'] <;> omega) 63 (by decide)]
  rfl
/-- The weights are fetched at the first point of a column of blocks only, -/
theorem fetch_kv : ∀ t : Fin cfg0.N, t.val % 8 ≠ 0 → (cfg0.win 1).fetch t = false := fun t => by
  rw [Pipeline.Window.fetch_eq_fetchF]
  exact (by decide +kernel : ∀ t : Fin grid0.N, t.val % 8 ≠ 0 → (cfg0.win 1).fetchF t = false) t
theorem fetch_qg : ∀ t : Fin cfg0.N, t.val % 8 ≠ 0 → (cfg0.win 2).fetch t = false := fun t => by
  rw [Pipeline.Window.fetch_eq_fetchF]
  exact (by decide +kernel : ∀ t : Fin grid0.N, t.val % 8 ≠ 0 → (cfg0.win 2).fetchF t = false) t
/-- the next weights at the first 32 points only. -/
theorem fetch_next : ∀ t : Fin cfg0.N, 32 ≤ t.val → (cfg0.win 3).fetch t = false := fun t => by
  rw [Pipeline.Window.fetch_eq_fetchF]
  exact (by decide +kernel : ∀ t : Fin grid0.N, 32 ≤ t.val → (cfg0.win 3).fetchF t = false) t

/-! ### What the buffers hold -/

variable (m : (ℓ : Loc nD τ sig) → Buf (Elt F) ℓ) (ρ : Dev nD → PrngReg)

/-- The rounded weights at a point, -/
def wAt (c : Dev nD) (t : Fin cfg0.N) : Vec F S2048x1024 .bf16 := if t.val < 32 then k0_pay2 (iblk m c 1 t) else k0_pay3 (iblk m c 2 t)
/-- the block it leaves, -/
def actAt (c : Dev nD) (t : Fin cfg0.N) : Vec F S1024x1024 .bf16 := blockOf (grid0.coords t) (iblk m c 0 t) (wAt m c t)
/-- and the block of rounded next weights. -/
def nextAt (c : Dev nD) (t : Fin cfg0.N) : Vec F S64x2048 .bf16 := k0_pay1 (iblk m c 3 t)

/-- The weights' scratch and the products'. -/
abbrev wRef : Memref sig .tc .vmem S2048x1024 .bf16 := Memref.whole cc0_scratch0
abbrev prodRef : Memref sig .tc .vmem S3x1024x256 .f32 := Memref.whole cc0_scratch1

/-- What the launch hands over, buffer by buffer. -/
theorem start_eq (c : Dev nD) :
    (Pipeline.ΦA spec0 c : sProp 𝕄) = iprop(iprop((∃ d, owns (c : Thread nD τ) wRef fullShare d) ∗ (∃ d, owns (c : Thread nD τ) prodRef fullShare d)) ∗ (∃ r, prngReg c r)) := by
  unfold Pipeline.ΦA; rw [scopedRest0_eq]; simp only [wRef, prodRef, owns_whole]; try rfl

/-- Between points: after any point, the weights' scratch holds that point's rounded weights. -/
def carried (c : Dev nD) : (n : ℕ) → n ≤ cfg0.N → sProp 𝕄
  | 0, _ => Pipeline.ΦA spec0 c
  | n + 1, hn => iprop(iprop(owns (c : Thread nD τ) wRef fullShare (wAt m c ⟨n, hn⟩) ∗ (∃ d, owns (c : Thread nD τ) prodRef fullShare d)) ∗ (∃ r, prngReg c r))

/-- The pipeline's data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => actAt m c t
    | ⟨5, _⟩ => nextAt m c t
  Φ t := carried m c t.val (Nat.le_of_lt_succ t.isLt)
  q _ := fullShare
  owed _ := 0

theorem A_eq (c : Dev nD) (w : Fin cfg0.W) : (dats m 0 c).A w = V m c (Pipeline.arrRef spec0 w) := by dsimp only [dats]
theorem carried_start (c : Dev nD) (t : Fin cfg0.N) : (dats m 0 c).Φ t.castSucc = carried m c t.val (Nat.le_of_lt t.isLt) := by
  dsimp only [dats]; exact Pipeline.Dat.Φ_castSucc (carried m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = actAt m c t := by dsimp only [dats]
theorem after_5 (c : Dev nD) (t : Fin cfg0.N) : (dats m 0 c).after 5 t = nextAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-- Where the weights are not fetched, they are the point before's. -/
theorem wAt_pred (c : Dev nD) (t : Fin cfg0.N) (h : t.val % 8 ≠ 0) :
    wAt m c t = wAt m c ⟨t.val - 1, Nat.lt_of_le_of_lt (Nat.sub_le _ _) t.isLt⟩ := by
  obtain ⟨_, e1⟩ := Pipeline.Window.index_eq_of_fetch (cfg0.win 1) rfl t (fetch_kv t h)
  obtain ⟨_, e2⟩ := Pipeline.Window.index_eq_of_fetch (cfg0.win 2) rfl t (fetch_qg t h)
  have h1 := (dats m 0 c).fetched_congr 1 e1 rfl (iblk m c 1 t)
  have h2 := (dats m 0 c).fetched_congr 2 e2 rfl (iblk m c 2 t)
  unfold Dat.fetched Dat.blockOf at h1 h2
  rw [A_eq] at h1 h2
  unfold wAt
  by_cases hl : t.val < 32
  · rw [if_pos hl, if_pos (show t.val - 1 < 32 by omega)]; exact congrArg k0_pay2 h1
  · rw [if_neg hl, if_neg (show ¬ t.val - 1 < 32 by omega)]; exact congrArg k0_pay3 h2

/-- Likewise the next weights, -/
theorem nextAt_pred (c : Dev nD) (t : Fin cfg0.N) (h : 32 ≤ t.val) :
    nextAt m c t = nextAt m c ⟨t.val - 1, Nat.lt_of_le_of_lt (Nat.sub_le _ _) t.isLt⟩ := by
  obtain ⟨_, e⟩ := Pipeline.Window.index_eq_of_fetch (cfg0.win 3) rfl t (fetch_next t h)
  have d : Vec F S64x2048 .f32 := iblk m c 3 t
  have := (dats m 0 c).fetched_congr 3 e rfl d
  unfold Dat.fetched Dat.blockOf at this
  rw [A_eq] at this
  exact congrArg k0_pay1 this

/-- so that the last point finds in the weights' buffer what it would itself have left there. -/
theorem before_last (c : Dev nD) (t : Fin cfg0.N) (ht : t.val = 63) (d) : (dats m 0 c).before 5 t d = nextAt m c t := by
  rw [(dats m 0 c).before_out_traj 5 rfl (fun _ _ => rfl)
    (fun t h0 hi hf => by
      rw [idle_next] at hi
      rw [after_5, after_5]; exact nextAt_pred m c t (of_decide_eq_true hi)) 63 t ht d,
    if_neg (by rw [ht, fresh_last]; exact Bool.false_ne_true), after_5]
  exact (nextAt_pred m c t (by omega)).symm

/-! ### The body at a point -/

/-- The windows' buffers at a point. -/
abbrev st_0 (t : Fin cfg0.N) : Memref sig .tc .vmem S1024x2048 .bf16 := win0_0.stage (cfg0.slots t 0)
abbrev st_1 (t : Fin cfg0.N) : Memref sig .tc .vmem S2048x1024 .f32 := win0_1.stage (cfg0.slots t 1)
abbrev st_2 (t : Fin cfg0.N) : Memref sig .tc .vmem S2048x1024 .f32 := win0_2.stage (cfg0.slots t 2)
abbrev st_3 (t : Fin cfg0.N) : Memref sig .tc .vmem S64x2048 .f32 := win0_3.stage (cfg0.slots t 3)
abbrev st_4 (t : Fin cfg0.N) : Memref sig .tc .vmem S1024x1024 .bf16 := win0_4.stage (cfg0.slots t 4)
abbrev st_5 (t : Fin cfg0.N) : Memref sig .tc .vmem S64x2048 .bf16 := win0_5.stage (cfg0.slots t 5)

/-- What the point is entered with, -/
def entered (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d))
    ∗ (∃ d, owns (c : Thread nD τ) (st_4 t) fullShare ((dats m 0 c).before 4 t d))
    ∗ (∃ d, owns (c : Thread nD τ) (st_5 t) fullShare ((dats m 0 c).before 5 t d)))

/-- and what it is left with. -/
def left (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- A window stored at the point, or an input, is left at what the data says. -/
theorem leaves_of_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The weights' buffer, as the body leaves it, is what the pipeline asks for at every point. -/
theorem leaves_next (c : Dev nD) (t : Fin cfg0.N) (d) :
    owns (c : Thread nD τ) (st_5 t) fullShare (if k0_cond1 (grid0.coords t) = 1#1 then k0_pay1 (iblk m c 3 t) else (dats m 0 c).before 5 t d)
      ⊢ (dats m 0 c).leavesExact 5 t := by
  by_cases h : t.val < 32
  · rw [if_pos ((cond_next t).mpr h), leaves_of_live m c 5 t (by rw [idle_next]; simp; omega), after_5]
    rfl
  · rw [if_neg (fun e => h ((cond_next t).mp e))]
    have hi : cfg0.idle 5 (grid0.coords t) = true := by rw [idle_next]; simp; omega
    by_cases hl : t.val = 63
    · rw [before_last m c t hl d]
      unfold Dat.leavesExact
      rw [hi, show (cfg0.win 5).flush t = true from by rw [flush_next]; simp [hl]]
      rw [after_5]
    · rw [(dats m 0 c).leavesExact_idle 5 t hi (by rw [flush_next]; simp [hl]; omega)]
      iintro H
      iexists d; iexact H

/-- The weights a point works with, from the ones before it. -/
theorem wAt_step (c : Dev nD) (t : Fin cfg0.N) (w : Vec F S2048x1024 .bf16) (hw : t.val % 8 ≠ 0 → w = wAt m c t) :
    wAt m c t = if qgCond (grid0.coords t) then k0_pay3 (iblk m c 2 t) else if kvCond (grid0.coords t) then k0_pay2 (iblk m c 1 t) else w := by
  by_cases h : t.val % 8 = 0
  · by_cases hl : t.val < 32
    · rw [if_neg (fun e => ((cond_qg t).mp e).2 hl), if_pos ((cond_kv t).mpr ⟨h, hl⟩)]; unfold wAt; rw [if_pos hl]
    · rw [if_pos ((cond_qg t).mpr ⟨h, hl⟩)]; unfold wAt; rw [if_neg hl]
  · rw [if_neg (fun e => h ((cond_qg t).mp e).1), if_neg (fun e => h ((cond_kv t).mp e).1), hw h]

/-- The weights' scratch before the point, whatever the point. -/
theorem carried_w (c : Dev nD) (t : Fin cfg0.N) (n : ℕ) (hN : n ≤ cfg0.N) (hn : t.val = n) :
    carried m c n hN ⊢ iprop(iprop((∃ w, ⌜t.val % 8 ≠ 0 → w = wAt m c t⌝ ∗ owns (c : Thread nD τ) wRef fullShare w)
      ∗ (∃ d, owns (c : Thread nD τ) prodRef fullShare d)) ∗ (∃ r, prngReg c r)) := by
  rcases n with _ | n
  · simp only [carried]
    rw [start_eq]
    iintro ⟨⟨⟨%w, HS0⟩, HS1⟩, Hg⟩
    isplitl [HS0 HS1]
    · isplitl [HS0]
      · iexists w
        isplitr
        · ipureintro; intro h; exact absurd (by rw [hn]) h
        iexact HS0
      iexact HS1
    iexact Hg
  · simp only [carried]
    iintro ⟨⟨HS0, HS1⟩, Hg⟩
    isplitl [HS0 HS1]
    · isplitl [HS0]
      · iexists _
        isplitr
        swap
        · iexact HS0
        · ipureintro
          intro h
          rw [wAt_pred m c t h]
          congr 1; exact Fin.ext (by simp [hn])
      iexact HS1
    iexact Hg

set_option maxHeartbeats 1600000 in
/-- The body at any point. -/
theorem point (c : Dev nD) (t : Fin cfg0.N) :
    entered m c t ⊢ wp frame (wpE (defs₀ (F := F)) Variants.none c none) Set.univ (bodyAt0 t) (fun _ => left m c t) := by
  unfold entered left bodyAt0
  simp only [before_0, before_1, before_2, before_3]
  rw [show (dats m 0 c).owesAt () t.succ = (dats m 0 c).owesAt () t.castSucc from rfl]
  rw [show (dats m 0 c).Φ t.succ = iprop(iprop(owns (c : Thread nD τ) wRef fullShare (wAt m c t) ∗ (∃ d, owns (c : Thread nD τ) prodRef fullShare d)) ∗ (∃ r, prngReg c r)) from rfl]
  rw [leaves_of_live m c 0 t rfl, leaves_of_live m c 1 t rfl, leaves_of_live m c 2 t rfl, leaves_of_live m c 3 t rfl,
    leaves_of_live m c 4 t (live_act t), after_0, after_1, after_2, after_3, after_4]
  rw [carried_start]
  refine (Idealize.SL.BI.Laws.sep_mono (carried_w m c t t.val _ rfl) (Idealize.SL.BI.Entails.refl _)).trans ?_
  iintro ⟨⟨⟨⟨%xs, %hxs, HS0⟩, HS1⟩, Hg⟩, Ho, ⟨%d0, H0⟩, ⟨%d1, H1⟩, ⟨%d2, H2⟩, ⟨%d3, H3⟩, ⟨%d4, H4⟩, ⟨%d5, H5⟩⟩
  iapply (body_run (grid0.coords t) _ _ _ _ _ _ _ _ _ _ _ _ _ _ _ _ c (cond_one t) (cond_rest t) (iblk m c 0 t) (iblk m c 1 t) (iblk m c 2 t) (iblk m c 3 t) ((dats m 0 c).before 5 t d5) xs (wAt m c t) (wAt_step m c t xs hxs) Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iapply (leaves_next m c t d5)
  iexact H5

/-! ### The run -/

/-- The body's triple, as the pipeline asks for it. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (point m c t) rfl .rfl fun _ => .rfl

theorem into (c : Dev nD) : Pipeline.ΦA spec0 c ⊢ (dats m 0 c).Φ 0 := by
  rw [show (dats m 0 c).Φ 0 = Pipeline.ΦA spec0 c from rfl]

theorem out (c : Dev nD) : (dats m 0 c).Φ (Fin.last cfg0.N) ⊢ Pipeline.ΦA spec0 c := by
  rw [show (dats m 0 c).Φ (Fin.last cfg0.N) = carried m c (63 + 1) (Nat.le_refl _) from rfl, start_eq]
  simp only [carried]
  iintro ⟨⟨HS0, HS1⟩, Hg⟩
  isplitl [HS0 HS1]
  · isplitl [HS0]
    · iexists _; iexact HS0
    iexact HS1
  iexact Hg

set_option backward.isDefEq.respectTransparency.types false in
/-- The whole run, with every semaphore at zero at its end. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := into m) (hout := out m)

theorem run_post : θ_run defs (onTc (τ := τ) (main (F := F))) (s₀ m ρ) (Pipeline.FramePost cfgs (dats m) 0 (V m)) :=
  (θ_run defs _ _).mono (fun _ h => h.1) (run_quiet m ρ)

/-- The frame: the run ends, the arguments are as launched, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run_quiet m ρ))

/-- The run, with the results and the arguments after it named. -/
theorem run_named : θ_run defs (onTc (τ := τ) (main (F := F))) ⟨m, fun _ => 0, ρ⟩ fun r => ∀ c : Dev nD,
      r.2.mem ((c : Thread nD τ).loc main_v4_0) = (dats m 0 c).arrAt 4 cfg0.N
      ∧ r.2.mem ((c : Thread nD τ).loc main_v4_1) = (dats m 0 c).arrAt 5 cfg0.N :=
  (θ_run defs _ _).mono (fun r h c => ⟨(h c).1 4, (h c).1 5⟩) (run_post m ρ)

end Cert.KernelProjIdeal.Own
end
-- ==== Proof.Val.ProjBits.lean ====
/- THE PROJECTION TO KEYS, VALUES, QUERIES AND GATES WITHOUT ITS NAMED CONSTANT: the same run, each name standing for its own bits. -/
module
public import proofs.«01_k».proof.Proof.Gen.KernelProj.Frame
public import proofs.«01_k».proof.Proof.Val.ProjFrame
@[expose] public section
set_option maxRecDepth 16384
noncomputable section
namespace Cert.KernelProj.Own
open Idealize.ShloMosaic Idealize.ShloMosaic.TcCoe
open Cert.KernelProj

variable {F : FTy → Type} [FloatOps F]
variable (m : (ℓ : Loc nD τ sig) → Buf (Elt F) ℓ) (ρ : Dev nD → PrngReg)

/-- Over these numbers a named constant is what its bits say. -/
abbrev plainNames : Named F := ⟨fun _ _ {φ} b => FloatOps.ofBits φ b⟩

/-- So the bodies of the two programs are one table, -/
theorem bodies_eq : @KernelProjIdeal.defs₀ F _ plainNames _ = @KernelProj.defs₀ F _ _ := by
  unfold KernelProjIdeal.defs₀ KernelProj.defs₀
  refine congrArg (Defs.onTc (nD := nD) (τ := τ) (sig := sig) (Val := Elt F) (Λ := Λ₀)) (funext fun ℓ => funext fun a => ?_)
  match ℓ, a with
  | 0, (t, s) => rfl
/-- and so are their definitions. -/
theorem defs_eq : @KernelProjIdeal.defs F _ plainNames _ = @KernelProj.defs F _ _ := congrArg (Pipeline.defs pcfgs) bodies_eq

/-- The frame, from the run of the program with the named constant. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  defs_eq (F := F) ▸ @Cert.KernelProjIdeal.Own.frame F _ plainNames m ρ
end Cert.KernelProj.Own
end
-- ==== Proof.Val.ProjTile.lean ====
/- ONE BLOCK OF THE PROJECTION TO KEYS, VALUES, QUERIES AND GATES OVER THE EXTENDED REALS, ENTRY BY ENTRY. -/
module
public import proofs.«01_k».proof.Proof.Val.ProjFrame
public import proofs.«01_k».proof.Proof.Val.Act
public import Idealize.ShloMosaic.Lib.Pointwise
@[expose] public section
set_option maxRecDepth 16384
noncomputable section
namespace Cert.KernelProjIdeal.Own
open Idealize.ShloMosaic Idealize.ShloMosaic.TcCoe Idealize.ShloMosaic.Tactic
open Cert.KernelProjIdeal Cert.KernelProjIdeal.Gen Cert.Act

variable (xs : FVec Ideal S1024x2048 .bf16) (w : FVec Ideal S2048x1024 .bf16)

/-- A projected entry, before it is finished. -/
def dot (r j : Fin 1024) : EReal := ∑ k : Fin 2048, xs (ix2 r k) * w (ix2 k j)

/-- What the queries are scaled by: the named constant. -/
abbrev qScale : EReal := ((11863283 / 134217728 * (Real.log 2)⁻¹ : ℝ) : EReal)

/-- A product's entry. -/
theorem product_apply (w' : FVec Ideal S2048x256 .bf16) (r : Fin 1024) (q : Fin 256) :
    k0_pay13 (F := Ideal) xs w' (ix3 0 r q) = ∑ k : Fin 2048, xs (ix2 r k) * w' (ix2 k q) := by
  pointwise [k0_pay13]

/-- What is stored of a product: itself for keys and values, -/
theorem plain_apply (p : FVec Ideal S1x1024x256 .f32) (r : Fin 1024) (q : Fin 256) :
    k0_pay16 (F := Ideal) p (ix2 r q) = p (ix3 0 r q) := by
  pointwise [k0_pay16]
/-- scaled for queries, -/
theorem scaled_apply (p : FVec Ideal S1x1024x256 .f32) (r : Fin 1024) (q : Fin 256) :
    k0_pay20 (F := Ideal) p (ix2 r q) = p (ix3 0 r q) * qScale := by
  pointwise [k0_pay20]
  rfl
/-- under its activation for gates. -/
theorem gate_apply (p : FVec Ideal S1x1024x256 .f32) (r : Fin 1024) (q : Fin 256) :
    k0_pay28 (F := Ideal) p (ix2 r q) = silu (p (ix3 0 r q)) := by
  rw [← silu_eq]
  unfold siluKernel
  pointwise [k0_pay28]

/-- A piece's entry is the block's, at the piece's columns. -/
theorem dot_piece (o : ℕ) (hw : ∀ a, (![0, o] : Fin 2 → ℕ) a + S2048x256.size a ≤ S2048x1024.size a) (r j : Fin 1024) (q : Fin 256)
    (hj : j.val = o + q.val) : k0_pay13 (F := Ideal) xs (wcols w o hw) (ix3 0 r q) = dot xs w r j := by
  rw [product_apply]
  unfold dot wcols
  refine Finset.sum_congr rfl fun k _ => congrArg (xs (ix2 r k) * ·) ?_
  refine View.ld_unit_apply_of _ _ _ _ _ _ fun a => ?_
  fin_cases a
  · show k.val = 0 + k.val; omega
  · exact hj

/-- A block whose pieces are all finished by `g`. -/
theorem tile_apply (g : EReal → EReal) (f0 f1 f2 f3 : Finish Ideal)
    (e0 : ∀ p r q, f0 p (ix2 r q) = g (p (ix3 0 r q))) (e1 : ∀ p r q, f1 p (ix2 r q) = g (p (ix3 0 r q)))
    (e2 : ∀ p r q, f2 p (ix2 r q) = g (p (ix3 0 r q))) (e3 : ∀ p r q, f3 p (ix2 r q) = g (p (ix3 0 r q))) (y : S1024x1024.Idx) :
    tile (F := Ideal) f0 f1 f2 f3 xs w y = g (dot xs w (y 0) (y 1)) := by
  unfold tile
  canon_tiles x h
  all_goals
    refine (congrArg _ (show x = ix2 (x 0) (x 1) from funext fun d => by fin_cases d <;> rfl)).trans
      (Eq.trans (by first | exact e0 _ (x 0) (x 1) | exact e1 _ (x 0) (x 1) | exact e2 _ (x 0) (x 1) | exact e3 _ (x 0) (x 1)) (congrArg g ?_))
    rw [show y 0 = x 0 from Fin.ext h0]
    exact dot_piece xs w _ _ (x 0) (y 1) (x 1) (by omega)

/-- The three kinds of block. -/
theorem plain_block (y : S1024x1024.Idx) : tile (F := Ideal) k0_pay16 k0_pay5 k0_pay6 k0_pay7 xs w y = dot xs w (y 0) (y 1) :=
  tile_apply xs w id k0_pay16 k0_pay5 k0_pay6 k0_pay7 plain_apply plain_apply plain_apply plain_apply y
theorem scaled_block (y : S1024x1024.Idx) : tile (F := Ideal) k0_pay20 k0_pay9 k0_pay10 k0_pay11 xs w y = dot xs w (y 0) (y 1) * qScale :=
  tile_apply xs w (· * qScale) k0_pay20 k0_pay9 k0_pay10 k0_pay11 scaled_apply scaled_apply scaled_apply scaled_apply y
theorem gate_block (y : S1024x1024.Idx) :
    tile (F := Ideal) (fun v => k0_pay26 (k0_pay24 v) (k0_pay25 v)) k0_pay28 k0_pay29 k0_pay12 xs w y = silu (dot xs w (y 0) (y 1)) :=
  tile_apply xs w silu (fun v => k0_pay26 (k0_pay24 v) (k0_pay25 v)) k0_pay28 k0_pay29 k0_pay12 gate_apply gate_apply gate_apply gate_apply y
end Cert.KernelProjIdeal.Own
-- ==== Proof.Val.ProjBlocks.lean ====
/- THE PROJECTION TO KEYS, VALUES, QUERIES AND GATES: the blocks each point reads, and the two arrays the points leave. -/
module
public import proofs.«01_k».proof.Proof.Val.ProjTile
public import Idealize.ShloMosaic.Lib.StableHlo.ReadAt
public import Idealize.ShloMosaic.Lib.Pipeline.ValueKit.Geometry
@[expose] public section
set_option maxRecDepth 16384
noncomputable section
namespace Cert.KernelProjIdeal.Own
open Idealize.ShloMosaic Idealize.ShloMosaic.TcCoe Idealize.ShloMosaic.Tactic Idealize.ShloMosaic.Pipeline
open Cert.KernelProjIdeal Cert.KernelProjIdeal.Gen Cert.Act

variable (m : (ℓ : Loc nD τ sig) → Buf (Elt Ideal) ℓ) (c : Dev nD)

/-- The arguments: the rows, the weights of keys and values, those of queries and gates, and the weights that the call rounds for later. -/
def rows : Vec Ideal S2x4096x2048 .f32 := m ((c : Thread nD τ).loc main_arg0)
def kv : Vec Ideal S2048x4096 .f32 := m ((c : Thread nD τ).loc main_arg1)
def qg : Vec Ideal S1x2048x4096 .f32 := m ((c : Thread nD τ).loc main_arg2)
def later : Vec Ideal S1x2048x2048 .f32 := m ((c : Thread nD τ).loc main_arg3)

/-! ### What the region finds in its arrays -/

/-- A row of the whole is a batch and a position. -/
abbrev rowAt (b : Fin 2) (s : Fin 4096) : Fin 8192 := ⟨4096 * b.val + s.val, by omega⟩

/-- A row of the whole, taken apart again. -/
theorem split_row {n : ℕ} (b : Fin 2) (s : Fin 4096) (k : Fin n) (h₀ : (4096 * b.val + s.val) / 4096 < 2)
    (h₁ : (4096 * b.val + s.val) % 4096 < 4096) :
    (ix3 ⟨(4096 * b.val + s.val) / 4096, h₀⟩ ⟨(4096 * b.val + s.val) % 4096, h₁⟩ k : (⟨3, ![2, 4096, n]⟩ : Shape).Idx) = ix3 b s k := by
  congr 1
  · apply Fin.ext; show (4096 * b.val + s.val) / 4096 = b.val; omega
  · apply Fin.ext; show (4096 * b.val + s.val) % 4096 = s.val; omega

theorem host_rows (b : Fin 2) (s : Fin 4096) (k : Fin 2048) :
    (V m c main_v1 : Vec Ideal S8192x2048 .bf16) (ix2 (rowAt b s) k) = rows m c (ix3 b s k) := by
  unfold rows V
  simp only [hostOps0]
  after_reads_at
  rw [split_row]

theorem host_qg (k : Fin 2048) (j : Fin 4096) : (V m c main_v2 : Vec Ideal S2048x4096 .f32) (ix2 k j) = qg m c (ix3 0 k j) := by
  unfold qg V
  simp only [hostOps0]
  after_reads_at

theorem host_later (r j : Fin 2048) : (V m c main_v3 : Vec Ideal S2048x2048 .f32) (ix2 r j) = later m c (ix3 0 r j) := by
  unfold later V
  simp only [hostOps0]
  after_reads_at

/-! ### The blocks of a point -/

theorem index0 : ∀ t : Fin cfg0.N, win0_0.index t = ![t.val % 8, 0] := (by decide +kernel : ∀ t : Fin grid0.N, _)
theorem index1 : ∀ t : Fin cfg0.N, win0_1.index t = ![0, min (t.val / 8) 3] := (by decide +kernel : ∀ t : Fin grid0.N, _)
theorem index2 : ∀ t : Fin cfg0.N, win0_2.index t = ![0, t.val / 8 - 4] := (by decide +kernel : ∀ t : Fin grid0.N, _)
theorem index3 : ∀ t : Fin cfg0.N, win0_3.index t = ![min t.val 31, 0] := (by decide +kernel : ∀ t : Fin grid0.N, _)
theorem index4 : ∀ t : Fin cfg0.N, win0_4.index t = ![t.val % 8, t.val / 8] := (by decide +kernel : ∀ t : Fin grid0.N, _)
theorem index5 : ∀ t : Fin cfg0.N, win0_5.index t = ![min t.val 31, 0] := (by decide +kernel : ∀ t : Fin grid0.N, _)

theorem points (t : Fin cfg0.N) : t.val < 64 := t.isLt

/-- A point's batch, the position of its row `r`, its column `j`, and the row `r` of the later weights. -/
def batchOf (t : Fin cfg0.N) : Fin 2 := ⟨t.val % 8 / 4, by omega⟩
def posOf (t : Fin cfg0.N) (r : Fin 1024) : Fin 4096 := ⟨1024 * (t.val % 4) + r.val, by omega⟩
def colOf (t : Fin cfg0.N) (j : Fin 1024) : Fin 8192 := ⟨1024 * (t.val / 8) + j.val, by have := points t; omega⟩
def laterOf (t : Fin cfg0.N) (r : Fin 64) : Fin 2048 := ⟨64 * min t.val 31 + r.val, by omega⟩

theorem block_rows (t : Fin cfg0.N) (r : Fin 1024) (k : Fin 2048) :
    iblk m c 0 t (ix2 r k) = rows m c (ix3 (batchOf t) (posOf t r) k) := by
  rw [← host_rows]
  blk_simp [iblk]
  refine congrArg (V m c main_v1) (funext fun d => Fin.ext ?_)
  fin_cases d
  · blk_simp [index0]
    show t.val % 8 * 1024 + r.val = 4096 * (t.val % 8 / 4) + (1024 * (t.val % 4) + r.val)
    omega
  · blk_simp [index0]; rfl

/-- The columns of keys and values, -/
theorem block_kv (t : Fin cfg0.N) (h : t.val < 32) (k : Fin 2048) (j : Fin 1024) (hj : (colOf t j).val < 4096) :
    iblk m c 1 t (ix2 k j) = kv m c (ix2 k ⟨(colOf t j).val, hj⟩) := by
  unfold kv
  rw [← V_main_arg1 m c]
  blk_simp [iblk]
  refine congrArg (V m c main_arg1) (funext fun d => Fin.ext ?_)
  fin_cases d
  · blk_simp [index1]; rfl
  · blk_simp [index1]
    show min (t.val / 8) 3 * 1024 + j.val = 1024 * (t.val / 8) + j.val
    omega

/-- and those of queries and gates. -/
theorem block_qg (t : Fin cfg0.N) (h : ¬ t.val < 32) (k : Fin 2048) (j : Fin 1024) (hj : (colOf t j).val - 4096 < 4096) :
    iblk m c 2 t (ix2 k j) = qg m c (ix3 0 k ⟨(colOf t j).val - 4096, hj⟩) := by
  rw [← host_qg]
  blk_simp [iblk]
  refine congrArg (V m c main_v2) (funext fun d => Fin.ext ?_)
  fin_cases d
  · blk_simp [index2]; rfl
  · blk_simp [index2]
    show (t.val / 8 - 4) * 1024 + j.val = 1024 * (t.val / 8) + j.val - 4096
    omega

theorem block_later (t : Fin cfg0.N) (r : Fin 64) (j : Fin 2048) :
    iblk m c 3 t (ix2 r j) = later m c (ix3 0 (laterOf t r) j) := by
  rw [← host_later]
  blk_simp [iblk]
  refine congrArg (V m c main_v3) (funext fun d => Fin.ext ?_)
  fin_cases d
  · blk_simp [index3]
    show min t.val 31 * 64 + r.val = 64 * min t.val 31 + r.val
    omega
  · blk_simp [index3]; rfl

/-! ### The arrays -/

/-- An entry before it is finished, in the columns of either weights. -/
def entryKv (x : Vec Ideal S2x4096x2048 .f32) (w : Vec Ideal S2048x4096 .f32) (i : Fin 2) (s j : Fin 4096) : EReal :=
  ∑ k : Fin 2048, x (ix3 i s k) * w (ix2 k j)
def entryQg (x : Vec Ideal S2x4096x2048 .f32) (w : Vec Ideal S1x2048x4096 .f32) (i : Fin 2) (s j : Fin 4096) : EReal :=
  ∑ k : Fin 2048, x (ix3 i s k) * w (ix3 0 k j)
/-- An entry: 4096 columns of keys and values, 2048 of scaled queries, 2048 of gates under their activation. -/
def entry (x : Vec Ideal S2x4096x2048 .f32) (w : Vec Ideal S2048x4096 .f32) (w' : Vec Ideal S1x2048x4096 .f32) (i : Fin 2) (s : Fin 4096)
    (j : Fin 8192) : EReal :=
  if h : j.val < 4096 then entryKv x w i s ⟨j.val, h⟩
  else if j.val < 6144 then entryQg x w' i s ⟨j.val - 4096, by omega⟩ * qScale
  else silu (entryQg x w' i s ⟨j.val - 4096, by omega⟩)

/-- The projections. -/
def result : Vec Ideal S8192x8192 .bf16 := fun i =>
  entry (rows m c) (kv m c) (qg m c) ⟨(i 0).val / 4096, by have : (i 0).val < 8192 := (i 0).isLt; omega⟩
    ⟨(i 0).val % 4096, Nat.mod_lt _ (by norm_num)⟩ (i 1)
/-- The later weights. -/
def resultLater : Vec Ideal S2048x2048 .bf16 := fun i => later m c (ix3 0 (i 0) (i 1))

/-- Over the extended reals a rounded block is the block. -/
theorem rounded_kv (v : Vec Ideal S2048x1024 .f32) (k : Fin 2048) (j : Fin 1024) : k0_pay2 (F := Ideal) v (ix2 k j) = v (ix2 k j) := by
  pointwise [k0_pay2]
theorem rounded_qg (v : Vec Ideal S2048x1024 .f32) (k : Fin 2048) (j : Fin 1024) : k0_pay3 (F := Ideal) v (ix2 k j) = v (ix2 k j) := by
  pointwise [k0_pay3]
theorem rounded_later (v : Vec Ideal S64x2048 .f32) (r : Fin 64) (j : Fin 2048) : k0_pay1 (F := Ideal) v (ix2 r j) = v (ix2 r j) := by
  pointwise [k0_pay1]

/-- The sums a point's block is made of. -/
theorem dot_kv (t : Fin cfg0.N) (h : t.val < 32) (r j : Fin 1024) (hj : (colOf t j).val < 4096) :
    dot (iblk m c 0 t) (wAt m c t) r j = entryKv (rows m c) (kv m c) (batchOf t) (posOf t r) ⟨(colOf t j).val, hj⟩ := by
  unfold wAt
  rw [if_pos h]
  exact Finset.sum_congr rfl fun k _ => congrArg₂ (· * ·) (block_rows m c t r k) ((rounded_kv (iblk m c 1 t) k j).trans (block_kv m c t h k j hj))
theorem dot_qg (t : Fin cfg0.N) (h : ¬ t.val < 32) (r j : Fin 1024) (hj : (colOf t j).val - 4096 < 4096) :
    dot (iblk m c 0 t) (wAt m c t) r j = entryQg (rows m c) (qg m c) (batchOf t) (posOf t r) ⟨(colOf t j).val - 4096, hj⟩ := by
  unfold wAt
  rw [if_neg h]
  exact Finset.sum_congr rfl fun k _ => congrArg₂ (· * ·) (block_rows m c t r k) ((rounded_qg (iblk m c 2 t) k j).trans (block_qg m c t h k j hj))

/-- What a point leaves in the projections' buffer. -/
theorem actAt_apply (t : Fin cfg0.N) (r j : Fin 1024) :
    actAt m c t (ix2 r j) = entry (rows m c) (kv m c) (qg m c) (batchOf t) (posOf t r) (colOf t j) := by
  have hj := j.isLt
  have hc : (colOf t j).val = 1024 * (t.val / 8) + j.val := rfl
  unfold actAt blockOf entry
  by_cases h : t.val < 32
  · rw [if_pos ((cond_plain t).mpr h), dif_pos (show (colOf t j).val < 4096 by omega)]
    exact (plain_block _ _ _).trans (dot_kv m c t h r j (by omega))
  · rw [if_neg (fun e => h ((cond_plain t).mp e)), dif_neg (show ¬ (colOf t j).val < 4096 by omega)]
    by_cases h' : t.val < 48
    · rw [if_pos ((cond_scaled t).mpr ⟨h, h'⟩), if_pos (show (colOf t j).val < 6144 by omega)]
      exact (scaled_block _ _ _).trans (congrArg (· * qScale) (dot_qg m c t h r j _))
    · rw [if_neg (fun e => h' ((cond_scaled t).mp e).2), if_neg (show ¬ (colOf t j).val < 6144 by omega)]
      exact (gate_block _ _ _).trans (congrArg silu (dot_qg m c t h r j _))

/-- The projections' array after the last point. -/
theorem array_act : (dats m 0 c).arrAt 4 cfg0.N = result m c := by
  refine (dats m 0 c).arrAt_eq_of_covers 4 _ (by decide +kernel) fun t hf y => ?_
  let r : Fin 1024 := y 0
  let j : Fin 1024 := y 1
  have hy : y = ix2 r j := by
    refine funext fun d => Fin.ext ?_
    fin_cases d <;> rfl
  rw [after_4]
  refine (congrArg (actAt m c t) hy).trans ((actAt_apply m c t r j).trans ?_)
  have e0 : (((cfg0.win 4).blk t).view.emb y 0 : ℕ) = t.val % 8 * 1024 + r.val := by
    blk_simp [index4]; rfl
  have e1 : (((cfg0.win 4).blk t).view.emb y 1 : ℕ) = t.val / 8 * 1024 + j.val := by
    blk_simp [index4]; rfl
  have ht := points t
  have hr := r.isLt
  have hb : batchOf t = ⟨(((cfg0.win 4).blk t).view.emb y 0 : ℕ) / 4096, by rw [e0]; omega⟩ :=
    Fin.ext (by show t.val % 8 / 4 = _ / 4096; rw [e0]; omega)
  have hs : posOf t r = ⟨(((cfg0.win 4).blk t).view.emb y 0 : ℕ) % 4096, Nat.mod_lt _ (by norm_num)⟩ :=
    Fin.ext (by show 1024 * (t.val % 4) + r.val = _ % 4096; rw [e0]; omega)
  have hj : colOf t j = ((cfg0.win 4).blk t).view.emb y 1 :=
    Fin.ext (by show 1024 * (t.val / 8) + j.val = _; rw [e1]; omega)
  rw [hb, hs, hj]
  rfl

/-- The later weights' array after the last point. -/
theorem array_later : (dats m 0 c).arrAt 5 cfg0.N = resultLater m c := by
  refine (dats m 0 c).arrAt_eq_of_covers 5 _ (by decide +kernel) fun t hf y => ?_
  let r : Fin 64 := y 0
  let j : Fin 2048 := y 1
  have hy : y = ix2 r j := by
    refine funext fun d => Fin.ext ?_
    fin_cases d <;> rfl
  rw [after_5]
  refine (congrArg (nextAt m c t) hy).trans (((rounded_later (iblk m c 3 t) r j).trans (block_later m c t r j)).trans ?_)
  have e0 : (((cfg0.win 5).blk t).view.emb y 0 : ℕ) = min t.val 31 * 64 + r.val := by
    blk_simp [index5]; rfl
  have e1 : (((cfg0.win 5).blk t).view.emb y 1 : ℕ) = j.val := by
    blk_simp [index5]; rfl
  have hr : laterOf t r = ((cfg0.win 5).blk t).view.emb y 0 :=
    Fin.ext (by show 64 * min t.val 31 + r.val = _; rw [e0]; omega)
  have hj : j = ((cfg0.win 5).blk t).view.emb y 1 := Fin.ext e1.symm
  rw [hr, hj]
  rfl
end Cert.KernelProjIdeal.Own
-- ==== Proof.Val.ProjRef.lean ====
/- THE REFERENCE OF THE PROJECTION TO KEYS, VALUES, QUERIES AND GATES AT AN INDEX: the same entries, finished alike. -/
module
public import proofs.«01_k».proof.Proof.Gen.ReferenceProjIdeal.Read
public import proofs.«01_k».proof.Proof.Val.ProjBlocks
public import proofs.«01_k».proof.Proof.Val.Host
@[expose] public section
set_option maxRecDepth 16384
noncomputable section
namespace Cert.ReferenceProjIdeal.Read
open Idealize.ShloMosaic Idealize.ShloMosaic.TcCoe Idealize.ShloMosaic.Tactic
open Cert.Act Cert.ReferenceProjIdeal Cert.ReferenceProjIdeal.Gen
open Cert.KernelProjIdeal.Own (entry entryKv entryQg qScale)

variable (x : (⟨S2x4096x2048, .f32⟩ : BufTy).Contents (Elt Ideal)) (w : (⟨S2048x4096, .f32⟩ : BufTy).Contents (Elt Ideal))
  (w' : (⟨S1x2048x4096, .f32⟩ : BufTy).Contents (Elt Ideal))

theorem kv_apply (i : Fin 2) (s j : Fin 4096) : val_main_v0 x w (ix3 i s j) = entryKv x w i s j := by
  rw [val_main_v0_apply]
  refine Finset.sum_congr rfl fun k _ => ?_
  have e1 : lidx_main_v0 (ix3 i s j) k = ix3 i s k := by
    funext d; match d with | ⟨0, _⟩ => rfl | ⟨1, _⟩ => rfl | ⟨2, _⟩ => rfl
  have e2 : ridx_main_v0 (ix3 i s j) k = ix2 k j := by
    funext d; match d with | ⟨0, _⟩ => rfl | ⟨1, _⟩ => rfl
  rw [e1, e2]

theorem qg_apply (i : Fin 2) (s j : Fin 4096) : val_main_v2 x w' (ix3 i s j) = entryQg x w' i s j := by
  rw [val_main_v2_apply]
  refine Finset.sum_congr rfl fun k _ => ?_
  rw [val_main_v1_apply]
  have e1 : lidx_main_v2 (ix3 i s j) k = ix3 i s k := by
    funext d; match d with | ⟨0, _⟩ => rfl | ⟨1, _⟩ => rfl | ⟨2, _⟩ => rfl
  have e2 : idx_main_v1 (ridx_main_v2 (ix3 i s j) k) = ix3 0 k j := by
    have := k.isLt
    have := j.isLt
    refine funext fun d => Fin.ext ?_
    match d with
    | ⟨0, _⟩ => rfl
    | ⟨1, _⟩ => show (k.val * 4096 + j.val) / 4096 % 2048 = k.val; omega
    | ⟨2, _⟩ => show (k.val * 4096 + j.val) % 4096 = j.val; omega
  rw [e1, e2]

/-- The scaling, written as a product and a quotient, is the one named constant. -/
theorem scaled_eq (h : EReal) :
    Ideal.div (h * Ideal.ofBits .f32 0x3DB504F3#32) (Ideal.log (Ideal.ofBits .f32 0x40000000#32)) = h * qScale := by
  rw [Cert.KernelIdeal.Stick.scale_bits, Cert.KernelIdeal.Stick.log_two, Ideal.div_coe Cert.Stick.log2_pos.ne', mul_assoc, ← EReal.coe_mul, one_div]
  rfl

/-- The queries, -/
theorem query_apply (i : Fin 2) (s : Fin 4096) (p : Fin 2048) :
    val_main_v10 x w' (ix3 i s p) = entryQg x w' i s ⟨p.val, by omega⟩ * qScale := by
  rw [val_main_v10_apply, val_main_v6_apply, val_main_v3_apply, val_main_v5_apply, val_main_cst_apply, val_main_v9_apply, val_main_v8_apply,
    val_main_v7_apply, val_main_cst_0_apply]
  have e : idx_main_v3 (ix3 i s p) = ix3 i s ⟨p.val, by omega⟩ := by
    funext d; match d with | ⟨0, _⟩ => rfl | ⟨1, _⟩ => rfl | ⟨2, _⟩ => rfl
  rw [e, qg_apply]
  exact scaled_eq _

/-- and the gates. -/
theorem gate_apply (i : Fin 2) (s : Fin 4096) (p : Fin 2048) :
    val_main_v11 x w' (ix3 i s p) = silu (entryQg x w' i s ⟨2048 + p.val, by omega⟩) := by
  rw [val_main_v11_apply, val_main_call0_v5_apply, val_main_call0_v4_apply, val_main_call0_cst_0_apply, val_main_call0_v3_apply,
    val_main_call0_v2_apply, val_main_call0_cst_apply, val_main_call0_v1_apply, val_main_call0_v0_apply, val_main_v4_apply]
  have e : idx_main_v4 (ix3 i s p) = ix3 i s ⟨2048 + p.val, by omega⟩ := by
    funext d; match d with | ⟨0, _⟩ => rfl | ⟨1, _⟩ => rfl | ⟨2, _⟩ => rfl
  rw [e, qg_apply]
  rfl

/-! ### The three column ranges -/

theorem joined_kv (i : Fin 2) (s : Fin 4096) (j : Fin 8192) (h : j.val < 4096) :
    val_main_v12 x w w' (ix3 i s j) = val_main_v0 x w (ix3 i s ⟨j.val, h⟩) := by
  unfold val_main_v12
  refine concatenate_apply_piece (t := S2x4096x8192) 2 _ _ (ix3 i s j) 0 (by show 0 < 3; omega) S2x4096x4096 (val_main_v0 x w) rfl rfl 0 rfl
    (ix3 i s ⟨j.val, h⟩) (fun d hd => ?_) (Nat.zero_add _)
  match d with
  | ⟨0, _⟩ => rfl
  | ⟨1, _⟩ => rfl
  | ⟨2, _⟩ => exact absurd rfl hd

theorem joined_query (i : Fin 2) (s : Fin 4096) (j : Fin 8192) (p : Fin 2048) (h : 4096 + p.val = j.val) :
    val_main_v12 x w w' (ix3 i s j) = val_main_v10 x w' (ix3 i s p) := by
  unfold val_main_v12
  refine concatenate_apply_piece (t := S2x4096x8192) 2 _ _ (ix3 i s j) 1 (by show 1 < 3; omega) S2x4096x2048 (val_main_v10 x w') rfl rfl 4096 rfl
    (ix3 i s p) (fun d hd => ?_) h
  match d with
  | ⟨0, _⟩ => rfl
  | ⟨1, _⟩ => rfl
  | ⟨2, _⟩ => exact absurd rfl hd

theorem joined_gate (i : Fin 2) (s : Fin 4096) (j : Fin 8192) (p : Fin 2048) (h : 6144 + p.val = j.val) :
    val_main_v12 x w w' (ix3 i s j) = val_main_v11 x w' (ix3 i s p) := by
  unfold val_main_v12
  refine concatenate_apply_piece (t := S2x4096x8192) 2 _ _ (ix3 i s j) 2 (by show 2 < 3; omega) S2x4096x2048 (val_main_v11 x w') rfl rfl 6144 rfl
    (ix3 i s p) (fun d hd => ?_) h
  match d with
  | ⟨0, _⟩ => rfl
  | ⟨1, _⟩ => rfl
  | ⟨2, _⟩ => exact absurd rfl hd

theorem entry_apply (i : Fin 2) (s : Fin 4096) (j : Fin 8192) : val_main_v12 x w w' (ix3 i s j) = entry x w w' i s j := by
  have hj := j.isLt
  unfold entry
  by_cases h1 : j.val < 4096
  · rw [dif_pos h1, joined_kv x w w' i s j h1, kv_apply]
  · rw [dif_neg h1]
    by_cases h2 : j.val < 6144
    · rw [if_pos h2, joined_query x w w' i s j ⟨j.val - 4096, by omega⟩ (by show 4096 + (j.val - 4096) = j.val; omega), query_apply]
    · rw [if_neg h2, joined_gate x w w' i s j ⟨j.val - 6144, by omega⟩ (by show 6144 + (j.val - 6144) = j.val; omega), gate_apply]
      refine congrArg (fun q => silu (entryQg x w' i s q)) (Fin.ext ?_)
      show 2048 + (j.val - 6144) = j.val - 4096
      omega

/-! ### The results are the arrays the kernel's points leave -/

variable (m : (ℓ : Loc Cert.KernelProjIdeal.nD Cert.KernelProjIdeal.τ Cert.KernelProjIdeal.sig) → Buf (Elt Ideal) ℓ)
  (c : Dev Cert.KernelProjIdeal.nD)

theorem result_eq :
    val_main_v14 (Cert.KernelProjIdeal.Own.rows m c) (Cert.KernelProjIdeal.Own.kv m c) (Cert.KernelProjIdeal.Own.qg m c)
      = Cert.KernelProjIdeal.Own.result m c := by
  funext i
  have h0 : (i 0).val < 8192 := (i 0).isLt
  have h1 : (i 1).val < 8192 := (i 1).isLt
  have e : idx_main_v13 i = ix3 ⟨(i 0).val / 4096, by omega⟩ ⟨(i 0).val % 4096, by omega⟩ ⟨(i 1).val, h1⟩ := by
    refine funext fun d => Fin.ext ?_
    match d with
    | ⟨0, _⟩ => show ((i 0).val * 8192 + (i 1).val) / 33554432 = (i 0).val / 4096; omega
    | ⟨1, _⟩ => show ((i 0).val * 8192 + (i 1).val) / 8192 % 4096 = (i 0).val % 4096; omega
    | ⟨2, _⟩ => show ((i 0).val * 8192 + (i 1).val) % 8192 = (i 1).val; omega
  rw [val_main_v14_apply, val_main_v13_apply, e, entry_apply]
  rfl

theorem later_eq : val_main_v16 (Cert.KernelProjIdeal.Own.later m c) = Cert.KernelProjIdeal.Own.resultLater m c := by
  funext i
  have h0 : (i 0).val < 2048 := (i 0).isLt
  have h1 : (i 1).val < 2048 := (i 1).isLt
  rw [val_main_v16_apply, val_main_v15_apply]
  have e : idx_main_v15 i = ix3 0 (i 0) (i 1) := by
    refine funext fun d => Fin.ext ?_
    match d with
    | ⟨0, _⟩ => rfl
    | ⟨1, _⟩ => show ((i 0).val * 2048 + (i 1).val) / 2048 % 2048 = (i 0).val; omega
    | ⟨2, _⟩ => show ((i 0).val * 2048 + (i 1).val) % 2048 = (i 1).val; omega
  rw [e]
  rfl
end Cert.ReferenceProjIdeal.Read
-- ==== Proof.Val.Ref.lean ====
/- THE REFERENCE AT AN INDEX: row by row the same output as the kernel's. -/
module
public import proofs.«01_k».proof.Proof.Gen.ReferenceIdeal.Read
public import proofs.«01_k».proof.Proof.Val.Rows
@[expose] public section
set_option maxRecDepth 16384
noncomputable section
namespace Cert.ReferenceIdeal.Stick
open Idealize.ShloMosaic Idealize.ShloMosaic.TcCoe
open Cert.Stick Cert.ReferenceIdeal Cert.ReferenceIdeal.Gen Cert.ReferenceIdeal.Read

/-- Adding up a list in a fold from the left is adding its sum. -/
theorem foldl_sum {ι : Type} (f : ι → EReal) : ∀ (l : List ι) (a : EReal), l.foldl (fun r n => r + f n) a = a + (l.map f).sum
  | [], a => by simp
  | i :: l, a => by rw [List.foldl_cons, foldl_sum f l, List.map_cons, List.sum_cons, add_assoc]

section
variable {A B C N : ℕ}

/-- A window along the last axis has as many positions as the axis has entries. -/
theorem window_numel : (⟨4, ![1, 1, 1, N]⟩ : Shape).numel = N := by
  simp [Shape.numel, Fin.prod_univ_succ]

/-- Position `n` of a window along the last axis. -/
theorem window_pos (n : Fin (⟨4, ![1, 1, 1, N]⟩ : Shape).numel) :
    ((⟨4, ![1, 1, 1, N]⟩ : Shape).rowMajor.symm n 0).val = 0 ∧ ((⟨4, ![1, 1, 1, N]⟩ : Shape).rowMajor.symm n 1).val = 0
      ∧ ((⟨4, ![1, 1, 1, N]⟩ : Shape).rowMajor.symm n 2).val = 0
      ∧ ((⟨4, ![1, 1, 1, N]⟩ : Shape).rowMajor.symm n 3).val = n.val := by
  have h := Shape.rowMajor_val_four ((⟨4, ![1, 1, 1, N]⟩ : Shape).rowMajor.symm n)
  rw [Equiv.apply_symm_apply] at h
  generalize (⟨4, ![1, 1, 1, N]⟩ : Shape).rowMajor.symm n = p at h ⊢
  have h0 : (p 0).val < 1 := (p 0).isLt
  have h1 : (p 1).val < 1 := (p 1).isLt
  have h2 : (p 2).val < 1 := (p 2).isLt
  change n.val = (((p 0).val * 1 + (p 1).val) * 1 + (p 2).val) * N + (p 3).val at h
  rw [show (p 0).val = 0 by omega, show (p 1).val = 0 by omega, show (p 2).val = 0 by omega] at h
  refine ⟨by omega, by omega, by omega, ?_⟩
  rw [h]; simp

/-- A running sum from the end of the last axis: the entry at `s` is the sum of the entries from `s` on. -/
theorem reduceWindow_rev {M : ℕ} (x : (⟨4, ![A, B, C, N]⟩ : Shape).Idx → EReal) (b : Fin A) (g : Fin B) (t : Fin C) (s : Fin N)
    (f : ℕ → EReal) (hf : ∀ j : Fin N, x (ValueIdx.ix4 b g t j) = f j.val) (init : (⟨0, ![]⟩ : Shape).Idx → EReal) (hi : ∀ i, init i = 0)
    (h : (⟨4, ![A, B, C, N]⟩ : Shape).ReduceWindows (![1, 1, 1, N] : Fin 4 → ℕ) ![1, 1, 1, 1] ![0, 0, 0, 0] ![0, 0, 0, M]
      ⟨4, ![A, B, C, N]⟩) (hu : 0 < (⟨0, ![]⟩ : Shape).numel) :
    Host.reduceWindow (· + ·) ![1, 1, 1, N] ![1, 1, 1, 1] ![0, 0, 0, 0] ![0, 0, 0, M] x init h hu (ValueIdx.ix4 b g t s)
      = ∑ j ∈ Finset.Ico s.val N, f j := by
  have hb := b.isLt
  have hg := g.isLt
  have ht := t.isLt
  have hs := s.isLt
  unfold Host.reduceWindow
  rw [hi]
  dsimp only
  refine (foldl_sum _ _ 0).trans ?_
  rw [zero_add, ← List.ofFn_eq_map, List.sum_ofFn]
  trans ∑ n : Fin (⟨4, ![1, 1, 1, N]⟩ : Shape).numel, if s.val + n.val < N then f (s.val + n.val) else 0
  · refine Finset.sum_congr rfl fun n _ => ?_
    obtain ⟨h0, h1, h2, h3⟩ := window_pos n
    by_cases hl : s.val + n.val < N
    · rw [if_pos hl, dif_pos]
      · rw [← hf ⟨s.val + n.val, hl⟩]
        refine congrArg x (funext fun a => Fin.ext ?_)
        fin_cases a
        · show b.val * 1 + ((⟨4, ![1, 1, 1, N]⟩ : Shape).rowMajor.symm n 0).val - 0 = b.val
          omega
        · show g.val * 1 + ((⟨4, ![1, 1, 1, N]⟩ : Shape).rowMajor.symm n 1).val - 0 = g.val
          omega
        · show t.val * 1 + ((⟨4, ![1, 1, 1, N]⟩ : Shape).rowMajor.symm n 2).val - 0 = t.val
          omega
        · show s.val * 1 + ((⟨4, ![1, 1, 1, N]⟩ : Shape).rowMajor.symm n 3).val - 0 = s.val + n.val
          omega
      · intro a
        fin_cases a
        · show 0 ≤ b.val * 1 + ((⟨4, ![1, 1, 1, N]⟩ : Shape).rowMajor.symm n 0).val
            ∧ b.val * 1 + ((⟨4, ![1, 1, 1, N]⟩ : Shape).rowMajor.symm n 0).val - 0 < A
          omega
        · show 0 ≤ g.val * 1 + ((⟨4, ![1, 1, 1, N]⟩ : Shape).rowMajor.symm n 1).val
            ∧ g.val * 1 + ((⟨4, ![1, 1, 1, N]⟩ : Shape).rowMajor.symm n 1).val - 0 < B
          omega
        · show 0 ≤ t.val * 1 + ((⟨4, ![1, 1, 1, N]⟩ : Shape).rowMajor.symm n 2).val
            ∧ t.val * 1 + ((⟨4, ![1, 1, 1, N]⟩ : Shape).rowMajor.symm n 2).val - 0 < C
          omega
        · show 0 ≤ s.val * 1 + ((⟨4, ![1, 1, 1, N]⟩ : Shape).rowMajor.symm n 3).val
            ∧ s.val * 1 + ((⟨4, ![1, 1, 1, N]⟩ : Shape).rowMajor.symm n 3).val - 0 < N
          omega
    · rw [if_neg hl, dif_neg]
      intro hin
      have : s.val * 1 + ((⟨4, ![1, 1, 1, N]⟩ : Shape).rowMajor.symm n 3).val - 0 < N := (hin 3).2
      omega
  · rw [Fin.sum_univ_eq_sum_range (fun n => if s.val + n < N then f (s.val + n) else 0), window_numel, Finset.sum_Ico_eq_sum_range,
      ← Finset.sum_filter]
    refine Finset.sum_congr (Finset.ext fun n => ?_) fun _ _ => rfl
    simp only [Finset.mem_filter, Finset.mem_range]
    omega
/-- The running sum as the reference takes it. -/
theorem reduceWindowAdd_rev {M : ℕ} (x : (⟨4, ![A, B, C, N]⟩ : Shape).Idx → EReal) (b : Fin A) (g : Fin B) (t : Fin C) (s : Fin N)
    (f : ℕ → EReal) (hf : ∀ j : Fin N, x (ValueIdx.ix4 b g t j) = f j.val) (init : (⟨0, ![]⟩ : Shape).Idx → EReal) (hi : ∀ i, init i = 0)
    (h : (⟨4, ![A, B, C, N]⟩ : Shape).ReduceWindows (![1, 1, 1, N] : Fin 4 → ℕ) ![1, 1, 1, 1] ![0, 0, 0, 0] ![0, 0, 0, M]
      ⟨4, ![A, B, C, N]⟩) (hu : 0 < (⟨0, ![]⟩ : Shape).numel) :
    Host.reduceWindowAdd (F := Ideal) (φ := .f32) ![1, 1, 1, N] ![1, 1, 1, 1] ![0, 0, 0, 0] ![0, 0, 0, M] x init h hu
      (ValueIdx.ix4 b g t s) = ∑ j ∈ Finset.Ico s.val N, f j :=
  reduceWindow_rev x b g t s f hf (fun _ => init (Shape.Idx.first hu)) (fun _ => hi _) h hu
end

end Cert.ReferenceIdeal.Stick
-- ==== Proof.Val.RefValue.lean ====
/- THE REFERENCE AT AN INDEX: its softplus, its running sum and its log-sigmoid come to the layer's formula. -/
module
public import proofs.«01_k».proof.Proof.Val.Ref
public import proofs.«01_k».proof.Proof.Val.Layer
public import Idealize.ShloMosaic.Lib.IdealHost
public import Idealize.ShloMosaic.Lib.WordCmp
@[expose] public section
set_option maxRecDepth 16384
noncomputable section
namespace Cert.ReferenceIdeal.Stick
open Idealize.ShloMosaic Idealize.ShloMosaic.TcCoe Idealize.ShloMosaic.ValueIdx
open Cert.Stick Cert.ReferenceIdeal Cert.ReferenceIdeal.Gen Cert.ReferenceIdeal.Read

variable (kv h : Arg)

theorem key_apply (b : Fin 2) (g : Fin 16) (s : Fin 4096) (a : Fin 128) :
    val_main_v3 (F := Ideal) kv (ix4 b g s a) = kv (ix3 b s (lowCol g a)) := by
  rw [val_main_v3_apply, val_main_v2_apply, val_main_v0_apply]
  refine congrArg kv (funext fun d => Fin.ext ?_)
  fin_cases d
  · show (((b.val * 4096 + s.val) * 16 + g.val) * 128 + a.val) / 8388608 = b.val; omega
  · show (((b.val * 4096 + s.val) * 16 + g.val) * 128 + a.val) / 2048 % 4096 = s.val; omega
  · show (((b.val * 4096 + s.val) * 16 + g.val) * 128 + a.val) % 2048 = 128 * g.val + a.val; omega

theorem query_apply (b : Fin 2) (g : Fin 16) (s : Fin 4096) (a : Fin 128) :
    val_main_v9 (F := Ideal) h (ix4 b g s a) = h (ix3 b s (lowCol g a)) := by
  rw [val_main_v9_apply, val_main_v8_apply, val_main_v6_apply]
  refine congrArg h (funext fun d => Fin.ext ?_)
  fin_cases d
  · show (((b.val * 4096 + s.val) * 16 + g.val) * 128 + a.val) / 8388608 = b.val; omega
  · show (((b.val * 4096 + s.val) * 16 + g.val) * 128 + a.val) / 2048 % 4096 = s.val; omega
  · show (((b.val * 4096 + s.val) * 16 + g.val) * 128 + a.val) % 2048 = 128 * g.val + a.val; omega

theorem value_apply (b : Fin 2) (g : Fin 16) (s : Fin 4096) (a : Fin 128) :
    val_main_v5 (F := Ideal) kv (ix4 b g s a) = kv (ix3 b s (highCol g a)) := by
  rw [val_main_v5_apply, val_main_v4_apply, val_main_v1_apply]
  refine congrArg kv (funext fun d => Fin.ext ?_)
  fin_cases d
  · show (((b.val * 4096 + s.val) * 16 + g.val) * 128 + a.val) / 8388608 = b.val; omega
  · show (((b.val * 4096 + s.val) * 16 + g.val) * 128 + a.val) / 2048 % 4096 = s.val; omega
  · show 2048 + (((b.val * 4096 + s.val) * 16 + g.val) * 128 + a.val) % 2048 = 2048 + 128 * g.val + a.val; omega

theorem scale_bits : Ideal.ofBits .f32 0x3DB504F3#32 = (scale : EReal) := by
  simp [Ideal.ofBits, Ideal.ieee, -EReal.coe_mul, scale]; norm_num

theorem zero_bits : (FloatOps.ofBits .f32 0x00000000#32 : Ideal .f32) = (0 : EReal) := Ideal.ofBits_zero_f32

/-- The scaled scores. -/
theorem score_apply (b : Fin 2) (g : Fin 16) (t s : Fin 4096) :
    val_main_v12 (F := Ideal) kv h (ix4 b g t s) = rawScore kv h b g t s.val * (scale : EReal) := by
  rw [val_main_v12_apply, val_main_v10_apply, val_main_v11_apply, val_main_cst_apply]
  show _ * Ideal.ofBits .f32 0x3DB504F3#32 = _
  rw [scale_bits]
  congr 1
  unfold rawScore
  rw [dif_pos s.isLt]
  refine Finset.sum_congr rfl fun a _ => ?_
  rw [← query_apply h, ← key_apply kv]
  congr 2
  · funext d; match d with | ⟨0, _⟩ => rfl | ⟨1, _⟩ => rfl | ⟨2, _⟩ => rfl | ⟨3, _⟩ => rfl
  · funext d; match d with | ⟨0, _⟩ => rfl | ⟨1, _⟩ => rfl | ⟨2, _⟩ => rfl | ⟨3, _⟩ => rfl

/-- The mask: the keys before the query. -/
theorem past_apply (j : S4096x4096.Idx) :
    val_main_v19 (F := Ideal) j = if (j 1).val < (j 0).val then 1#1 else 0#1 := by
  rw [val_main_v19_apply, val_main_v17_apply, val_main_v18_apply, val_main_v14_apply, val_main_v16_apply,
    val_main_v13_apply, val_main_v15_apply]
  have h0 : (j 0).val < 4096 := (j 0).isLt
  have h1 : (j 1).val < 4096 := (j 1).isLt
  show IntOp.cmpi .slt (BitVec.ofNat 32 (j 1).val) (BitVec.ofNat 32 (j 0).val) = _
  rw [WordCmp.cmpi_slt_ofNat (w := 32) (by norm_num; omega) (by norm_num; omega)]
  by_cases hl : (j 1).val < (j 0).val
  · rw [if_pos hl, decide_eq_true hl]; rfl
  · rw [if_neg hl, decide_eq_false hl]; rfl

theorem une_self (x : Ideal .f32) : FloatOps.cmpf (F := Ideal) .une x x = 0#1 := by
  simp [Ideal.cmpf_def, Ideal.cmp]

/-- The first softplus, of the scores. -/
theorem soft_apply (i : S2x16x4096x4096.Idx) :
    val_main_v20 (F := Ideal) kv h i = softplus (val_main_v12 (F := Ideal) kv h i) := by
  rw [val_main_v20_apply, val_main_call0_v4_apply, une_self, val_main_call0_v11_apply, val_main_call0_v10_apply, val_main_call0_v9_apply,
    val_main_call0_v8_apply, val_main_call0_v7_apply, val_main_call0_v3_apply, val_main_call0_v2_apply, val_main_call0_v1_apply,
    val_main_call0_v0_apply, val_main_call0_cst_apply, zero_bits]
  rfl

/-- The second softplus, of the negated scores. -/
theorem soft_neg_apply (i : S2x16x4096x4096.Idx) :
    val_main_v25 (F := Ideal) kv h i = -softplus (-val_main_v12 (F := Ideal) kv h i) := by
  rw [val_main_v25_apply, val_main_call3_v1_apply, val_main_call3_call0_v4_apply, une_self, val_main_call3_call0_v11_apply, val_main_call3_call0_v10_apply, val_main_call3_call0_v9_apply,
    val_main_call3_call0_v8_apply, val_main_call3_call0_v7_apply, val_main_call3_call0_v3_apply, val_main_call3_call0_v2_apply, val_main_call3_call0_v1_apply,
    val_main_call3_call0_v0_apply, val_main_call3_call0_cst_apply, val_main_call3_v0_apply, zero_bits]
  rfl

variable {kv h}

/-- What a key takes off the logarithm of the stick, where it comes before the query. -/
def logKeep (x : ℕ → EReal) (t j : ℕ) : EReal := if j < t then ((-(Real.log 2 * cost (x j)) : ℝ) : EReal) else 0

theorem keep_apply (H : Bounded kv h) (b : Fin 2) (g : Fin 16) (t s : Fin 4096) :
    val_main_v22 (F := Ideal) kv h (ix4 b g t s) = logKeep (rawScore kv h b g t) t.val s.val := by
  rw [val_main_v22_apply, val_main_call1_v1_apply, past_apply, val_main_v21_apply, soft_apply, score_apply, val_main_call1_v2_apply,
    val_main_call1_v0_apply, val_main_cst_0_apply, zero_bits]
  show Scalar.select (if s.val < t.val then 1#1 else 0#1) _ _ = _
  unfold logKeep
  by_cases hl : s.val < t.val
  · rw [if_pos hl, if_pos hl, softplus_eq (H b g t s.val hl), EReal.coe_neg]; rfl
  · rw [if_neg hl, if_neg hl]; rfl

/-- The running sum, less its own term: what the keys after `s` take off. -/
theorem after_apply (H : Bounded kv h) (b : Fin 2) (g : Fin 16) (t s : Fin 4096) (hl : s.val < t.val) :
    val_main_v24 (F := Ideal) kv h (ix4 b g t s)
      = ((-(Real.log 2 * spent (rawScore kv h b g t) (s.val + 1) t.val) : ℝ) : EReal) := by
  have ht := t.isLt
  have e : val_main_v23 (F := Ideal) kv h (ix4 b g t s) = ∑ j ∈ Finset.Ico s.val 4096, logKeep (rawScore kv h b g t) t.val j := by
    unfold val_main_v23
    exact reduceWindowAdd_rev _ b g t s _ (fun j => keep_apply H b g t j) _
      (fun i => by rw [val_main_call2_v0_apply, val_main_call2_cst_apply, zero_bits]) _ _
  rw [val_main_v24_apply, e, keep_apply H]
  show _ - _ = _
  have e2 : ∑ j ∈ Finset.Ico s.val 4096, logKeep (rawScore kv h b g t) t.val j
      = ((-(Real.log 2 * spent (rawScore kv h b g t) s.val t.val) : ℝ) : EReal) := by
    unfold logKeep
    rw [← Finset.sum_filter]
    have : (Finset.Ico s.val 4096).filter (· < t.val) = Finset.Ico s.val t.val := by
      ext j; simp only [Finset.mem_filter, Finset.mem_Ico]; omega
    rw [this, ← coe_sum, Finset.sum_neg_distrib, ← Finset.mul_sum]
    rfl
  rw [e2]
  unfold logKeep
  rw [if_pos hl, ← EReal.coe_sub]
  refine congrArg (fun r : ℝ => (r : EReal)) ?_
  rw [← spent_add _ (Nat.le_succ s.val) hl]
  have : spent (rawScore kv h b g t) s.val (s.val + 1) = cost (rawScore kv h b g t s.val) := by
    unfold spent; rw [Nat.Ico_succ_singleton, Finset.sum_singleton]
  rw [Nat.succ_eq_add_one, this]
  ring

theorem weight_apply (H : Bounded kv h) (b : Fin 2) (g : Fin 16) (t s : Fin 4096) :
    val_main_v28 (F := Ideal) kv h (ix4 b g t s) = if s.val < t.val
      then weight (rawScore kv h b g t s.val) (spent (rawScore kv h b g t) s.val t.val) else 0 := by
  rw [val_main_v28_apply, val_main_call4_v1_apply, past_apply, val_main_call4_v2_apply, val_main_call4_v0_apply,
    val_main_cst_1_apply, zero_bits]
  show Scalar.select (if s.val < t.val then 1#1 else 0#1) _ _ = _
  by_cases hl : s.val < t.val
  · rw [if_pos hl, if_pos hl]
    show val_main_v27 (F := Ideal) kv h (ix4 b g t s) = _
    rw [val_main_v27_apply, val_main_v26_apply, soft_neg_apply, after_apply H b g t s hl, score_apply]
    refine (weight_eq (H b g t s.val hl) _).trans ?_
    rw [← spent_add _ (Nat.le_succ s.val) hl]
    congr 2
    unfold spent; rw [Nat.succ_eq_add_one, Nat.Ico_succ_singleton, Finset.sum_singleton]
  · rw [if_neg hl, if_neg hl]; rfl

/-- A key's weighted value, where it comes before the query. -/
def gathered (x v : ℕ → EReal) (t n : ℕ) : EReal := if n < t then weight (x n) (spent x n t) * v n else 0

/-- The reference's result. -/
theorem result_apply (H : Bounded kv h) (b : Fin 2) (g : Fin 16) (t : Fin 4096) (e : Fin 128) :
    val_main_v32 (F := Ideal) kv h (ix2 ⟨4096 * b.val + t.val, by omega⟩ ⟨128 * g.val + e.val, by omega⟩)
      = attended kv h b g t e := by
  have ht := t.isLt
  rw [val_main_v32_apply]
  show val_main_v31 (F := Ideal) kv h _ = _
  rw [val_main_v31_apply, val_main_v30_apply]
  have ei : idx_main_v30 (idx_main_v31 (ix2 ⟨4096 * b.val + t.val, by omega⟩ ⟨128 * g.val + e.val, by omega⟩)) = ix4 b g t e := by
    refine funext fun d => Fin.ext ?_
    fin_cases d
    · show ((4096 * b.val + t.val) * 2048 + (128 * g.val + e.val)) / 8388608 = b.val; omega
    · show ((4096 * b.val + t.val) * 2048 + (128 * g.val + e.val)) / 128 % 16 = g.val; omega
    · show ((4096 * b.val + t.val) * 2048 + (128 * g.val + e.val)) / 2048 % 4096 = t.val; omega
    · show ((4096 * b.val + t.val) * 2048 + (128 * g.val + e.val)) % 128 = e.val; omega
  rw [ei, val_main_v29_apply]
  have es : ∀ s : Fin 4096, val_main_v28 (F := Ideal) kv h (lidx_main_v29 (ix4 b g t e) s) * val_main_v5 (F := Ideal) kv (ridx_main_v29 (ix4 b g t e) s)
      = gathered (rawScore kv h b g t) (valueAt kv b g e) t.val s.val := by
    intro s
    have el : lidx_main_v29 (ix4 b g t e) s = ix4 b g t s := by
      funext d; match d with | ⟨0, _⟩ => rfl | ⟨1, _⟩ => rfl | ⟨2, _⟩ => rfl | ⟨3, _⟩ => rfl
    have er : ridx_main_v29 (ix4 b g t e) s = ix4 b g s e := by
      funext d; match d with | ⟨0, _⟩ => rfl | ⟨1, _⟩ => rfl | ⟨2, _⟩ => rfl | ⟨3, _⟩ => rfl
    rw [el, er, weight_apply H, value_apply]
    unfold gathered
    by_cases hl : s.val < t.val
    · rw [if_pos hl, if_pos hl]; unfold valueAt; rw [dif_pos s.isLt]
    · rw [if_neg hl, if_neg hl, zero_mul]
  rw [Finset.sum_congr rfl fun s _ => es s, Fin.sum_univ_eq_sum_range (gathered (rawScore kv h b g t) (valueAt kv b g e) t.val)]
  unfold attended outFrom gathered
  rw [← Finset.sum_filter]
  refine Finset.sum_congr ?_ fun _ _ => rfl
  ext n; simp only [Finset.mem_filter, Finset.mem_range, Finset.mem_Ico]; omega

/-- The reference's result, entry by entry. -/
theorem result_eq (H : Bounded kv h) : val_main_v32 (F := Ideal) kv h = fun j : S8192x2048.Idx =>
    attended kv h ⟨(j 0).val / 4096, by have : (j 0).val < 8192 := (j 0).isLt; omega⟩
      ⟨(j 1).val / 128, by have : (j 1).val < 2048 := (j 1).isLt; omega⟩ ⟨(j 0).val % 4096, Nat.mod_lt _ (by norm_num)⟩
      ⟨(j 1).val % 128, Nat.mod_lt _ (by norm_num)⟩ := by
  funext j
  rw [← result_apply H]
  refine congrArg (val_main_v32 (F := Ideal) kv h) (funext fun d => Fin.ext ?_)
  match d with
  | ⟨0, _⟩ => show (j 0).val = 4096 * ((j 0).val / 4096) + (j 0).val % 4096; omega
  | ⟨1, _⟩ => show (j 1).val = 128 * ((j 1).val / 128) + (j 1).val % 128; omega
end Cert.ReferenceIdeal.Stick
-- ==== Proof.lean ====
/- THE PROOF OF THE CLAIM: the frames of the five kernels, their idealizations and the references; the named constants; and
   the five values over the reals, read off the blocks each kernel writes and off its reference's operations. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.ReferenceProjIdeal
public import proofs.«01_k».proof.Proof.Gen.ReferenceProjIdeal.Run
public import proofs.«01_k».proof.Proof.Gen.ReferenceProjIdeal.Read
public import proofs.«01_k».proof.Proof.Val.Blocks
public import proofs.«01_k».proof.Proof.Val.InBits
public import proofs.«01_k».proof.Proof.Val.InRef
public import proofs.«01_k».proof.Proof.Val.MixRefValue
public import proofs.«01_k».proof.Proof.Val.OutRef
public import proofs.«01_k».proof.Proof.Val.Pre
public import proofs.«01_k».proof.Proof.Val.ProjBits
public import proofs.«01_k».proof.Proof.Val.ProjRef
public import proofs.«01_k».proof.Proof.Val.RefValue
public import Idealize.ShloMosaic.Adequacy
public import Idealize.ShloMosaic.Init

@[expose] public section

noncomputable section

namespace Cert.Proof

open Idealize.ShloMosaic Idealize.SL.Sem Cert.Kernel

/-- The reference runs from every memory, leaves its arguments and, having no semaphore, its counters. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- Where earlier keys score at most 500, the kernel and the reference leave the same result. -/
theorem algebraic : algebraic_KernelIdeal_ReferenceIdeal_pre_scores_bounded
    (hPre_scores_bounded := Cert.Pre_scores_bounded.facts) := by
  intro m ρ m' ρ' hpre hagree
  letI := Cert.Pre_scores_bounded.facts
  have hb : ∀ c, Cert.Stick.Bounded (Cert.KernelIdeal.Stick.argKv m c) (Cert.KernelIdeal.Stick.argH m c) :=
    fun c => Cert.Pre_scores_bounded.bounded _ _ (hpre c)
  refine ⟨Cert.KernelIdeal.Stick.result m, ?_, ?_⟩
  · exact (θ_run (Cert.KernelIdeal.defs (F := Ideal)) _ _).mono
      (fun r h c => ⟨(h c).1.trans (Cert.KernelIdeal.Stick.array_eq m c (hb c)), (h c).2⟩)
      (Cert.KernelIdeal.Value.run_blocks m ρ)
  · refine (θ_run (Cert.ReferenceIdeal.defs (F := Ideal)) _ _).mono
      (fun r h c => ⟨(h c).1.trans ?_, (h c).2⟩) (Cert.ReferenceIdeal.Value.run (F := Ideal) m' ρ')
    rw [Cert.ReferenceIdeal.Read.val_main_v32_eq, (hagree c).1, (hagree c).2]
    exact Cert.ReferenceIdeal.Stick.result_eq (hb c)

/-! ### The gMLP's second call -/

theorem frame_reference_mix : Cert.quiescent_ReferenceMixIdeal := fun m ρ _ =>
  (θ_run (Cert.ReferenceMixIdeal.defs (F := Ideal)) _ _).mono
    (fun r h => ⟨fun c => (h c).2.2, sem_eq_zero_of_no_sems (by decide) r.2⟩)
    (Cert.ReferenceMixIdeal.Value.run (F := Ideal) m ρ)

/-- The kernel and the reference leave the same result and the same copy of it. -/
theorem algebraic_mix : algebraic_KernelMixIdeal_ReferenceMixIdeal := by
  intro m ρ m' ρ' _ hagree
  refine ⟨Cert.KernelMixIdeal.Value.result m, Cert.KernelMixIdeal.Value.copy m, ?_, ?_⟩
  · exact (θ_run (Cert.KernelMixIdeal.defs (F := Ideal)) _ _).mono
      (fun r h c => ⟨(h c).1.trans (Cert.KernelMixIdeal.Value.array_eq m c),
        (h c).2.1.trans (Cert.KernelMixIdeal.Value.copy_eq m c), (h c).2.2⟩)
      (Cert.KernelMixIdeal.Value.run_blocks m ρ)
  · refine (θ_run (Cert.ReferenceMixIdeal.defs (F := Ideal)) _ _).mono
      (fun r h c => ⟨(h c).1.trans ?_, (h c).2.1.trans ?_, (h c).2.2⟩) (Cert.ReferenceMixIdeal.Value.run (F := Ideal) m' ρ')
    · obtain ⟨e0, e1, e2, e3, e4, e5, e6, e7, e8⟩ := hagree c
      rw [Cert.ReferenceMixIdeal.Read.val_main_v76_eq, e0, e1, e2, e3, e4, e5, e6, e7, e8]
      exact Cert.ReferenceMixIdeal.Read.result_eq m c
    · obtain ⟨e0, e1, e2, e3, e4, e5, e6, e7, e8⟩ := hagree c
      rw [Cert.ReferenceMixIdeal.Read.val_main_v77_eq, e0, e1, e2, e3, e4, e5, e6, e7, e8]
      exact Cert.ReferenceMixIdeal.Read.copy_eq m c

/-! ### The attention's output projection -/

theorem frame_reference_out : Cert.quiescent_ReferenceOutIdeal := fun m ρ _ =>
  (θ_run (Cert.ReferenceOutIdeal.defs (F := Ideal)) _ _).mono
    (fun r h => ⟨fun c => (h c).2, sem_eq_zero_of_no_sems (by decide) r.2⟩)
    (Cert.ReferenceOutIdeal.Value.run (F := Ideal) m ρ)

/-- The kernel and the reference leave the same result. -/
theorem algebraic_out : algebraic_KernelOutIdeal_ReferenceOutIdeal := by
  intro m ρ m' ρ' _ hagree
  refine ⟨Cert.KernelOutIdeal.Value.result m, ?_, ?_⟩
  · exact (θ_run (Cert.KernelOutIdeal.defs (F := Ideal)) _ _).mono
      (fun r h c => ⟨(h c).1.trans (Cert.KernelOutIdeal.Value.array_eq m c), (h c).2⟩)
      (Cert.KernelOutIdeal.Value.run_blocks m ρ)
  · refine (θ_run (Cert.ReferenceOutIdeal.defs (F := Ideal)) _ _).mono
      (fun r h c => ⟨(h c).1.trans ?_, (h c).2⟩) (Cert.ReferenceOutIdeal.Value.run (F := Ideal) m' ρ')
    obtain ⟨e0, e1, e2, e3, e4, e5⟩ := hagree c
    rw [Cert.ReferenceOutIdeal.Read.val_main_v33_eq, e0, e1, e2, e3, e4, e5]
    exact Cert.ReferenceOutIdeal.Read.result_eq m c

/-! ### The gMLP's first call -/

theorem frame_reference_in : Cert.quiescent_ReferenceInIdeal := fun m ρ _ =>
  (θ_run (Cert.ReferenceInIdeal.defs (F := Ideal)) _ _).mono
    (fun r h => ⟨fun c => (h c).2.2, sem_eq_zero_of_no_sems (by decide) r.2⟩)
    (Cert.ReferenceInIdeal.Value.run (F := Ideal) m ρ)

/-- The kernel and the reference leave the same activations and the same later weights. -/
theorem algebraic_in : algebraic_KernelInIdeal_ReferenceInIdeal := by
  intro m ρ m' ρ' _ hagree
  refine ⟨Cert.KernelInIdeal.Own.result m, Cert.KernelInIdeal.Own.resultLater m, ?_, ?_⟩
  · exact (θ_run (Cert.KernelInIdeal.defs (F := Ideal)) _ _).mono
      (fun r h c => ⟨(h.1 c).1.trans (Cert.KernelInIdeal.Own.array_act m c),
        (h.1 c).2.trans (Cert.KernelInIdeal.Own.array_later m c), h.2.1 c⟩)
      (θ_run_and (Cert.KernelInIdeal.Own.run_named m ρ) (Cert.KernelInIdeal.Own.frame m ρ))
  · refine (θ_run (Cert.ReferenceInIdeal.defs (F := Ideal)) _ _).mono
      (fun r h c => ⟨(h c).1.trans ?_, (h c).2.1.trans ?_, (h c).2.2⟩) (Cert.ReferenceInIdeal.Value.run (F := Ideal) m' ρ')
    · obtain ⟨e0, e1, e2, e3⟩ := hagree c
      rw [Cert.ReferenceInIdeal.Read.val_main_v38_eq, e0, e1, e2]
      exact Cert.ReferenceInIdeal.Read.result_eq m c
    · obtain ⟨e0, e1, e2, e3⟩ := hagree c
      rw [Cert.ReferenceInIdeal.Read.val_main_v40_eq, e3]
      exact Cert.ReferenceInIdeal.Read.later_eq m c

/-! ### The projections before the attention -/

theorem frame_reference_proj : Cert.quiescent_ReferenceProjIdeal := fun m ρ _ =>
  (θ_run (Cert.ReferenceProjIdeal.defs (F := Ideal)) _ _).mono
    (fun r h => ⟨fun c => (h c).2.2, sem_eq_zero_of_no_sems (by decide) r.2⟩)
    (Cert.ReferenceProjIdeal.Value.run (F := Ideal) m ρ)

/-- The kernel and the reference leave the same projections and the same later weights. -/
theorem algebraic_proj : algebraic_KernelProjIdeal_ReferenceProjIdeal := by
  intro m ρ m' ρ' _ hagree
  refine ⟨Cert.KernelProjIdeal.Own.result m, Cert.KernelProjIdeal.Own.resultLater m, ?_, ?_⟩
  · exact (θ_run (Cert.KernelProjIdeal.defs (F := Ideal)) _ _).mono
      (fun r h c => ⟨(h.1 c).1.trans (Cert.KernelProjIdeal.Own.array_act m c),
        (h.1 c).2.trans (Cert.KernelProjIdeal.Own.array_later m c), h.2.1 c⟩)
      (θ_run_and (Cert.KernelProjIdeal.Own.run_named m ρ) (Cert.KernelProjIdeal.Own.frame m ρ))
  · refine (θ_run (Cert.ReferenceProjIdeal.defs (F := Ideal)) _ _).mono
      (fun r h c => ⟨(h c).1.trans ?_, (h c).2.1.trans ?_, (h c).2.2⟩) (Cert.ReferenceProjIdeal.Value.run (F := Ideal) m' ρ')
    · obtain ⟨e0, e1, e2, e3⟩ := hagree c
      rw [Cert.ReferenceProjIdeal.Read.val_main_v14_eq, e0, e1, e2]
      exact Cert.ReferenceProjIdeal.Read.result_eq m c
    · obtain ⟨e0, e1, e2, e3⟩ := hagree c
      rw [Cert.ReferenceProjIdeal.Read.val_main_v16_eq, e3]
      exact Cert.ReferenceProjIdeal.Read.later_eq m c

theorem claim : Cert.Claim :=
  ⟨Cert.Kernel.Gen.facts, Cert.KernelIdeal.Gen.facts, Cert.ReferenceIdeal.Gen.facts,
    Cert.KernelMix.Gen.facts, Cert.KernelMixIdeal.Gen.facts, Cert.ReferenceMixIdeal.Gen.facts,
    Cert.KernelOut.Gen.facts, Cert.KernelOutIdeal.Gen.facts, Cert.ReferenceOutIdeal.Gen.facts,
    Cert.KernelIn.Gen.facts, Cert.KernelInIdeal.Gen.facts, Cert.ReferenceInIdeal.Gen.facts,
    Cert.KernelProj.Gen.facts, Cert.KernelProjIdeal.Gen.facts, Cert.ReferenceProjIdeal.Gen.facts, Cert.Pre_scores_bounded.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.KernelMix.Gen.frame m ρ,
    fun m ρ _ => Cert.KernelMixIdeal.Gen.frame m ρ,
    frame_reference_mix,
    fun m ρ _ => Cert.KernelOut.Gen.frame m ρ,
    fun m ρ _ => Cert.KernelOutIdeal.Gen.frame m ρ,
    frame_reference_out,
    fun m ρ _ => Cert.KernelIn.Own.frame m ρ,
    fun m ρ _ => Cert.KernelInIdeal.Own.frame m ρ,
    frame_reference_in,
    fun m ρ _ => Cert.KernelProj.Own.frame m ρ,
    fun m ρ _ => Cert.KernelProjIdeal.Own.frame m ρ,
    frame_reference_proj,
    IdealRules.named_const.statement Cert.KernelIdeal.κ "log2_e" .f32 0x3FB8AA3B#32 (((Real.log 2)⁻¹ : ℝ) : EReal) rfl,
    algebraic,
    trivial,
    algebraic_mix,
    trivial,
    algebraic_out,
    IdealRules.named_const.statement Cert.KernelInIdeal.κ "gelu_cubic" .f32 0x3D122279#32 ((80338380498831 / 2251799813685248 : ℝ) : EReal) rfl,
    algebraic_in,
    IdealRules.named_const.statement Cert.KernelProjIdeal.κ "q_scale" .f32 0x3E0293EE#32 (((11863283 / 134217728) * (Real.log 2)⁻¹ : ℝ) : EReal) rfl,
    algebraic_proj⟩

end Cert.Proof

end
